-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bg [hPre_finite_bg : Cert.Pre_finite_bg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bg [hPre_finite_bg : Cert.Pre_finite_bg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_bg [hKernelIdeal : Cert.KernelIdeal.Facts] [hPre_finite_bg : Cert.Pre_finite_bg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_bg [hReferenceIdeal : Cert.ReferenceIdeal.Facts] [hPre_finite_bg : Cert.Pre_finite_bg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_bg [hKernelIdeal : Cert.KernelIdeal.Facts] [hReferenceIdeal : Cert.ReferenceIdeal.Facts] [hPre_finite_bg : Cert.Pre_finite_bg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_bg : Cert.Pre_finite_bg.Facts),
    quiescent_Kernel (hKernel := hKernel)
    ∧ quiescent_KernelIdeal (hKernelIdeal := hKernelIdeal)
    ∧ quiescent_KernelIdeal_pre_finite_bg (hKernelIdeal := hKernelIdeal) (hPre_finite_bg := hPre_finite_bg)
    ∧ quiescent_ReferenceIdeal (hReferenceIdeal := hReferenceIdeal)
    ∧ quiescent_ReferenceIdeal_pre_finite_bg (hReferenceIdeal := hReferenceIdeal) (hPre_finite_bg := hPre_finite_bg)
    ∧ preserves_Kernel_KernelIdeal
    ∧ algebraic_KernelIdeal_ReferenceIdeal_pre_finite_bg (hKernelIdeal := hKernelIdeal) (hReferenceIdeal := hReferenceIdeal) (hPre_finite_bg := hPre_finite_bg)
-- ==== Pre_finite_bg.lean ====
abbrev S512x256 : Shape := ⟨2, ![512, 256]⟩
abbrev S8x256x64x64 : Shape := ⟨4, ![8, 256, 64, 64]⟩
abbrev S8x64x64 : Shape := ⟨3, ![8, 64, 64]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) (main_arg1 : FVec F S512x256 .f32) (main_arg2 : FVec F S8x256x64x64 .f32) (main_arg3 : FVec F S8x64x64 .f32) : IVec S_ 1 :=
  let main_v0 : FVec F S512x256 .f32 := Host.absf main_arg1
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S512x256 : Shape := ⟨2, ![512, 256]⟩
abbrev S8x256x64x64 : Shape := ⟨4, ![8, 256, 64, 64]⟩
abbrev S8x64x64 : Shape := ⟨3, ![8, 64, 64]⟩
abbrev S8x64x64x256 : Shape := ⟨4, ![8, 64, 64, 256]⟩
abbrev S32768x256 : Shape := ⟨2, ![32768, 256]⟩
abbrev S_ : Shape := ⟨0, ![]⟩
abbrev S32768x1 : Shape := ⟨2, ![32768, 1]⟩
abbrev S1024x256 : Shape := ⟨2, ![1024, 256]⟩
abbrev S32768x2 : Shape := ⟨2, ![32768, 2]⟩
abbrev S2048x256 : Shape := ⟨2, ![2048, 256]⟩
abbrev S2048x1 : Shape := ⟨2, ![2048, 1]⟩
abbrev S2048x2 : Shape := ⟨2, ![2048, 2]⟩
abbrev S2048 : Shape := ⟨1, ![2048]⟩
abbrev S2048x1024 : Shape := ⟨2, ![2048, 1024]⟩
abbrev S2048x512 : Shape := ⟨2, ![2048, 512]⟩
abbrev S32768 : Shape := ⟨1, ![32768]⟩
abbrev S1024 : Shape := ⟨1, ![1024]⟩
abbrev S1024x1 : Shape := ⟨2, ![1024, 1]⟩
abbrev S1x1 : Shape := ⟨2, ![1, 1]⟩
abbrev S1024x512 : Shape := ⟨2, ![1024, 512]⟩
abbrev S512x1 : Shape := ⟨2, ![512, 1]⟩
abbrev S512 : Shape := ⟨1, ![512]⟩
abbrev S1x1024 : Shape := ⟨2, ![1, 1024]⟩
abbrev S1 : Shape := ⟨1, ![1]⟩
abbrev S1x1024x1 : Shape := ⟨3, ![1, 1024, 1]⟩
abbrev S1x1x1 : Shape := ⟨3, ![1, 1, 1]⟩

abbrev nBuf : Space → Nat
  | .hbm => 48
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S8x256x64x64, .f32⟩
  | .hbm, ⟨3, _⟩ => ⟨S8x64x64, .f32⟩
  | .hbm, ⟨4, _⟩ => ⟨S8x64x64x256, .f32⟩
  | .hbm, ⟨5, _⟩ => ⟨S32768x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x64x64, .f32⟩
  | .hbm, ⟨10, _⟩ => ⟨S8x64x64, .f32⟩
  | .hbm, ⟨11, _⟩ => ⟨S_, .f32⟩
  | .hbm, ⟨12, _⟩ => ⟨S8x64x64, .f32⟩
  | .hbm, ⟨13, _⟩ => ⟨S8x64x64, .f32⟩
  | .hbm, ⟨14, _⟩ => ⟨S32768x1, .f32⟩
  | .hbm, ⟨15, _⟩ => ⟨S1024x256, .f32⟩
  | .hbm, ⟨16, _⟩ => ⟨S32768x256, .f32⟩
  | .hbm, ⟨17, _⟩ => ⟨S32768x2, .f32⟩
  | .hbm, ⟨18, _⟩ => ⟨S32768x1, .f32⟩
  | .hbm, ⟨19, _⟩ => ⟨S32768, .f32⟩
  | .hbm, ⟨20, _⟩ => ⟨S1024, .f32⟩
  | .hbm, ⟨21, _⟩ => ⟨S1024, .i32⟩
  | .hbm, ⟨22, _⟩ => ⟨S32768x1, .f32⟩
  | .hbm, ⟨23, _⟩ => ⟨S32768, .f32⟩
  | .hbm, ⟨24, _⟩ => ⟨S1024, .f32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x256, .f32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S1024x1, .i32⟩
  | .hbm, ⟨43, _⟩ => ⟨S1024x256, .f32⟩
  | .hbm, ⟨44, _⟩ => ⟨S1x1, .f32⟩
  | .hbm, ⟨45, _⟩ => ⟨S512x256, .f32⟩
  | .hbm, ⟨46, _⟩ => ⟨S512x256, .f32⟩
  | .hbm, ⟨47, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S2048x1, .f32⟩
  | .local _ .vmem, ⟨4, _⟩ => ⟨S2048x1, .f32⟩
  | .local _ .vmem, ⟨5, _⟩ => ⟨S2048x256, .f32⟩
  | .local _ .vmem, ⟨6, _⟩ => ⟨S2048x256, .f32⟩
  | .local _ .vmem, ⟨7, _⟩ => ⟨S2048x2, .f32⟩
  | .local _ .vmem, ⟨8, _⟩ => ⟨S2048x2, .f32⟩
  | .local _ .vmem, ⟨9, _⟩ => ⟨S512x256, .f32⟩
  | .local _ .vmem, ⟨10, _⟩ => ⟨S512x256, .f32⟩
  | .local _ .vmem, ⟨11, _⟩ => ⟨S1024x256, .f32⟩
  | .local _ .vmem, ⟨12, _⟩ => ⟨S1024x256, .f32⟩
  | .local _ .vmem, ⟨13, _⟩ => ⟨S1x1, .f32⟩
  | .local _ .vmem, ⟨14, _⟩ => ⟨S512x256, .f32⟩
  | .local _ .vmem, ⟨15, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_values : Ref sig .tc := ⟨.hbm, 20, rfl⟩
abbrev main_indices : Ref sig .tc := ⟨.hbm, 21, rfl⟩
abbrev main_v8 : Ref sig .tc := ⟨.hbm, 22, rfl⟩
abbrev main_v9 : Ref sig .tc := ⟨.hbm, 23, rfl⟩
abbrev main_values_1 : Ref sig .tc := ⟨.hbm, 24, rfl⟩
abbrev main_indices_2 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== ReferenceIdeal.lean ====
abbrev S512x256 : Shape := ⟨2, ![512, 256]⟩
abbrev S8x256x64x64 : Shape := ⟨4, ![8, 256, 64, 64]⟩
abbrev S8x64x64 : Shape := ⟨3, ![8, 64, 64]⟩
abbrev S8x1x64x64 : Shape := ⟨4, ![8, 1, 64, 64]⟩
abbrev S_ : Shape := ⟨0, ![]⟩
abbrev S8x64x64x256 : Shape := ⟨4, ![8, 64, 64, 256]⟩
abbrev S32768x256 : Shape := ⟨2, ![32768, 256]⟩
abbrev S32768 : Shape := ⟨1, ![32768]⟩
abbrev S32768x1 : Shape := ⟨2, ![32768, 1]⟩
abbrev S256x512 : Shape := ⟨2, ![256, 512]⟩
abbrev S32768x512 : Shape := ⟨2, ![32768, 512]⟩
abbrev S1024 : Shape := ⟨1, ![1024]⟩
abbrev S1024x1 : Shape := ⟨2, ![1024, 1]⟩
abbrev S1024x256 : Shape := ⟨2, ![1024, 256]⟩
abbrev S1024x512 : Shape := ⟨2, ![1024, 512]⟩
abbrev S512 : Shape := ⟨1, ![512]⟩
abbrev S512x1 : Shape := ⟨2, ![512, 1]⟩
abbrev S1024x1024 : Shape := ⟨2, ![1024, 1024]⟩

abbrev nBuf : Space → Nat
  | .hbm => 1259
  | .vmem => 0
  | .smem => 0
  | _ => 0

abbrev hbmTy0_0 (i : Nat) : BufTy := match i % 128 with
  | 0 => ⟨S512x256, .f32⟩
  | 1 => ⟨S512x256, .f32⟩
  | 2 => ⟨S8x256x64x64, .f32⟩
  | 3 => ⟨S8x64x64, .f32⟩
  | 4 => ⟨S8x1x64x64, .f32⟩
  | 5 => ⟨S_, .f32⟩
  | 6 => ⟨S_, .f32⟩
  | 7 => ⟨S_, .f32⟩
  | 8 => ⟨S8x1x64x64, .f32⟩
  | 9 => ⟨S8x1x64x64, .f32⟩
  | 10 => ⟨S_, .f32⟩
  | 11 => ⟨S8x1x64x64, .f32⟩
  | 12 => ⟨S8x1x64x64, .f32⟩
  | 13 => ⟨S8x64x64x256, .f32⟩
  | 14 => ⟨S32768x256, .f32⟩
  | 15 => ⟨S32768x256, .f32⟩
  | 16 => ⟨S_, .f32⟩
  | 17 => ⟨S32768, .f32⟩
  | 18 => ⟨S32768x1, .f32⟩
  | 19 => ⟨S32768x1, .f32⟩
  | 20 => ⟨S_, .f32⟩
  | 21 => ⟨S_, .f32⟩
  | 22 => ⟨S32768x1, .f32⟩
  | 23 => ⟨S32768x1, .f32⟩
  | 24 => ⟨S32768x256, .f32⟩
  | 25 => ⟨S32768x256, .f32⟩
  | 26 => ⟨S32768, .f32⟩
  | 27 => ⟨S256x512, .f32⟩
  | 28 => ⟨S32768x512, .f32⟩
  | 29 => ⟨S_, .f32⟩
  | 30 => ⟨S32768x512, .f32⟩
  | 31 => ⟨S32768x512, .f32⟩
  | 32 => ⟨S_, .f32⟩
  | 33 => ⟨S32768, .f32⟩
  | 34 => ⟨S256x512, .f32⟩
  | 35 => ⟨S32768x512, .f32⟩
  | 36 => ⟨S_, .f32⟩
  | 37 => ⟨S32768x512, .f32⟩
  | 38 => ⟨S32768x512, .f32⟩
  | 39 => ⟨S_, .f32⟩
  | 40 => ⟨S32768, .f32⟩
  | 41 => ⟨S32768, .f32⟩
  | 42 => ⟨S_, .f32⟩
  | 43 => ⟨S32768, .f32⟩
  | 44 => ⟨S32768, .f32⟩
  | 45 => ⟨S32768, .f32⟩
  | 46 => ⟨S1024, .f32⟩
  | 47 => ⟨S1024, .i32⟩
  | 48 => ⟨S1024, .f32⟩
  | 49 => ⟨S1024, .i32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S1024x1, .i32⟩
  | 58 => ⟨S1024x256, .f32⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S1024x1, .i32⟩
  | 67 => ⟨S1024x256, .f32⟩
  | 68 => ⟨S_, .f32⟩
  | 69 => ⟨S256x512, .f32⟩
  | 70 => ⟨S1024x512, .f32⟩
  | 71 => ⟨S1024x512, .i32⟩
  | 72 => ⟨S_, .f32⟩
  | 73 => ⟨S_, .i32⟩
  | 74 => ⟨S1024, .f32⟩
  | 75 => ⟨S1024, .i32⟩
  | 76 => ⟨S_, .f32⟩
  | 77 => ⟨S512x256, .f32⟩
  | 78 => ⟨S1024x1, .i32⟩
  | 79 => ⟨S512x256, .f32⟩
  | 80 => ⟨S_, .f32⟩
  | 81 => ⟨S1024, .f32⟩
  | 82 => ⟨S_, .f32⟩
  | 83 => ⟨S512, .f32⟩
  | 84 => ⟨S1024x1, .i32⟩
  | 85 => ⟨S512, .f32⟩
  | 86 => ⟨S_, .f32⟩
  | 87 => ⟨S_, .f32⟩
  | 88 => ⟨S512, .f32⟩
  | 89 => ⟨S512, .f32⟩
  | 90 => ⟨S512x1, .f32⟩
  | 91 => ⟨S512x256, .f32⟩
  | 92 => ⟨S512x256, .f32⟩
  | 93 => ⟨S_, .f32⟩
  | 94 => ⟨S_, .f32⟩
  | 95 => ⟨S_, .f32⟩
  | 96 => ⟨S512x256, .f32⟩
  | 97 => ⟨S512x256, .f32⟩
  | 98 => ⟨S_, .f32⟩
  | 99 => ⟨S512x256, .f32⟩
  | 100 => ⟨S512x256, .f32⟩
  | 101 => ⟨S512x256, .f32⟩
  | 102 => ⟨S512x256, .f32⟩
  | 103 => ⟨S_, .f32⟩
  | 104 => ⟨S512, .f32⟩
  | 105 => ⟨S512x1, .f32⟩
  | 106 => ⟨S512x1, .f32⟩
  | 107 => ⟨S_, .f32⟩
  | 108 => ⟨S_, .f32⟩
  | 109 => ⟨S512x1, .f32⟩
  | 110 => ⟨S512x1, .f32⟩
  | 111 => ⟨S512x256, .f32⟩
  | 112 => ⟨S512x256, .f32⟩
  | 113 => ⟨S_, .f32⟩
  | 114 => ⟨S512, .f32⟩
  | 115 => ⟨S512, .i1⟩
  | 116 => ⟨S512x1, .i1⟩
  | 117 => ⟨S512x256, .i1⟩
  | 118 => ⟨S512x256, .f32⟩
  | 119 => ⟨S_, .f32⟩
  | 120 => ⟨S256x512, .f32⟩
  | 121 => ⟨S1024x512, .f32⟩
  | 122 => ⟨S1024x512, .i32⟩
  | 123 => ⟨S_, .f32⟩
  | 124 => ⟨S_, .i32⟩
  | 125 => ⟨S1024, .f32⟩
  | 126 => ⟨S1024, .i32⟩
  | 127 => ⟨S_, .f32⟩
  | _ => ⟨S512x256, .f32⟩

abbrev hbmTy0_1 (i : Nat) : BufTy := match i % 128 with
  | 0 => ⟨S512x256, .f32⟩
  | 1 => ⟨S1024x1, .i32⟩
  | 2 => ⟨S512x256, .f32⟩
  | 3 => ⟨S_, .f32⟩
  | 4 => ⟨S1024, .f32⟩
  | 5 => ⟨S_, .f32⟩
  | 6 => ⟨S512, .f32⟩
  | 7 => ⟨S1024x1, .i32⟩
  | 8 => ⟨S512, .f32⟩
  | 9 => ⟨S_, .f32⟩
  | 10 => ⟨S_, .f32⟩
  | 11 => ⟨S512, .f32⟩
  | 12 => ⟨S512, .f32⟩
  | 13 => ⟨S512x1, .f32⟩
  | 14 => ⟨S512x256, .f32⟩
  | 15 => ⟨S512x256, .f32⟩
  | 16 => ⟨S_, .f32⟩
  | 17 => ⟨S_, .f32⟩
  | 18 => ⟨S_, .f32⟩
  | 19 => ⟨S512x256, .f32⟩
  | 20 => ⟨S512x256, .f32⟩
  | 21 => ⟨S_, .f32⟩
  | 22 => ⟨S512x256, .f32⟩
  | 23 => ⟨S512x256, .f32⟩
  | 24 => ⟨S512x256, .f32⟩
  | 25 => ⟨S512x256, .f32⟩
  | 26 => ⟨S_, .f32⟩
  | 27 => ⟨S512, .f32⟩
  | 28 => ⟨S512x1, .f32⟩
  | 29 => ⟨S512x1, .f32⟩
  | 30 => ⟨S_, .f32⟩
  | 31 => ⟨S_, .f32⟩
  | 32 => ⟨S512x1, .f32⟩
  | 33 => ⟨S512x1, .f32⟩
  | 34 => ⟨S512x256, .f32⟩
  | 35 => ⟨S512x256, .f32⟩
  | 36 => ⟨S_, .f32⟩
  | 37 => ⟨S512, .f32⟩
  | 38 => ⟨S512, .i1⟩
  | 39 => ⟨S512x1, .i1⟩
  | 40 => ⟨S512x256, .i1⟩
  | 41 => ⟨S512x256, .f32⟩
  | 42 => ⟨S_, .f32⟩
  | 43 => ⟨S256x512, .f32⟩
  | 44 => ⟨S1024x512, .f32⟩
  | 45 => ⟨S1024x512, .i32⟩
  | 46 => ⟨S_, .f32⟩
  | 47 => ⟨S_, .i32⟩
  | 48 => ⟨S1024, .f32⟩
  | 49 => ⟨S1024, .i32⟩
  | 50 => ⟨S_, .f32⟩
  | 51 => ⟨S512x256, .f32⟩
  | 52 => ⟨S1024x1, .i32⟩
  | 53 => ⟨S512x256, .f32⟩
  | 54 => ⟨S_, .f32⟩
  | 55 => ⟨S1024, .f32⟩
  | 56 => ⟨S_, .f32⟩
  | 57 => ⟨S512, .f32⟩
  | 58 => ⟨S1024x1, .i32⟩
  | 59 => ⟨S512, .f32⟩
  | 60 => ⟨S_, .f32⟩
  | 61 => ⟨S_, .f32⟩
  | 62 => ⟨S512, .f32⟩
  | 63 => ⟨S512, .f32⟩
  | 64 => ⟨S512x1, .f32⟩
  | 65 => ⟨S512x256, .f32⟩
  | 66 => ⟨S512x256, .f32⟩
  | 67 => ⟨S_, .f32⟩
  | 68 => ⟨S_, .f32⟩
  | 69 => ⟨S_, .f32⟩
  | 70 => ⟨S512x256, .f32⟩
  | 71 => ⟨S512x256, .f32⟩
  | 72 => ⟨S_, .f32⟩
  | 73 => ⟨S512x256, .f32⟩
  | 74 => ⟨S512x256, .f32⟩
  | 75 => ⟨S512x256, .f32⟩
  | 76 => ⟨S512x256, .f32⟩
  | 77 => ⟨S_, .f32⟩
  | 78 => ⟨S512, .f32⟩
  | 79 => ⟨S512x1, .f32⟩
  | 80 => ⟨S512x1, .f32⟩
  | 81 => ⟨S_, .f32⟩
  | 82 => ⟨S_, .f32⟩
  | 83 => ⟨S512x1, .f32⟩
  | 84 => ⟨S512x1, .f32⟩
  | 85 => ⟨S512x256, .f32⟩
  | 86 => ⟨S512x256, .f32⟩
  | 87 => ⟨S_, .f32⟩
  | 88 => ⟨S512, .f32⟩
  | 89 => ⟨S512, .i1⟩
  | 90 => ⟨S512x1, .i1⟩
  | 91 => ⟨S512x256, .i1⟩
  | 92 => ⟨S512x256, .f32⟩
  | 93 => ⟨S_, .f32⟩
  | 94 => ⟨S256x512, .f32⟩
  | 95 => ⟨S1024x512, .f32⟩
  | 96 => ⟨S1024x512, .i32⟩
  | 97 => ⟨S_, .f32⟩
  | 98 => ⟨S_, .i32⟩
  | 99 => ⟨S1024, .f32⟩
  | 100 => ⟨S1024, .i32⟩
  | 101 => ⟨S_, .f32⟩
  | 102 => ⟨S512x256, .f32⟩
  | 103 => ⟨S1024x1, .i32⟩
  | 104 => ⟨S512x256, .f32⟩
  | 105 => ⟨S_, .f32⟩
  | 106 => ⟨S1024, .f32⟩
  | 107 => ⟨S_, .f32⟩
  | 108 => ⟨S512, .f32⟩
  | 109 => ⟨S1024x1, .i32⟩
  | 110 => ⟨S512, .f32⟩
  | 111 => ⟨S_, .f32⟩
  | 112 => ⟨S_, .f32⟩
  | 113 => ⟨S512, .f32⟩
  | 114 => ⟨S512, .f32⟩
  | 115 => ⟨S512x1, .f32⟩
  | 116 => ⟨S512x256, .f32⟩
  | 117 => ⟨S512x256, .f32⟩
  | 118 => ⟨S_, .f32⟩
  | 119 => ⟨S_, .f32⟩
  | 120 => ⟨S_, .f32⟩
  | 121 => ⟨S512x256, .f32⟩
  | 122 => ⟨S512x256, .f32⟩
  | 123 => ⟨S_, .f32⟩
  | 124 => ⟨S512x256, .f32⟩
  | 125 => ⟨S512x256, .f32⟩
  | 126 => ⟨S512x256, .f32⟩
  | 127 => ⟨S512x256, .f32⟩
  | _ => ⟨S512x256, .f32⟩

abbrev hbmTy0_2 (i : Nat) : BufTy := match i % 128 with
  | 0 => ⟨S_, .f32⟩
  | 1 => ⟨S512, .f32⟩
  | 2 => ⟨S512x1, .f32⟩
  | 3 => ⟨S512x1, .f32⟩
  | 4 => ⟨S_, .f32⟩
  | 5 => ⟨S_, .f32⟩
  | 6 => ⟨S512x1, .f32⟩
  | 7 => ⟨S512x1, .f32⟩
  | 8 => ⟨S512x256, .f32⟩
  | 9 => ⟨S512x256, .f32⟩
  | 10 => ⟨S_, .f32⟩
  | 11 => ⟨S512, .f32⟩
  | 12 => ⟨S512, .i1⟩
  | 13 => ⟨S512x1, .i1⟩
  | 14 => ⟨S512x256, .i1⟩
  | 15 => ⟨S512x256, .f32⟩
  | 16 => ⟨S_, .f32⟩
  | 17 => ⟨S256x512, .f32⟩
  | 18 => ⟨S1024x512, .f32⟩
  | 19 => ⟨S1024x512, .i32⟩
  | 20 => ⟨S_, .f32⟩
  | 21 => ⟨S_, .i32⟩
  | 22 => ⟨S1024, .f32⟩
  | 23 => ⟨S1024, .i32⟩
  | 24 => ⟨S_, .f32⟩
  | 25 => ⟨S512x256, .f32⟩
  | 26 => ⟨S1024x1, .i32⟩
  | 27 => ⟨S512x256, .f32⟩
  | 28 => ⟨S_, .f32⟩
  | 29 => ⟨S1024, .f32⟩
  | 30 => ⟨S_, .f32⟩
  | 31 => ⟨S512, .f32⟩
  | 32 => ⟨S1024x1, .i32⟩
  | 33 => ⟨S512, .f32⟩
  | 34 => ⟨S_, .f32⟩
  | 35 => ⟨S_, .f32⟩
  | 36 => ⟨S512, .f32⟩
  | 37 => ⟨S512, .f32⟩
  | 38 => ⟨S512x1, .f32⟩
  | 39 => ⟨S512x256, .f32⟩
  | 40 => ⟨S512x256, .f32⟩
  | 41 => ⟨S_, .f32⟩
  | 42 => ⟨S_, .f32⟩
  | 43 => ⟨S_, .f32⟩
  | 44 => ⟨S512x256, .f32⟩
  | 45 => ⟨S512x256, .f32⟩
  | 46 => ⟨S_, .f32⟩
  | 47 => ⟨S512x256, .f32⟩
  | 48 => ⟨S512x256, .f32⟩
  | 49 => ⟨S512x256, .f32⟩
  | 50 => ⟨S512x256, .f32⟩
  | 51 => ⟨S_, .f32⟩
  | 52 => ⟨S512, .f32⟩
  | 53 => ⟨S512x1, .f32⟩
  | 54 => ⟨S512x1, .f32⟩
  | 55 => ⟨S_, .f32⟩
  | 56 => ⟨S_, .f32⟩
  | 57 => ⟨S512x1, .f32⟩
  | 58 => ⟨S512x1, .f32⟩
  | 59 => ⟨S512x256, .f32⟩
  | 60 => ⟨S512x256, .f32⟩
  | 61 => ⟨S_, .f32⟩
  | 62 => ⟨S512, .f32⟩
  | 63 => ⟨S512, .i1⟩
  | 64 => ⟨S512x1, .i1⟩
  | 65 => ⟨S512x256, .i1⟩
  | 66 => ⟨S512x256, .f32⟩
  | 67 => ⟨S_, .f32⟩
  | 68 => ⟨S256x512, .f32⟩
  | 69 => ⟨S1024x512, .f32⟩
  | 70 => ⟨S1024x512, .i32⟩
  | 71 => ⟨S_, .f32⟩
  | 72 => ⟨S_, .i32⟩
  | 73 => ⟨S1024, .f32⟩
  | 74 => ⟨S1024, .i32⟩
  | 75 => ⟨S_, .f32⟩
  | 76 => ⟨S512x256, .f32⟩
  | 77 => ⟨S1024x1, .i32⟩
  | 78 => ⟨S512x256, .f32⟩
  | 79 => ⟨S_, .f32⟩
  | 80 => ⟨S1024, .f32⟩
  | 81 => ⟨S_, .f32⟩
  | 82 => ⟨S512, .f32⟩
  | 83 => ⟨S1024x1, .i32⟩
  | 84 => ⟨S512, .f32⟩
  | 85 => ⟨S_, .f32⟩
  | 86 => ⟨S_, .f32⟩
  | 87 => ⟨S512, .f32⟩
  | 88 => ⟨S512, .f32⟩
  | 89 => ⟨S512x1, .f32⟩
  | 90 => ⟨S512x256, .f32⟩
  | 91 => ⟨S512x256, .f32⟩
  | 92 => ⟨S_, .f32⟩
  | 93 => ⟨S_, .f32⟩
  | 94 => ⟨S_, .f32⟩
  | 95 => ⟨S512x256, .f32⟩
  | 96 => ⟨S512x256, .f32⟩
  | 97 => ⟨S_, .f32⟩
  | 98 => ⟨S512x256, .f32⟩
  | 99 => ⟨S512x256, .f32⟩
  | 100 => ⟨S512x256, .f32⟩
  | 101 => ⟨S512x256, .f32⟩
  | 102 => ⟨S_, .f32⟩
  | 103 => ⟨S512, .f32⟩
  | 104 => ⟨S512x1, .f32⟩
  | 105 => ⟨S512x1, .f32⟩
  | 106 => ⟨S_, .f32⟩
  | 107 => ⟨S_, .f32⟩
  | 108 => ⟨S512x1, .f32⟩
  | 109 => ⟨S512x1, .f32⟩
  | 110 => ⟨S512x256, .f32⟩
  | 111 => ⟨S512x256, .f32⟩
  | 112 => ⟨S_, .f32⟩
  | 113 => ⟨S512, .f32⟩
  | 114 => ⟨S512, .i1⟩
  | 115 => ⟨S512x1, .i1⟩
  | 116 => ⟨S512x256, .i1⟩
  | 117 => ⟨S512x256, .f32⟩
  | 118 => ⟨S_, .f32⟩
  | 119 => ⟨S256x512, .f32⟩
  | 120 => ⟨S1024x512, .f32⟩
  | 121 => ⟨S1024x512, .i32⟩
  | 122 => ⟨S_, .f32⟩
  | 123 => ⟨S_, .i32⟩
  | 124 => ⟨S1024, .f32⟩
  | 125 => ⟨S1024, .i32⟩
  | 126 => ⟨S_, .f32⟩
  | 127 => ⟨S512x256, .f32⟩
  | _ => ⟨S512x256, .f32⟩

abbrev hbmTy0_3 (i : Nat) : BufTy := match i % 128 with
  | 0 => ⟨S1024x1, .i32⟩
  | 1 => ⟨S512x256, .f32⟩
  | 2 => ⟨S_, .f32⟩
  | 3 => ⟨S1024, .f32⟩
  | 4 => ⟨S_, .f32⟩
  | 5 => ⟨S512, .f32⟩
  | 6 => ⟨S1024x1, .i32⟩
  | 7 => ⟨S512, .f32⟩
  | 8 => ⟨S_, .f32⟩
  | 9 => ⟨S_, .f32⟩
  | 10 => ⟨S512, .f32⟩
  | 11 => ⟨S512, .f32⟩
  | 12 => ⟨S512x1, .f32⟩
  | 13 => ⟨S512x256, .f32⟩
  | 14 => ⟨S512x256, .f32⟩
  | 15 => ⟨S_, .f32⟩
  | 16 => ⟨S_, .f32⟩
  | 17 => ⟨S_, .f32⟩
  | 18 => ⟨S512x256, .f32⟩
  | 19 => ⟨S512x256, .f32⟩
  | 20 => ⟨S_, .f32⟩
  | 21 => ⟨S512x256, .f32⟩
  | 22 => ⟨S512x256, .f32⟩
  | 23 => ⟨S512x256, .f32⟩
  | 24 => ⟨S512x256, .f32⟩
  | 25 => ⟨S_, .f32⟩
  | 26 => ⟨S512, .f32⟩
  | 27 => ⟨S512x1, .f32⟩
  | 28 => ⟨S512x1, .f32⟩
  | 29 => ⟨S_, .f32⟩
  | 30 => ⟨S_, .f32⟩
  | 31 => ⟨S512x1, .f32⟩
  | 32 => ⟨S512x1, .f32⟩
  | 33 => ⟨S512x256, .f32⟩
  | 34 => ⟨S512x256, .f32⟩
  | 35 => ⟨S_, .f32⟩
  | 36 => ⟨S512, .f32⟩
  | 37 => ⟨S512, .i1⟩
  | 38 => ⟨S512x1, .i1⟩
  | 39 => ⟨S512x256, .i1⟩
  | 40 => ⟨S512x256, .f32⟩
  | 41 => ⟨S_, .f32⟩
  | 42 => ⟨S256x512, .f32⟩
  | 43 => ⟨S1024x512, .f32⟩
  | 44 => ⟨S1024x512, .i32⟩
  | 45 => ⟨S_, .f32⟩
  | 46 => ⟨S_, .i32⟩
  | 47 => ⟨S1024, .f32⟩
  | 48 => ⟨S1024, .i32⟩
  | 49 => ⟨S_, .f32⟩
  | 50 => ⟨S512x256, .f32⟩
  | 51 => ⟨S1024x1, .i32⟩
  | 52 => ⟨S512x256, .f32⟩
  | 53 => ⟨S_, .f32⟩
  | 54 => ⟨S1024, .f32⟩
  | 55 => ⟨S_, .f32⟩
  | 56 => ⟨S512, .f32⟩
  | 57 => ⟨S1024x1, .i32⟩
  | 58 => ⟨S512, .f32⟩
  | 59 => ⟨S_, .f32⟩
  | 60 => ⟨S_, .f32⟩
  | 61 => ⟨S512, .f32⟩
  | 62 => ⟨S512, .f32⟩
  | 63 => ⟨S512x1, .f32⟩
  | 64 => ⟨S512x256, .f32⟩
  | 65 => ⟨S512x256, .f32⟩
  | 66 => ⟨S_, .f32⟩
  | 67 => ⟨S_, .f32⟩
  | 68 => ⟨S_, .f32⟩
  | 69 => ⟨S512x256, .f32⟩
  | 70 => ⟨S512x256, .f32⟩
  | 71 => ⟨S_, .f32⟩
  | 72 => ⟨S512x256, .f32⟩
  | 73 => ⟨S512x256, .f32⟩
  | 74 => ⟨S512x256, .f32⟩
  | 75 => ⟨S512x256, .f32⟩
  | 76 => ⟨S_, .f32⟩
  | 77 => ⟨S512, .f32⟩
  | 78 => ⟨S512x1, .f32⟩
  | 79 => ⟨S512x1, .f32⟩
  | 80 => ⟨S_, .f32⟩
  | 81 => ⟨S_, .f32⟩
  | 82 => ⟨S512x1, .f32⟩
  | 83 => ⟨S512x1, .f32⟩
  | 84 => ⟨S512x256, .f32⟩
  | 85 => ⟨S512x256, .f32⟩
  | 86 => ⟨S_, .f32⟩
  | 87 => ⟨S512, .f32⟩
  | 88 => ⟨S512, .i1⟩
  | 89 => ⟨S512x1, .i1⟩
  | 90 => ⟨S512x256, .i1⟩
  | 91 => ⟨S512x256, .f32⟩
  | 92 => ⟨S_, .f32⟩
  | 93 => ⟨S256x512, .f32⟩
  | 94 => ⟨S1024x512, .f32⟩
  | 95 => ⟨S1024x512, .i32⟩
  | 96 => ⟨S_, .f32⟩
  | 97 => ⟨S_, .i32⟩
  | 98 => ⟨S1024, .f32⟩
  | 99 => ⟨S1024, .i32⟩
  | 100 => ⟨S_, .f32⟩
  | 101 => ⟨S512x256, .f32⟩
  | 102 => ⟨S1024x1, .i32⟩
  | 103 => ⟨S512x256, .f32⟩
  | 104 => ⟨S_, .f32⟩
  | 105 => ⟨S1024, .f32⟩
  | 106 => ⟨S_, .f32⟩
  | 107 => ⟨S512, .f32⟩
  | 108 => ⟨S1024x1, .i32⟩
  | 109 => ⟨S512, .f32⟩
  | 110 => ⟨S_, .f32⟩
  | 111 => ⟨S_, .f32⟩
  | 112 => ⟨S512, .f32⟩
  | 113 => ⟨S512, .f32⟩
  | 114 => ⟨S512x1, .f32⟩
  | 115 => ⟨S512x256, .f32⟩
  | 116 => ⟨S512x256, .f32⟩
  | 117 => ⟨S_, .f32⟩
  | 118 => ⟨S_, .f32⟩
  | 119 => ⟨S_, .f32⟩
  | 120 => ⟨S512x256, .f32⟩
  | 121 => ⟨S512x256, .f32⟩
  | 122 => ⟨S_, .f32⟩
  | 123 => ⟨S512x256, .f32⟩
  | 124 => ⟨S512x256, .f32⟩
  | 125 => ⟨S512x256, .f32⟩
  | 126 => ⟨S512x256, .f32⟩
  | 127 => ⟨S_, .f32⟩
  | _ => ⟨S512x256, .f32⟩

abbrev hbmTy0_4 (i : Nat) : BufTy := match i % 128 with
  | 0 => ⟨S512, .f32⟩
  | 1 => ⟨S512x1, .f32⟩
  | 2 => ⟨S512x1, .f32⟩
  | 3 => ⟨S_, .f32⟩
  | 4 => ⟨S_, .f32⟩
  | 5 => ⟨S512x1, .f32⟩
  | 6 => ⟨S512x1, .f32⟩
  | 7 => ⟨S512x256, .f32⟩
  | 8 => ⟨S512x256, .f32⟩
  | 9 => ⟨S_, .f32⟩
  | 10 => ⟨S512, .f32⟩
  | 11 => ⟨S512, .i1⟩
  | 12 => ⟨S512x1, .i1⟩
  | 13 => ⟨S512x256, .i1⟩
  | 14 => ⟨S512x256, .f32⟩
  | 15 => ⟨S_, .f32⟩
  | 16 => ⟨S256x512, .f32⟩
  | 17 => ⟨S1024x512, .f32⟩
  | 18 => ⟨S1024x512, .i32⟩
  | 19 => ⟨S_, .f32⟩
  | 20 => ⟨S_, .i32⟩
  | 21 => ⟨S1024, .f32⟩
  | 22 => ⟨S1024, .i32⟩
  | 23 => ⟨S_, .f32⟩
  | 24 => ⟨S512x256, .f32⟩
  | 25 => ⟨S1024x1, .i32⟩
  | 26 => ⟨S512x256, .f32⟩
  | 27 => ⟨S_, .f32⟩
  | 28 => ⟨S1024, .f32⟩
  | 29 => ⟨S_, .f32⟩
  | 30 => ⟨S512, .f32⟩
  | 31 => ⟨S1024x1, .i32⟩
  | 32 => ⟨S512, .f32⟩
  | 33 => ⟨S_, .f32⟩
  | 34 => ⟨S_, .f32⟩
  | 35 => ⟨S512, .f32⟩
  | 36 => ⟨S512, .f32⟩
  | 37 => ⟨S512x1, .f32⟩
  | 38 => ⟨S512x256, .f32⟩
  | 39 => ⟨S512x256, .f32⟩
  | 40 => ⟨S_, .f32⟩
  | 41 => ⟨S_, .f32⟩
  | 42 => ⟨S_, .f32⟩
  | 43 => ⟨S512x256, .f32⟩
  | 44 => ⟨S512x256, .f32⟩
  | 45 => ⟨S_, .f32⟩
  | 46 => ⟨S512x256, .f32⟩
  | 47 => ⟨S512x256, .f32⟩
  | 48 => ⟨S512x256, .f32⟩
  | 49 => ⟨S512x256, .f32⟩
  | 50 => ⟨S_, .f32⟩
  | 51 => ⟨S512, .f32⟩
  | 52 => ⟨S512x1, .f32⟩
  | 53 => ⟨S512x1, .f32⟩
  | 54 => ⟨S_, .f32⟩
  | 55 => ⟨S_, .f32⟩
  | 56 => ⟨S512x1, .f32⟩
  | 57 => ⟨S512x1, .f32⟩
  | 58 => ⟨S512x256, .f32⟩
  | 59 => ⟨S512x256, .f32⟩
  | 60 => ⟨S_, .f32⟩
  | 61 => ⟨S512, .f32⟩
  | 62 => ⟨S512, .i1⟩
  | 63 => ⟨S512x1, .i1⟩
  | 64 => ⟨S512x256, .i1⟩
  | 65 => ⟨S512x256, .f32⟩
  | 66 => ⟨S_, .f32⟩
  | 67 => ⟨S256x512, .f32⟩
  | 68 => ⟨S1024x512, .f32⟩
  | 69 => ⟨S1024x512, .i32⟩
  | 70 => ⟨S_, .f32⟩
  | 71 => ⟨S_, .i32⟩
  | 72 => ⟨S1024, .f32⟩
  | 73 => ⟨S1024, .i32⟩
  | 74 => ⟨S_, .f32⟩
  | 75 => ⟨S512x256, .f32⟩
  | 76 => ⟨S1024x1, .i32⟩
  | 77 => ⟨S512x256, .f32⟩
  | 78 => ⟨S_, .f32⟩
  | 79 => ⟨S1024, .f32⟩
  | 80 => ⟨S_, .f32⟩
  | 81 => ⟨S512, .f32⟩
  | 82 => ⟨S1024x1, .i32⟩
  | 83 => ⟨S512, .f32⟩
  | 84 => ⟨S_, .f32⟩
  | 85 => ⟨S_, .f32⟩
  | 86 => ⟨S512, .f32⟩
  | 87 => ⟨S512, .f32⟩
  | 88 => ⟨S512x1, .f32⟩
  | 89 => ⟨S512x256, .f32⟩
  | 90 => ⟨S512x256, .f32⟩
  | 91 => ⟨S_, .f32⟩
  | 92 => ⟨S_, .f32⟩
  | 93 => ⟨S_, .f32⟩
  | 94 => ⟨S512x256, .f32⟩
  | 95 => ⟨S512x256, .f32⟩
  | 96 => ⟨S_, .f32⟩
  | 97 => ⟨S512x256, .f32⟩
  | 98 => ⟨S512x256, .f32⟩
  | 99 => ⟨S512x256, .f32⟩
  | 100 => ⟨S512x256, .f32⟩
  | 101 => ⟨S_, .f32⟩
  | 102 => ⟨S512, .f32⟩
  | 103 => ⟨S512x1, .f32⟩
  | 104 => ⟨S512x1, .f32⟩
  | 105 => ⟨S_, .f32⟩
  | 106 => ⟨S_, .f32⟩
  | 107 => ⟨S512x1, .f32⟩
  | 108 => ⟨S512x1, .f32⟩
  | 109 => ⟨S512x256, .f32⟩
  | 110 => ⟨S512x256, .f32⟩
  | 111 => ⟨S_, .f32⟩
  | 112 => ⟨S512, .f32⟩
  | 113 => ⟨S512, .i1⟩
  | 114 => ⟨S512x1, .i1⟩
  | 115 => ⟨S512x256, .i1⟩
  | 116 => ⟨S512x256, .f32⟩
  | 117 => ⟨S_, .f32⟩
  | 118 => ⟨S256x512, .f32⟩
  | 119 => ⟨S1024x512, .f32⟩
  | 120 => ⟨S1024x512, .i32⟩
  | 121 => ⟨S_, .f32⟩
  | 122 => ⟨S_, .i32⟩
  | 123 => ⟨S1024, .f32⟩
  | 124 => ⟨S1024, .i32⟩
  | 125 => ⟨S_, .f32⟩
  | 126 => ⟨S512x256, .f32⟩
  | 127 => ⟨S1024x1, .i32⟩
  | _ => ⟨S512x256, .f32⟩

abbrev hbmTy0_5 (i : Nat) : BufTy := match i % 128 with
  | 0 => ⟨S512x256, .f32⟩
  | 1 => ⟨S_, .f32⟩
  | 2 => ⟨S1024, .f32⟩
  | 3 => ⟨S_, .f32⟩
  | 4 => ⟨S512, .f32⟩
  | 5 => ⟨S1024x1, .i32⟩
  | 6 => ⟨S512, .f32⟩
  | 7 => ⟨S_, .f32⟩
  | 8 => ⟨S_, .f32⟩
  | 9 => ⟨S512, .f32⟩
  | 10 => ⟨S512, .f32⟩
  | 11 => ⟨S512x1, .f32⟩
  | 12 => ⟨S512x256, .f32⟩
  | 13 => ⟨S512x256, .f32⟩
  | 14 => ⟨S_, .f32⟩
  | 15 => ⟨S_, .f32⟩
  | 16 => ⟨S_, .f32⟩
  | 17 => ⟨S512x256, .f32⟩
  | 18 => ⟨S512x256, .f32⟩
  | 19 => ⟨S_, .f32⟩
  | 20 => ⟨S512x256, .f32⟩
  | 21 => ⟨S512x256, .f32⟩
  | 22 => ⟨S512x256, .f32⟩
  | 23 => ⟨S512x256, .f32⟩
  | 24 => ⟨S_, .f32⟩
  | 25 => ⟨S512, .f32⟩
  | 26 => ⟨S512x1, .f32⟩
  | 27 => ⟨S512x1, .f32⟩
  | 28 => ⟨S_, .f32⟩
  | 29 => ⟨S_, .f32⟩
  | 30 => ⟨S512x1, .f32⟩
  | 31 => ⟨S512x1, .f32⟩
  | 32 => ⟨S512x256, .f32⟩
  | 33 => ⟨S512x256, .f32⟩
  | 34 => ⟨S_, .f32⟩
  | 35 => ⟨S512, .f32⟩
  | 36 => ⟨S512, .i1⟩
  | 37 => ⟨S512x1, .i1⟩
  | 38 => ⟨S512x256, .i1⟩
  | 39 => ⟨S512x256, .f32⟩
  | 40 => ⟨S_, .f32⟩
  | 41 => ⟨S256x512, .f32⟩
  | 42 => ⟨S1024x512, .f32⟩
  | 43 => ⟨S1024x512, .i32⟩
  | 44 => ⟨S_, .f32⟩
  | 45 => ⟨S_, .i32⟩
  | 46 => ⟨S1024, .f32⟩
  | 47 => ⟨S1024, .i32⟩
  | 48 => ⟨S_, .f32⟩
  | 49 => ⟨S512x256, .f32⟩
  | 50 => ⟨S1024x1, .i32⟩
  | 51 => ⟨S512x256, .f32⟩
  | 52 => ⟨S_, .f32⟩
  | 53 => ⟨S1024, .f32⟩
  | 54 => ⟨S_, .f32⟩
  | 55 => ⟨S512, .f32⟩
  | 56 => ⟨S1024x1, .i32⟩
  | 57 => ⟨S512, .f32⟩
  | 58 => ⟨S_, .f32⟩
  | 59 => ⟨S_, .f32⟩
  | 60 => ⟨S512, .f32⟩
  | 61 => ⟨S512, .f32⟩
  | 62 => ⟨S512x1, .f32⟩
  | 63 => ⟨S512x256, .f32⟩
  | 64 => ⟨S512x256, .f32⟩
  | 65 => ⟨S_, .f32⟩
  | 66 => ⟨S_, .f32⟩
  | 67 => ⟨S_, .f32⟩
  | 68 => ⟨S512x256, .f32⟩
  | 69 => ⟨S512x256, .f32⟩
  | 70 => ⟨S_, .f32⟩
  | 71 => ⟨S512x256, .f32⟩
  | 72 => ⟨S512x256, .f32⟩
  | 73 => ⟨S512x256, .f32⟩
  | 74 => ⟨S512x256, .f32⟩
  | 75 => ⟨S_, .f32⟩
  | 76 => ⟨S512, .f32⟩
  | 77 => ⟨S512x1, .f32⟩
  | 78 => ⟨S512x1, .f32⟩
  | 79 => ⟨S_, .f32⟩
  | 80 => ⟨S_, .f32⟩
  | 81 => ⟨S512x1, .f32⟩
  | 82 => ⟨S512x1, .f32⟩
  | 83 => ⟨S512x256, .f32⟩
  | 84 => ⟨S512x256, .f32⟩
  | 85 => ⟨S_, .f32⟩
  | 86 => ⟨S512, .f32⟩
  | 87 => ⟨S512, .i1⟩
  | 88 => ⟨S512x1, .i1⟩
  | 89 => ⟨S512x256, .i1⟩
  | 90 => ⟨S512x256, .f32⟩
  | 91 => ⟨S_, .f32⟩
  | 92 => ⟨S256x512, .f32⟩
  | 93 => ⟨S1024x512, .f32⟩
  | 94 => ⟨S1024x512, .i32⟩
  | 95 => ⟨S_, .f32⟩
  | 96 => ⟨S_, .i32⟩
  | 97 => ⟨S1024, .f32⟩
  | 98 => ⟨S1024, .i32⟩
  | 99 => ⟨S_, .f32⟩
  | 100 => ⟨S512x256, .f32⟩
  | 101 => ⟨S1024x1, .i32⟩
  | 102 => ⟨S512x256, .f32⟩
  | 103 => ⟨S_, .f32⟩
  | 104 => ⟨S1024, .f32⟩
  | 105 => ⟨S_, .f32⟩
  | 106 => ⟨S512, .f32⟩
  | 107 => ⟨S1024x1, .i32⟩
  | 108 => ⟨S512, .f32⟩
  | 109 => ⟨S_, .f32⟩
  | 110 => ⟨S_, .f32⟩
  | 111 => ⟨S512, .f32⟩
  | 112 => ⟨S512, .f32⟩
  | 113 => ⟨S512x1, .f32⟩
  | 114 => ⟨S512x256, .f32⟩
  | 115 => ⟨S512x256, .f32⟩
  | 116 => ⟨S_, .f32⟩
  | 117 => ⟨S_, .f32⟩
  | 118 => ⟨S_, .f32⟩
  | 119 => ⟨S512x256, .f32⟩
  | 120 => ⟨S512x256, .f32⟩
  | 121 => ⟨S_, .f32⟩
  | 122 => ⟨S512x256, .f32⟩
  | 123 => ⟨S512x256, .f32⟩
  | 124 => ⟨S512x256, .f32⟩
  | 125 => ⟨S512x256, .f32⟩
  | 126 => ⟨S_, .f32⟩
  | 127 => ⟨S512, .f32⟩
  | _ => ⟨S512x256, .f32⟩

abbrev hbmTy0_6 (i : Nat) : BufTy := match i % 128 with
  | 0 => ⟨S512x1, .f32⟩
  | 1 => ⟨S512x1, .f32⟩
  | 2 => ⟨S_, .f32⟩
  | 3 => ⟨S_, .f32⟩
  | 4 => ⟨S512x1, .f32⟩
  | 5 => ⟨S512x1, .f32⟩
  | 6 => ⟨S512x256, .f32⟩
  | 7 => ⟨S512x256, .f32⟩
  | 8 => ⟨S_, .f32⟩
  | 9 => ⟨S512, .f32⟩
  | 10 => ⟨S512, .i1⟩
  | 11 => ⟨S512x1, .i1⟩
  | 12 => ⟨S512x256, .i1⟩
  | 13 => ⟨S512x256, .f32⟩
  | 14 => ⟨S_, .f32⟩
  | 15 => ⟨S256x512, .f32⟩
  | 16 => ⟨S1024x512, .f32⟩
  | 17 => ⟨S1024x512, .i32⟩
  | 18 => ⟨S_, .f32⟩
  | 19 => ⟨S_, .i32⟩
  | 20 => ⟨S1024, .f32⟩
  | 21 => ⟨S1024, .i32⟩
  | 22 => ⟨S_, .f32⟩
  | 23 => ⟨S512x256, .f32⟩
  | 24 => ⟨S1024x1, .i32⟩
  | 25 => ⟨S512x256, .f32⟩
  | 26 => ⟨S_, .f32⟩
  | 27 => ⟨S1024, .f32⟩
  | 28 => ⟨S_, .f32⟩
  | 29 => ⟨S512, .f32⟩
  | 30 => ⟨S1024x1, .i32⟩
  | 31 => ⟨S512, .f32⟩
  | 32 => ⟨S_, .f32⟩
  | 33 => ⟨S_, .f32⟩
  | 34 => ⟨S512, .f32⟩
  | 35 => ⟨S512, .f32⟩
  | 36 => ⟨S512x1, .f32⟩
  | 37 => ⟨S512x256, .f32⟩
  | 38 => ⟨S512x256, .f32⟩
  | 39 => ⟨S_, .f32⟩
  | 40 => ⟨S_, .f32⟩
  | 41 => ⟨S_, .f32⟩
  | 42 => ⟨S512x256, .f32⟩
  | 43 => ⟨S512x256, .f32⟩
  | 44 => ⟨S_, .f32⟩
  | 45 => ⟨S512x256, .f32⟩
  | 46 => ⟨S512x256, .f32⟩
  | 47 => ⟨S512x256, .f32⟩
  | 48 => ⟨S512x256, .f32⟩
  | 49 => ⟨S_, .f32⟩
  | 50 => ⟨S512, .f32⟩
  | 51 => ⟨S512x1, .f32⟩
  | 52 => ⟨S512x1, .f32⟩
  | 53 => ⟨S_, .f32⟩
  | 54 => ⟨S_, .f32⟩
  | 55 => ⟨S512x1, .f32⟩
  | 56 => ⟨S512x1, .f32⟩
  | 57 => ⟨S512x256, .f32⟩
  | 58 => ⟨S512x256, .f32⟩
  | 59 => ⟨S_, .f32⟩
  | 60 => ⟨S512, .f32⟩
  | 61 => ⟨S512, .i1⟩
  | 62 => ⟨S512x1, .i1⟩
  | 63 => ⟨S512x256, .i1⟩
  | 64 => ⟨S512x256, .f32⟩
  | 65 => ⟨S_, .f32⟩
  | 66 => ⟨S256x512, .f32⟩
  | 67 => ⟨S1024x512, .f32⟩
  | 68 => ⟨S1024x512, .i32⟩
  | 69 => ⟨S_, .f32⟩
  | 70 => ⟨S_, .i32⟩
  | 71 => ⟨S1024, .f32⟩
  | 72 => ⟨S1024, .i32⟩
  | 73 => ⟨S_, .f32⟩
  | 74 => ⟨S512x256, .f32⟩
  | 75 => ⟨S1024x1, .i32⟩
  | 76 => ⟨S512x256, .f32⟩
  | 77 => ⟨S_, .f32⟩
  | 78 => ⟨S1024, .f32⟩
  | 79 => ⟨S_, .f32⟩
  | 80 => ⟨S512, .f32⟩
  | 81 => ⟨S1024x1, .i32⟩
  | 82 => ⟨S512, .f32⟩
  | 83 => ⟨S_, .f32⟩
  | 84 => ⟨S_, .f32⟩
  | 85 => ⟨S512, .f32⟩
  | 86 => ⟨S512, .f32⟩
  | 87 => ⟨S512x1, .f32⟩
  | 88 => ⟨S512x256, .f32⟩
  | 89 => ⟨S512x256, .f32⟩
  | 90 => ⟨S_, .f32⟩
  | 91 => ⟨S_, .f32⟩
  | 92 => ⟨S_, .f32⟩
  | 93 => ⟨S512x256, .f32⟩
  | 94 => ⟨S512x256, .f32⟩
  | 95 => ⟨S_, .f32⟩
  | 96 => ⟨S512x256, .f32⟩
  | 97 => ⟨S512x256, .f32⟩
  | 98 => ⟨S512x256, .f32⟩
  | 99 => ⟨S512x256, .f32⟩
  | 100 => ⟨S_, .f32⟩
  | 101 => ⟨S512, .f32⟩
  | 102 => ⟨S512x1, .f32⟩
  | 103 => ⟨S512x1, .f32⟩
  | 104 => ⟨S_, .f32⟩
  | 105 => ⟨S_, .f32⟩
  | 106 => ⟨S512x1, .f32⟩
  | 107 => ⟨S512x1, .f32⟩
  | 108 => ⟨S512x256, .f32⟩
  | 109 => ⟨S512x256, .f32⟩
  | 110 => ⟨S_, .f32⟩
  | 111 => ⟨S512, .f32⟩
  | 112 => ⟨S512, .i1⟩
  | 113 => ⟨S512x1, .i1⟩
  | 114 => ⟨S512x256, .i1⟩
  | 115 => ⟨S512x256, .f32⟩
  | 116 => ⟨S_, .f32⟩
  | 117 => ⟨S256x512, .f32⟩
  | 118 => ⟨S1024x512, .f32⟩
  | 119 => ⟨S1024x512, .i32⟩
  | 120 => ⟨S_, .f32⟩
  | 121 => ⟨S_, .i32⟩
  | 122 => ⟨S1024, .f32⟩
  | 123 => ⟨S1024, .i32⟩
  | 124 => ⟨S_, .f32⟩
  | 125 => ⟨S512x256, .f32⟩
  | 126 => ⟨S1024x1, .i32⟩
  | 127 => ⟨S512x256, .f32⟩
  | _ => ⟨S512x256, .f32⟩

abbrev hbmTy0_7 (i : Nat) : BufTy := match i % 128 with
  | 0 => ⟨S_, .f32⟩
  | 1 => ⟨S1024, .f32⟩
  | 2 => ⟨S_, .f32⟩
  | 3 => ⟨S512, .f32⟩
  | 4 => ⟨S1024x1, .i32⟩
  | 5 => ⟨S512, .f32⟩
  | 6 => ⟨S_, .f32⟩
  | 7 => ⟨S_, .f32⟩
  | 8 => ⟨S512, .f32⟩
  | 9 => ⟨S512, .f32⟩
  | 10 => ⟨S512x1, .f32⟩
  | 11 => ⟨S512x256, .f32⟩
  | 12 => ⟨S512x256, .f32⟩
  | 13 => ⟨S_, .f32⟩
  | 14 => ⟨S_, .f32⟩
  | 15 => ⟨S_, .f32⟩
  | 16 => ⟨S512x256, .f32⟩
  | 17 => ⟨S512x256, .f32⟩
  | 18 => ⟨S_, .f32⟩
  | 19 => ⟨S512x256, .f32⟩
  | 20 => ⟨S512x256, .f32⟩
  | 21 => ⟨S512x256, .f32⟩
  | 22 => ⟨S512x256, .f32⟩
  | 23 => ⟨S_, .f32⟩
  | 24 => ⟨S512, .f32⟩
  | 25 => ⟨S512x1, .f32⟩
  | 26 => ⟨S512x1, .f32⟩
  | 27 => ⟨S_, .f32⟩
  | 28 => ⟨S_, .f32⟩
  | 29 => ⟨S512x1, .f32⟩
  | 30 => ⟨S512x1, .f32⟩
  | 31 => ⟨S512x256, .f32⟩
  | 32 => ⟨S512x256, .f32⟩
  | 33 => ⟨S_, .f32⟩
  | 34 => ⟨S512, .f32⟩
  | 35 => ⟨S512, .i1⟩
  | 36 => ⟨S512x1, .i1⟩
  | 37 => ⟨S512x256, .i1⟩
  | 38 => ⟨S512x256, .f32⟩
  | 39 => ⟨S_, .f32⟩
  | 40 => ⟨S256x512, .f32⟩
  | 41 => ⟨S1024x512, .f32⟩
  | 42 => ⟨S1024x512, .i32⟩
  | 43 => ⟨S_, .f32⟩
  | 44 => ⟨S_, .i32⟩
  | 45 => ⟨S1024, .f32⟩
  | 46 => ⟨S1024, .i32⟩
  | 47 => ⟨S_, .f32⟩
  | 48 => ⟨S512x256, .f32⟩
  | 49 => ⟨S1024x1, .i32⟩
  | 50 => ⟨S512x256, .f32⟩
  | 51 => ⟨S_, .f32⟩
  | 52 => ⟨S1024, .f32⟩
  | 53 => ⟨S_, .f32⟩
  | 54 => ⟨S512, .f32⟩
  | 55 => ⟨S1024x1, .i32⟩
  | 56 => ⟨S512, .f32⟩
  | 57 => ⟨S_, .f32⟩
  | 58 => ⟨S_, .f32⟩
  | 59 => ⟨S512, .f32⟩
  | 60 => ⟨S512, .f32⟩
  | 61 => ⟨S512x1, .f32⟩
  | 62 => ⟨S512x256, .f32⟩
  | 63 => ⟨S512x256, .f32⟩
  | 64 => ⟨S_, .f32⟩
  | 65 => ⟨S_, .f32⟩
  | 66 => ⟨S_, .f32⟩
  | 67 => ⟨S512x256, .f32⟩
  | 68 => ⟨S512x256, .f32⟩
  | 69 => ⟨S_, .f32⟩
  | 70 => ⟨S512x256, .f32⟩
  | 71 => ⟨S512x256, .f32⟩
  | 72 => ⟨S512x256, .f32⟩
  | 73 => ⟨S512x256, .f32⟩
  | 74 => ⟨S_, .f32⟩
  | 75 => ⟨S512, .f32⟩
  | 76 => ⟨S512x1, .f32⟩
  | 77 => ⟨S512x1, .f32⟩
  | 78 => ⟨S_, .f32⟩
  | 79 => ⟨S_, .f32⟩
  | 80 => ⟨S512x1, .f32⟩
  | 81 => ⟨S512x1, .f32⟩
  | 82 => ⟨S512x256, .f32⟩
  | 83 => ⟨S512x256, .f32⟩
  | 84 => ⟨S_, .f32⟩
  | 85 => ⟨S512, .f32⟩
  | 86 => ⟨S512, .i1⟩
  | 87 => ⟨S512x1, .i1⟩
  | 88 => ⟨S512x256, .i1⟩
  | 89 => ⟨S512x256, .f32⟩
  | 90 => ⟨S_, .f32⟩
  | 91 => ⟨S256x512, .f32⟩
  | 92 => ⟨S1024x512, .f32⟩
  | 93 => ⟨S1024x512, .i32⟩
  | 94 => ⟨S_, .f32⟩
  | 95 => ⟨S_, .i32⟩
  | 96 => ⟨S1024, .f32⟩
  | 97 => ⟨S1024, .i32⟩
  | 98 => ⟨S_, .f32⟩
  | 99 => ⟨S512x256, .f32⟩
  | 100 => ⟨S1024x1, .i32⟩
  | 101 => ⟨S512x256, .f32⟩
  | 102 => ⟨S_, .f32⟩
  | 103 => ⟨S1024, .f32⟩
  | 104 => ⟨S_, .f32⟩
  | 105 => ⟨S512, .f32⟩
  | 106 => ⟨S1024x1, .i32⟩
  | 107 => ⟨S512, .f32⟩
  | 108 => ⟨S_, .f32⟩
  | 109 => ⟨S_, .f32⟩
  | 110 => ⟨S512, .f32⟩
  | 111 => ⟨S512, .f32⟩
  | 112 => ⟨S512x1, .f32⟩
  | 113 => ⟨S512x256, .f32⟩
  | 114 => ⟨S512x256, .f32⟩
  | 115 => ⟨S_, .f32⟩
  | 116 => ⟨S_, .f32⟩
  | 117 => ⟨S_, .f32⟩
  | 118 => ⟨S512x256, .f32⟩
  | 119 => ⟨S512x256, .f32⟩
  | 120 => ⟨S_, .f32⟩
  | 121 => ⟨S512x256, .f32⟩
  | 122 => ⟨S512x256, .f32⟩
  | 123 => ⟨S512x256, .f32⟩
  | 124 => ⟨S512x256, .f32⟩
  | 125 => ⟨S_, .f32⟩
  | 126 => ⟨S512, .f32⟩
  | 127 => ⟨S512x1, .f32⟩
  | _ => ⟨S512x256, .f32⟩

abbrev hbmTy0_8 (i : Nat) : BufTy := match i % 128 with
  | 0 => ⟨S512x1, .f32⟩
  | 1 => ⟨S_, .f32⟩
  | 2 => ⟨S_, .f32⟩
  | 3 => ⟨S512x1, .f32⟩
  | 4 => ⟨S512x1, .f32⟩
  | 5 => ⟨S512x256, .f32⟩
  | 6 => ⟨S512x256, .f32⟩
  | 7 => ⟨S_, .f32⟩
  | 8 => ⟨S512, .f32⟩
  | 9 => ⟨S512, .i1⟩
  | 10 => ⟨S512x1, .i1⟩
  | 11 => ⟨S512x256, .i1⟩
  | 12 => ⟨S512x256, .f32⟩
  | 13 => ⟨S_, .f32⟩
  | 14 => ⟨S256x512, .f32⟩
  | 15 => ⟨S1024x512, .f32⟩
  | 16 => ⟨S1024x512, .i32⟩
  | 17 => ⟨S_, .f32⟩
  | 18 => ⟨S_, .i32⟩
  | 19 => ⟨S1024, .f32⟩
  | 20 => ⟨S1024, .i32⟩
  | 21 => ⟨S_, .f32⟩
  | 22 => ⟨S512x256, .f32⟩
  | 23 => ⟨S1024x1, .i32⟩
  | 24 => ⟨S512x256, .f32⟩
  | 25 => ⟨S_, .f32⟩
  | 26 => ⟨S1024, .f32⟩
  | 27 => ⟨S_, .f32⟩
  | 28 => ⟨S512, .f32⟩
  | 29 => ⟨S1024x1, .i32⟩
  | 30 => ⟨S512, .f32⟩
  | 31 => ⟨S_, .f32⟩
  | 32 => ⟨S_, .f32⟩
  | 33 => ⟨S512, .f32⟩
  | 34 => ⟨S512, .f32⟩
  | 35 => ⟨S512x1, .f32⟩
  | 36 => ⟨S512x256, .f32⟩
  | 37 => ⟨S512x256, .f32⟩
  | 38 => ⟨S_, .f32⟩
  | 39 => ⟨S_, .f32⟩
  | 40 => ⟨S_, .f32⟩
  | 41 => ⟨S512x256, .f32⟩
  | 42 => ⟨S512x256, .f32⟩
  | 43 => ⟨S_, .f32⟩
  | 44 => ⟨S512x256, .f32⟩
  | 45 => ⟨S512x256, .f32⟩
  | 46 => ⟨S512x256, .f32⟩
  | 47 => ⟨S512x256, .f32⟩
  | 48 => ⟨S_, .f32⟩
  | 49 => ⟨S512, .f32⟩
  | 50 => ⟨S512x1, .f32⟩
  | 51 => ⟨S512x1, .f32⟩
  | 52 => ⟨S_, .f32⟩
  | 53 => ⟨S_, .f32⟩
  | 54 => ⟨S512x1, .f32⟩
  | 55 => ⟨S512x1, .f32⟩
  | 56 => ⟨S512x256, .f32⟩
  | 57 => ⟨S512x256, .f32⟩
  | 58 => ⟨S_, .f32⟩
  | 59 => ⟨S512, .f32⟩
  | 60 => ⟨S512, .i1⟩
  | 61 => ⟨S512x1, .i1⟩
  | 62 => ⟨S512x256, .i1⟩
  | 63 => ⟨S512x256, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1024x256, .f32⟩
  | 73 => ⟨S1024x256, .f32⟩
  | 74 => ⟨S_, .f32⟩
  | 75 => ⟨S1024, .f32⟩
  | 76 => ⟨S1024x1, .f32⟩
  | 77 => ⟨S1024x1, .f32⟩
  | 78 => ⟨S_, .f32⟩
  | 79 => ⟨S_, .f32⟩
  | 80 => ⟨S1024x1, .f32⟩
  | 81 => ⟨S1024x1, .f32⟩
  | 82 => ⟨S1024x256, .f32⟩
  | 83 => ⟨S1024x256, .f32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S1024x256, .f32⟩
  | 93 => ⟨S1024x256, .f32⟩
  | 94 => ⟨S_, .f32⟩
  | 95 => ⟨S1024, .f32⟩
  | 96 => ⟨S1024x1, .f32⟩
  | 97 => ⟨S1024x1, .f32⟩
  | 98 => ⟨S_, .f32⟩
  | 99 => ⟨S_, .f32⟩
  | 100 => ⟨S1024x1, .f32⟩
  | 101 => ⟨S1024x1, .f32⟩
  | 102 => ⟨S1024x256, .f32⟩
  | 103 => ⟨S1024x256, .f32⟩
  | 104 => ⟨S256x512, .f32⟩
  | 105 => ⟨S1024x512, .f32⟩
  | 106 => ⟨S_, .f32⟩
  | 107 => ⟨S1024, .f32⟩
  | 108 => ⟨S_, .f32⟩
  | 109 => ⟨S_, .f32⟩
  | 110 => ⟨S_, .f32⟩
  | 111 => ⟨S_, .f32⟩
  | 112 => ⟨S256x512, .f32⟩
  | 113 => ⟨S1024x512, .f32⟩
  | 114 => ⟨S_, .f32⟩
  | 115 => ⟨S1024, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .i32⟩
  | 126 => ⟨S1024, .i32⟩
  | 127 => ⟨S1024, .i1⟩
  | _ => ⟨S512x256, .f32⟩

abbrev hbmTy0_9 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1024x256, .f32⟩
  | 6 => ⟨S1024x256, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S_, .f32⟩
  | 13 => ⟨S1024x1, .f32⟩
  | 14 => ⟨S1024x1, .f32⟩
  | 15 => ⟨S1024x256, .f32⟩
  | 16 => ⟨S1024x256, .f32⟩
  | 17 => ⟨S256x512, .f32⟩
  | 18 => ⟨S1024x512, .f32⟩
  | 19 => ⟨S_, .f32⟩
  | 20 => ⟨S1024x512, .f32⟩
  | 21 => ⟨S1024x512, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .i1⟩
  | 28 => ⟨S_, .f32⟩
  | 29 => ⟨S1024, .f32⟩
  | 30 => ⟨S1024, .f32⟩
  | 31 => ⟨S1024x1, .f32⟩
  | 32 => ⟨S1024x512, .f32⟩
  | 33 => ⟨S1024x512, .f32⟩
  | 34 => ⟨S1024x512, .f32⟩
  | 35 => ⟨S_, .f32⟩
  | 36 => ⟨S1024, .f32⟩
  | 37 => ⟨S1024, .f32⟩
  | 38 => ⟨S1024, .f32⟩
  | 39 => ⟨S256x512, .f32⟩
  | 40 => ⟨S1024x512, .f32⟩
  | 41 => ⟨S_, .f32⟩
  | 42 => ⟨S1024x512, .f32⟩
  | 43 => ⟨S1024x512, .f32⟩
  | 44 => ⟨S1024x1024, .f32⟩
  | 45 => ⟨S_, .f32⟩
  | 46 => ⟨S1024, .f32⟩
  | 47 => ⟨S1024, .f32⟩
  | 48 => ⟨S_, .f32⟩
  | 49 => ⟨S1024, .f32⟩
  | 50 => ⟨S1024, .i1⟩
  | 51 => ⟨S_, .f32⟩
  | 52 => ⟨S1024, .f32⟩
  | 53 => ⟨S1024, .f32⟩
  | 54 => ⟨S1024x1, .f32⟩
  | 55 => ⟨S1024x1024, .f32⟩
  | 56 => ⟨S1024x1024, .f32⟩
  | 57 => ⟨S1024x1024, .f32⟩
  | 58 => ⟨S_, .f32⟩
  | 59 => ⟨S1024, .f32⟩
  | 60 => ⟨S1024, .f32⟩
  | 61 => ⟨S1024, .f32⟩
  | 62 => ⟨S1024, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S512x256, .f32⟩
  | 73 => ⟨S512x256, .f32⟩
  | 74 => ⟨S_, .f32⟩
  | 75 => ⟨S512x256, .f32⟩
  | 76 => ⟨S512x256, .f32⟩
  | 77 => ⟨S512x256, .f32⟩
  | 78 => ⟨S512x256, .f32⟩
  | 79 => ⟨S_, .f32⟩
  | 80 => ⟨S512, .f32⟩
  | 81 => ⟨S512x1, .f32⟩
  | 82 => ⟨S512x1, .f32⟩
  | 83 => ⟨S_, .f32⟩
  | 84 => ⟨S_, .f32⟩
  | 85 => ⟨S512x1, .f32⟩
  | 86 => ⟨S512x1, .f32⟩
  | 87 => ⟨S512x256, .f32⟩
  | 88 => ⟨S512x256, .f32⟩
  | 89 => ⟨S_, .f32⟩
  | 90 => ⟨S512x256, .f32⟩
  | 91 => ⟨S512x256, .f32⟩
  | 92 => ⟨S_, .f32⟩
  | 93 => ⟨S512x256, .f32⟩
  | 94 => ⟨S512x256, .f32⟩
  | 95 => ⟨S512x256, .f32⟩
  | 96 => ⟨S512x256, .f32⟩
  | 97 => ⟨S_, .f32⟩
  | 98 => ⟨S512, .f32⟩
  | 99 => ⟨S512x1, .f32⟩
  | 100 => ⟨S512x1, .f32⟩
  | 101 => ⟨S_, .f32⟩
  | 102 => ⟨S_, .f32⟩
  | 103 => ⟨S512x1, .f32⟩
  | 104 => ⟨S512x1, .f32⟩
  | 105 => ⟨S512x256, .f32⟩
  | 106 => ⟨S512x256, .f32⟩
  | _ => ⟨S512x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v5 : Ref sig .tc := ⟨.hbm, 19, rfl⟩
abbrev main_cst_1 : Ref sig .tc := ⟨.hbm, 20, rfl⟩
abbrev main_call3_v0 : Ref sig .tc := ⟨.hbm, 21, rfl⟩
abbrev main_call3_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_values : Ref sig .tc := ⟨.hbm, 46, rfl⟩
abbrev main_indices : Ref sig .tc := ⟨.hbm, 47, rfl⟩
abbrev main_values_7 : Ref sig .tc := ⟨.hbm, 48, rfl⟩
abbrev main_indices_8 : Ref sig .tc := ⟨.hbm, 49, rfl⟩
abbrev main_c : Ref sig .tc := ⟨.hbm, 50, rfl⟩
abbrev main_v24 : Ref sig .tc := ⟨.hbm, 51, rfl⟩
abbrev main_v25 : Ref sig .tc := ⟨.hbm, 52, rfl⟩
abbrev main_c_9 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_10 : Ref sig .tc := ⟨.hbm, 59, rfl⟩
abbrev main_v31 : Ref sig .tc := ⟨.hbm, 60, rfl⟩
abbrev main_v32 : Ref sig .tc := ⟨.hbm, 61, rfl⟩
abbrev main_c_11 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_12 : Ref sig .tc := ⟨.hbm, 68, rfl⟩
abbrev main_call4_v0 : Ref sig .tc := ⟨.hbm, 69, rfl⟩
abbrev main_call4_v1 : Ref sig .tc := ⟨.hbm, 70, rfl⟩
abbrev main_call4_call0_v0 : Ref sig .tc := ⟨.hbm, 71, rfl⟩
abbrev main_call4_call0_cst : Ref sig .tc := ⟨.hbm, 72, rfl⟩
abbrev main_call4_call0_c : Ref sig .tc := ⟨.hbm, 73, rfl⟩
abbrev main_call4_call0_v1_0 : Ref sig .tc := ⟨.hbm, 74, rfl⟩
abbrev main_call4_v2 : Ref sig .tc := ⟨.hbm, 75, rfl⟩
abbrev main_call4_cst : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_cst_0 : Ref sig .tc := ⟨.hbm, 80, rfl⟩
abbrev main_call4_v6 : Ref sig .tc := ⟨.hbm, 81, rfl⟩
abbrev main_call4_cst_1 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_cst_2 : Ref sig .tc := ⟨.hbm, 86, rfl⟩
abbrev main_call4_call1_v0 : Ref sig .tc := ⟨.hbm, 87, rfl⟩
abbrev main_call4_call1_v1 : Ref sig .tc := ⟨.hbm, 88, rfl⟩
abbrev main_call4_v10 : Ref sig .tc := ⟨.hbm, 89, rfl⟩
abbrev main_call4_v11 : Ref sig .tc := ⟨.hbm, 90, rfl⟩
abbrev main_call4_v12 : Ref sig .tc := ⟨.hbm, 91, rfl⟩
abbrev main_call4_v13 : Ref sig .tc := ⟨.hbm, 92, rfl⟩
abbrev main_call4_cst_3 : Ref sig .tc := ⟨.hbm, 93, rfl⟩
abbrev main_call4_v14 : Ref sig .tc := ⟨.hbm, 94, rfl⟩
abbrev main_call4_v15 : Ref sig .tc := ⟨.hbm, 95, rfl⟩
abbrev main_call4_v16 : Ref sig .tc := ⟨.hbm, 96, rfl⟩
abbrev main_call4_v17 : Ref sig .tc := ⟨.hbm, 97, rfl⟩
abbrev main_call4_v18 : Ref sig .tc := ⟨.hbm, 98, rfl⟩
abbrev main_call4_v19 : Ref sig .tc := ⟨.hbm, 99, rfl⟩
abbrev main_call4_v20 : Ref sig .tc := ⟨.hbm, 100, rfl⟩
abbrev main_call4_v21 : Ref sig .tc := ⟨.hbm, 101, rfl⟩
abbrev main_call4_call2_v0 : Ref sig .tc := ⟨.hbm, 102, rfl⟩
abbrev main_call4_call2_cst : Ref sig .tc := ⟨.hbm, 103, rfl⟩
abbrev main_call4_call2_v1 : Ref sig .tc := ⟨.hbm, 104, rfl⟩
abbrev main_call4_call2_v2 : Ref sig .tc := ⟨.hbm, 105, rfl⟩
abbrev main_call4_v22 : Ref sig .tc := ⟨.hbm, 106, rfl⟩
abbrev main_call4_cst_4 : Ref sig .tc := ⟨.hbm, 107, rfl⟩
abbrev main_call4_call3_v0 : Ref sig .tc := ⟨.hbm, 108, rfl⟩
abbrev main_call4_call3_v1 : Ref sig .tc := ⟨.hbm, 109, rfl⟩
abbrev main_call4_v23 : Ref sig .tc := ⟨.hbm, 110, rfl⟩
abbrev main_call4_v24 : Ref sig .tc := ⟨.hbm, 111, rfl⟩
abbrev main_call4_v25 : Ref sig .tc := ⟨.hbm, 112, rfl⟩
abbrev main_call4_cst_5 : Ref sig .tc := ⟨.hbm, 113, rfl⟩
abbrev main_call4_v26 : Ref sig .tc := ⟨.hbm, 114, rfl⟩
abbrev main_call4_v27 : Ref sig .tc := ⟨.hbm, 115, rfl⟩
abbrev main_call4_v28 : Ref sig .tc := ⟨.hbm, 116, rfl⟩
abbrev main_call4_call4_v0 : Ref sig .tc := ⟨.hbm, 117, rfl⟩
abbrev main_v38 : Ref sig .tc := ⟨.hbm, 118, rfl⟩
abbrev main_cst_13 : Ref sig .tc := ⟨.hbm, 119, rfl⟩
abbrev main_call5_v0 : Ref sig .tc := ⟨.hbm, 120, rfl⟩
abbrev main_call5_v1 : Ref sig .tc := ⟨.hbm, 121, rfl⟩
abbrev main_call5_call0_v0 : Ref sig .tc := ⟨.hbm, 122, rfl⟩
abbrev main_call5_call0_cst : Ref sig .tc := ⟨.hbm, 123, rfl⟩
abbrev main_call5_call0_c : Ref sig .tc := ⟨.hbm, 124, rfl⟩
abbrev main_call5_call0_v1_0 : Ref sig .tc := ⟨.hbm, 125, rfl⟩
abbrev main_call5_v2 : Ref sig .tc := ⟨.hbm, 126, rfl⟩
abbrev main_call5_cst : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_cst_0 : Ref sig .tc := ⟨.hbm, 131, rfl⟩
abbrev main_call5_v6 : Ref sig .tc := ⟨.hbm, 132, rfl⟩
abbrev main_call5_cst_1 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_cst_2 : Ref sig .tc := ⟨.hbm, 137, rfl⟩
abbrev main_call5_call1_v0 : Ref sig .tc := ⟨.hbm, 138, rfl⟩
abbrev main_call5_call1_v1 : Ref sig .tc := ⟨.hbm, 139, rfl⟩
abbrev main_call5_v10 : Ref sig .tc := ⟨.hbm, 140, rfl⟩
abbrev main_call5_v11 : Ref sig .tc := ⟨.hbm, 141, rfl⟩
abbrev main_call5_v12 : Ref sig .tc := ⟨.hbm, 142, rfl⟩
abbrev main_call5_v13 : Ref sig .tc := ⟨.hbm, 143, rfl⟩
abbrev main_call5_cst_3 : Ref sig .tc := ⟨.hbm, 144, rfl⟩
abbrev main_call5_v14 : Ref sig .tc := ⟨.hbm, 145, rfl⟩
abbrev main_call5_v15 : Ref sig .tc := ⟨.hbm, 146, rfl⟩
abbrev main_call5_v16 : Ref sig .tc := ⟨.hbm, 147, rfl⟩
abbrev main_call5_v17 : Ref sig .tc := ⟨.hbm, 148, rfl⟩
abbrev main_call5_v18 : Ref sig .tc := ⟨.hbm, 149, rfl⟩
abbrev main_call5_v19 : Ref sig .tc := ⟨.hbm, 150, rfl⟩
abbrev main_call5_v20 : Ref sig .tc := ⟨.hbm, 151, rfl⟩
abbrev main_call5_v21 : Ref sig .tc := ⟨.hbm, 152, rfl⟩
abbrev main_call5_call2_v0 : Ref sig .tc := ⟨.hbm, 153, rfl⟩
abbrev main_call5_call2_cst : Ref sig .tc := ⟨.hbm, 154, rfl⟩
abbrev main_call5_call2_v1 : Ref sig .tc := ⟨.hbm, 155, rfl⟩
abbrev main_call5_call2_v2 : Ref sig .tc := ⟨.hbm, 156, rfl⟩
abbrev main_call5_v22 : Ref sig .tc := ⟨.hbm, 157, rfl⟩
abbrev main_call5_cst_4 : Ref sig .tc := ⟨.hbm, 158, rfl⟩
abbrev main_call5_call3_v0 : Ref sig .tc := ⟨.hbm, 159, rfl⟩
abbrev main_call5_call3_v1 : Ref sig .tc := ⟨.hbm, 160, rfl⟩
abbrev main_call5_v23 : Ref sig .tc := ⟨.hbm, 161, rfl⟩
abbrev main_call5_v24 : Ref sig .tc := ⟨.hbm, 162, rfl⟩
abbrev main_call5_v25 : Ref sig .tc := ⟨.hbm, 163, rfl⟩
abbrev main_call5_cst_5 : Ref sig .tc := ⟨.hbm, 164, rfl⟩
abbrev main_call5_v26 : Ref sig .tc := ⟨.hbm, 165, rfl⟩
abbrev main_call5_v27 : Ref sig .tc := ⟨.hbm, 166, rfl⟩
abbrev main_call5_v28 : Ref sig .tc := ⟨.hbm, 167, rfl⟩
abbrev main_call5_call4_v0 : Ref sig .tc := ⟨.hbm, 168, rfl⟩
abbrev main_v39 : Ref sig .tc := ⟨.hbm, 169, rfl⟩
abbrev main_cst_14 : Ref sig .tc := ⟨.hbm, 170, rfl⟩
abbrev main_call6_v0 : Ref sig .tc := ⟨.hbm, 171, rfl⟩
abbrev main_call6_v1 : Ref sig .tc := ⟨.hbm, 172, rfl⟩
abbrev main_call6_call0_v0 : Ref sig .tc := ⟨.hbm, 173, rfl⟩
abbrev main_call6_call0_cst : Ref sig .tc := ⟨.hbm, 174, rfl⟩
abbrev main_call6_call0_c : Ref sig .tc := ⟨.hbm, 175, rfl⟩
abbrev main_call6_call0_v1_0 : Ref sig .tc := ⟨.hbm, 176, rfl⟩
abbrev main_call6_v2 : Ref sig .tc := ⟨.hbm, 177, rfl⟩
abbrev main_call6_cst : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_cst_0 : Ref sig .tc := ⟨.hbm, 182, rfl⟩
abbrev main_call6_v6 : Ref sig .tc := ⟨.hbm, 183, rfl⟩
abbrev main_call6_cst_1 : Ref sig .tc := ⟨.hbm, 184, rfl⟩
abbrev main_call6_v7 : Ref sig .tc := ⟨.hbm, 185, rfl⟩
abbrev main_call6_v8 : Ref sig .tc := ⟨.hbm, 186, rfl⟩
abbrev main_call6_v9 : Ref sig .tc := ⟨.hbm, 187, rfl⟩
abbrev main_call6_cst_2 : Ref sig .tc := ⟨.hbm, 188, rfl⟩
abbrev main_call6_call1_v0 : Ref sig .tc := ⟨.hbm, 189, rfl⟩
abbrev main_call6_call1_v1 : Ref sig .tc := ⟨.hbm, 190, rfl⟩
abbrev main_call6_v10 : Ref sig .tc := ⟨.hbm, 191, rfl⟩
abbrev main_call6_v11 : Ref sig .tc := ⟨.hbm, 192, rfl⟩
abbrev main_call6_v12 : Ref sig .tc := ⟨.hbm, 193, rfl⟩
abbrev main_call6_v13 : Ref sig .tc := ⟨.hbm, 194, rfl⟩
abbrev main_call6_cst_3 : Ref sig .tc := ⟨.hbm, 195, rfl⟩
abbrev main_call6_v14 : Ref sig .tc := ⟨.hbm, 196, rfl⟩
abbrev main_call6_v15 : Ref sig .tc := ⟨.hbm, 197, rfl⟩
abbrev main_call6_v16 : Ref sig .tc := ⟨.hbm, 198, rfl⟩
abbrev main_call6_v17 : Ref sig .tc := ⟨.hbm, 199, rfl⟩
abbrev main_call6_v18 : Ref sig .tc := ⟨.hbm, 200, rfl⟩
abbrev main_call6_v19 : Ref sig .tc := ⟨.hbm, 201, rfl⟩
abbrev main_call6_v20 : Ref sig .tc := ⟨.hbm, 202, rfl⟩
abbrev main_call6_v21 : Ref sig .tc := ⟨.hbm, 203, rfl⟩
abbrev main_call6_call2_v0 : Ref sig .tc := ⟨.hbm, 204, rfl⟩
abbrev main_call6_call2_cst : Ref sig .tc := ⟨.hbm, 205, rfl⟩
abbrev main_call6_call2_v1 : Ref sig .tc := ⟨.hbm, 206, rfl⟩
abbrev main_call6_call2_v2 : Ref sig .tc := ⟨.hbm, 207, rfl⟩
abbrev main_call6_v22 : Ref sig .tc := ⟨.hbm, 208, rfl⟩
abbrev main_call6_cst_4 : Ref sig .tc := ⟨.hbm, 209, rfl⟩
abbrev main_call6_call3_v0 : Ref sig .tc := ⟨.hbm, 210, rfl⟩
abbrev main_call6_call3_v1 : Ref sig .tc := ⟨.hbm, 211, rfl⟩
abbrev main_call6_v23 : Ref sig .tc := ⟨.hbm, 212, rfl⟩
abbrev main_call6_v24 : Ref sig .tc := ⟨.hbm, 213, rfl⟩
abbrev main_call6_v25 : Ref sig .tc := ⟨.hbm, 214, rfl⟩
abbrev main_call6_cst_5 : Ref sig .tc := ⟨.hbm, 215, rfl⟩
abbrev main_call6_v26 : Ref sig .tc := ⟨.hbm, 216, rfl⟩
abbrev main_call6_v27 : Ref sig .tc := ⟨.hbm, 217, rfl⟩
abbrev main_call6_v28 : Ref sig .tc := ⟨.hbm, 218, rfl⟩
abbrev main_call6_call4_v0 : Ref sig .tc := ⟨.hbm, 219, rfl⟩
abbrev main_v40 : Ref sig .tc := ⟨.hbm, 220, rfl⟩
abbrev main_cst_15 : Ref sig .tc := ⟨.hbm, 221, rfl⟩
abbrev main_call7_v0 : Ref sig .tc := ⟨.hbm, 222, rfl⟩
abbrev main_call7_v1 : Ref sig .tc := ⟨.hbm, 223, rfl⟩
abbrev main_call7_call0_v0 : Ref sig .tc := ⟨.hbm, 224, rfl⟩
abbrev main_call7_call0_cst : Ref sig .tc := ⟨.hbm, 225, rfl⟩
abbrev main_call7_call0_c : Ref sig .tc := ⟨.hbm, 226, rfl⟩
abbrev main_call7_call0_v1_0 : Ref sig .tc := ⟨.hbm, 227, rfl⟩
abbrev main_call7_v2 : Ref sig .tc := ⟨.hbm, 228, rfl⟩
abbrev main_call7_cst : Ref sig .tc := ⟨.hbm, 229, rfl⟩
abbrev main_call7_v3 : Ref sig .tc := ⟨.hbm, 230, rfl⟩
abbrev main_call7_v4 : Ref sig .tc := ⟨.hbm, 231, rfl⟩
abbrev main_call7_v5 : Ref sig .tc := ⟨.hbm, 232, rfl⟩
abbrev main_call7_cst_0 : Ref sig .tc := ⟨.hbm, 233, rfl⟩
abbrev main_call7_v6 : Ref sig .tc := ⟨.hbm, 234, rfl⟩
abbrev main_call7_cst_1 : Ref sig .tc := ⟨.hbm, 235, rfl⟩
abbrev main_call7_v7 : Ref sig .tc := ⟨.hbm, 236, rfl⟩
abbrev main_call7_v8 : Ref sig .tc := ⟨.hbm, 237, rfl⟩
abbrev main_call7_v9 : Ref sig .tc := ⟨.hbm, 238, rfl⟩
abbrev main_call7_cst_2 : Ref sig .tc := ⟨.hbm, 239, rfl⟩
abbrev main_call7_call1_v0 : Ref sig .tc := ⟨.hbm, 240, rfl⟩
abbrev main_call7_call1_v1 : Ref sig .tc := ⟨.hbm, 241, rfl⟩
abbrev main_call7_v10 : Ref sig .tc := ⟨.hbm, 242, rfl⟩
abbrev main_call7_v11 : Ref sig .tc := ⟨.hbm, 243, rfl⟩
abbrev main_call7_v12 : Ref sig .tc := ⟨.hbm, 244, rfl⟩
abbrev main_call7_v13 : Ref sig .tc := ⟨.hbm, 245, rfl⟩
abbrev main_call7_cst_3 : Ref sig .tc := ⟨.hbm, 246, rfl⟩
abbrev main_call7_v14 : Ref sig .tc := ⟨.hbm, 247, rfl⟩
abbrev main_call7_v15 : Ref sig .tc := ⟨.hbm, 248, rfl⟩
abbrev main_call7_v16 : Ref sig .tc := ⟨.hbm, 249, rfl⟩
abbrev main_call7_v17 : Ref sig .tc := ⟨.hbm, 250, rfl⟩
abbrev main_call7_v18 : Ref sig .tc := ⟨.hbm, 251, rfl⟩
abbrev main_call7_v19 : Ref sig .tc := ⟨.hbm, 252, rfl⟩
abbrev main_call7_v20 : Ref sig .tc := ⟨.hbm, 253, rfl⟩
abbrev main_call7_v21 : Ref sig .tc := ⟨.hbm, 254, rfl⟩
abbrev main_call7_call2_v0 : Ref sig .tc := ⟨.hbm, 255, rfl⟩
abbrev main_call7_call2_cst : Ref sig .tc := ⟨.hbm, 256, rfl⟩
abbrev main_call7_call2_v1 : Ref sig .tc := ⟨.hbm, 257, rfl⟩
abbrev main_call7_call2_v2 : Ref sig .tc := ⟨.hbm, 258, rfl⟩
abbrev main_call7_v22 : Ref sig .tc := ⟨.hbm, 259, rfl⟩
abbrev main_call7_cst_4 : Ref sig .tc := ⟨.hbm, 260, rfl⟩
abbrev main_call7_call3_v0 : Ref sig .tc := ⟨.hbm, 261, rfl⟩
abbrev main_call7_call3_v1 : Ref sig .tc := ⟨.hbm, 262, rfl⟩
abbrev main_call7_v23 : Ref sig .tc := ⟨.hbm, 263, rfl⟩
abbrev main_call7_v24 : Ref sig .tc := ⟨.hbm, 264, rfl⟩
abbrev main_call7_v25 : Ref sig .tc := ⟨.hbm, 265, rfl⟩
abbrev main_call7_cst_5 : Ref sig .tc := ⟨.hbm, 266, rfl⟩
abbrev main_call7_v26 : Ref sig .tc := ⟨.hbm, 267, rfl⟩
abbrev main_call7_v27 : Ref sig .tc := ⟨.hbm, 268, rfl⟩
abbrev main_call7_v28 : Ref sig .tc := ⟨.hbm, 269, rfl⟩
abbrev main_call7_call4_v0 : Ref sig .tc := ⟨.hbm, 270, rfl⟩
abbrev main_v41 : Ref sig .tc := ⟨.hbm, 271, rfl⟩
abbrev main_cst_16 : Ref sig .tc := ⟨.hbm, 272, rfl⟩
abbrev main_call8_v0 : Ref sig .tc := ⟨.hbm, 273, rfl⟩
abbrev main_call8_v1 : Ref sig .tc := ⟨.hbm, 274, rfl⟩
abbrev main_call8_call0_v0 : Ref sig .tc := ⟨.hbm, 275, rfl⟩
abbrev main_call8_call0_cst : Ref sig .tc := ⟨.hbm, 276, rfl⟩
abbrev main_call8_call0_c : Ref sig .tc := ⟨.hbm, 277, rfl⟩
abbrev main_call8_call0_v1_0 : Ref sig .tc := ⟨.hbm, 278, rfl⟩
abbrev main_call8_v2 : Ref sig .tc := ⟨.hbm, 279, rfl⟩
abbrev main_call8_cst : Ref sig .tc := ⟨.hbm, 280, rfl⟩
abbrev main_call8_v3 : Ref sig .tc := ⟨.hbm, 281, rfl⟩
abbrev main_call8_v4 : Ref sig .tc := ⟨.hbm, 282, rfl⟩
abbrev main_call8_v5 : Ref sig .tc := ⟨.hbm, 283, rfl⟩
abbrev main_call8_cst_0 : Ref sig .tc := ⟨.hbm, 284, rfl⟩
abbrev main_call8_v6 : Ref sig .tc := ⟨.hbm, 285, rfl⟩
abbrev main_call8_cst_1 : Ref sig .tc := ⟨.hbm, 286, rfl⟩
abbrev main_call8_v7 : Ref sig .tc := ⟨.hbm, 287, rfl⟩
abbrev main_call8_v8 : Ref sig .tc := ⟨.hbm, 288, rfl⟩
abbrev main_call8_v9 : Ref sig .tc := ⟨.hbm, 289, rfl⟩
abbrev main_call8_cst_2 : Ref sig .tc := ⟨.hbm, 290, rfl⟩
abbrev main_call8_call1_v0 : Ref sig .tc := ⟨.hbm, 291, rfl⟩
abbrev main_call8_call1_v1 : Ref sig .tc := ⟨.hbm, 292, rfl⟩
abbrev main_call8_v10 : Ref sig .tc := ⟨.hbm, 293, rfl⟩
abbrev main_call8_v11 : Ref sig .tc := ⟨.hbm, 294, rfl⟩
abbrev main_call8_v12 : Ref sig .tc := ⟨.hbm, 295, rfl⟩
abbrev main_call8_v13 : Ref sig .tc := ⟨.hbm, 296, rfl⟩
abbrev main_call8_cst_3 : Ref sig .tc := ⟨.hbm, 297, rfl⟩
abbrev main_call8_v14 : Ref sig .tc := ⟨.hbm, 298, rfl⟩
abbrev main_call8_v15 : Ref sig .tc := ⟨.hbm, 299, rfl⟩
abbrev main_call8_v16 : Ref sig .tc := ⟨.hbm, 300, rfl⟩
abbrev main_call8_v17 : Ref sig .tc := ⟨.hbm, 301, rfl⟩
abbrev main_call8_v18 : Ref sig .tc := ⟨.hbm, 302, rfl⟩
abbrev main_call8_v19 : Ref sig .tc := ⟨.hbm, 303, rfl⟩
abbrev main_call8_v20 : Ref sig .tc := ⟨.hbm, 304, rfl⟩
abbrev main_call8_v21 : Ref sig .tc := ⟨.hbm, 305, rfl⟩
abbrev main_call8_call2_v0 : Ref sig .tc := ⟨.hbm, 306, rfl⟩
abbrev main_call8_call2_cst : Ref sig .tc := ⟨.hbm, 307, rfl⟩
abbrev main_call8_call2_v1 : Ref sig .tc := ⟨.hbm, 308, rfl⟩
abbrev main_call8_call2_v2 : Ref sig .tc := ⟨.hbm, 309, rfl⟩
abbrev main_call8_v22 : Ref sig .tc := ⟨.hbm, 310, rfl⟩
abbrev main_call8_cst_4 : Ref sig .tc := ⟨.hbm, 311, rfl⟩
abbrev main_call8_call3_v0 : Ref sig .tc := ⟨.hbm, 312, rfl⟩
abbrev main_call8_call3_v1 : Ref sig .tc := ⟨.hbm, 313, rfl⟩
abbrev main_call8_v23 : Ref sig .tc := ⟨.hbm, 314, rfl⟩
abbrev main_call8_v24 : Ref sig .tc := ⟨.hbm, 315, rfl⟩
abbrev main_call8_v25 : Ref sig .tc := ⟨.hbm, 316, rfl⟩
abbrev main_call8_cst_5 : Ref sig .tc := ⟨.hbm, 317, rfl⟩
abbrev main_call8_v26 : Ref sig .tc := ⟨.hbm, 318, rfl⟩
abbrev main_call8_v27 : Ref sig .tc := ⟨.hbm, 319, rfl⟩
abbrev main_call8_v28 : Ref sig .tc := ⟨.hbm, 320, rfl⟩
abbrev main_call8_call4_v0 : Ref sig .tc := ⟨.hbm, 321, rfl⟩
abbrev main_v42 : Ref sig .tc := ⟨.hbm, 322, rfl⟩
abbrev main_cst_17 : Ref sig .tc := ⟨.hbm, 323, rfl⟩
abbrev main_call9_v0 : Ref sig .tc := ⟨.hbm, 324, rfl⟩
abbrev main_call9_v1 : Ref sig .tc := ⟨.hbm, 325, rfl⟩
abbrev main_call9_call0_v0 : Ref sig .tc := ⟨.hbm, 326, rfl⟩
abbrev main_call9_call0_cst : Ref sig .tc := ⟨.hbm, 327, rfl⟩
abbrev main_call9_call0_c : Ref sig .tc := ⟨.hbm, 328, rfl⟩
abbrev main_call9_call0_v1_0 : Ref sig .tc := ⟨.hbm, 329, rfl⟩
abbrev main_call9_v2 : Ref sig .tc := ⟨.hbm, 330, rfl⟩
abbrev main_call9_cst : Ref sig .tc := ⟨.hbm, 331, rfl⟩
abbrev main_call9_v3 : Ref sig .tc := ⟨.hbm, 332, rfl⟩
abbrev main_call9_v4 : Ref sig .tc := ⟨.hbm, 333, rfl⟩
abbrev main_call9_v5 : Ref sig .tc := ⟨.hbm, 334, rfl⟩
abbrev main_call9_cst_0 : Ref sig .tc := ⟨.hbm, 335, rfl⟩
abbrev main_call9_v6 : Ref sig .tc := ⟨.hbm, 336, rfl⟩
abbrev main_call9_cst_1 : Ref sig .tc := ⟨.hbm, 337, rfl⟩
abbrev main_call9_v7 : Ref sig .tc := ⟨.hbm, 338, rfl⟩
abbrev main_call9_v8 : Ref sig .tc := ⟨.hbm, 339, rfl⟩
abbrev main_call9_v9 : Ref sig .tc := ⟨.hbm, 340, rfl⟩
abbrev main_call9_cst_2 : Ref sig .tc := ⟨.hbm, 341, rfl⟩
abbrev main_call9_call1_v0 : Ref sig .tc := ⟨.hbm, 342, rfl⟩
abbrev main_call9_call1_v1 : Ref sig .tc := ⟨.hbm, 343, rfl⟩
abbrev main_call9_v10 : Ref sig .tc := ⟨.hbm, 344, rfl⟩
abbrev main_call9_v11 : Ref sig .tc := ⟨.hbm, 345, rfl⟩
abbrev main_call9_v12 : Ref sig .tc := ⟨.hbm, 346, rfl⟩
abbrev main_call9_v13 : Ref sig .tc := ⟨.hbm, 347, rfl⟩
abbrev main_call9_cst_3 : Ref sig .tc := ⟨.hbm, 348, rfl⟩
abbrev main_call9_v14 : Ref sig .tc := ⟨.hbm, 349, rfl⟩
abbrev main_call9_v15 : Ref sig .tc := ⟨.hbm, 350, rfl⟩
abbrev main_call9_v16 : Ref sig .tc := ⟨.hbm, 351, rfl⟩
abbrev main_call9_v17 : Ref sig .tc := ⟨.hbm, 352, rfl⟩
abbrev main_call9_v18 : Ref sig .tc := ⟨.hbm, 353, rfl⟩
abbrev main_call9_v19 : Ref sig .tc := ⟨.hbm, 354, rfl⟩
abbrev main_call9_v20 : Ref sig .tc := ⟨.hbm, 355, rfl⟩
abbrev main_call9_v21 : Ref sig .tc := ⟨.hbm, 356, rfl⟩
abbrev main_call9_call2_v0 : Ref sig .tc := ⟨.hbm, 357, rfl⟩
abbrev main_call9_call2_cst : Ref sig .tc := ⟨.hbm, 358, rfl⟩
abbrev main_call9_call2_v1 : Ref sig .tc := ⟨.hbm, 359, rfl⟩
abbrev main_call9_call2_v2 : Ref sig .tc := ⟨.hbm, 360, rfl⟩
abbrev main_call9_v22 : Ref sig .tc := ⟨.hbm, 361, rfl⟩
abbrev main_call9_cst_4 : Ref sig .tc := ⟨.hbm, 362, rfl⟩
abbrev main_call9_call3_v0 : Ref sig .tc := ⟨.hbm, 363, rfl⟩
abbrev main_call9_call3_v1 : Ref sig .tc := ⟨.hbm, 364, rfl⟩
abbrev main_call9_v23 : Ref sig .tc := ⟨.hbm, 365, rfl⟩
abbrev main_call9_v24 : Ref sig .tc := ⟨.hbm, 366, rfl⟩
abbrev main_call9_v25 : Ref sig .tc := ⟨.hbm, 367, rfl⟩
abbrev main_call9_cst_5 : Ref sig .tc := ⟨.hbm, 368, rfl⟩
abbrev main_call9_v26 : Ref sig .tc := ⟨.hbm, 369, rfl⟩
abbrev main_call9_v27 : Ref sig .tc := ⟨.hbm, 370, rfl⟩
abbrev main_call9_v28 : Ref sig .tc := ⟨.hbm, 371, rfl⟩
abbrev main_call9_call4_v0 : Ref sig .tc := ⟨.hbm, 372, rfl⟩
abbrev main_v43 : Ref sig .tc := ⟨.hbm, 373, rfl⟩
abbrev main_cst_18 : Ref sig .tc := ⟨.hbm, 374, rfl⟩
abbrev main_call10_v0 : Ref sig .tc := ⟨.hbm, 375, rfl⟩
abbrev main_call10_v1 : Ref sig .tc := ⟨.hbm, 376, rfl⟩
abbrev main_call10_call0_v0 : Ref sig .tc := ⟨.hbm, 377, rfl⟩
abbrev main_call10_call0_cst : Ref sig .tc := ⟨.hbm, 378, rfl⟩
abbrev main_call10_call0_c : Ref sig .tc := ⟨.hbm, 379, rfl⟩
abbrev main_call10_call0_v1_0 : Ref sig .tc := ⟨.hbm, 380, rfl⟩
abbrev main_call10_v2 : Ref sig .tc := ⟨.hbm, 381, rfl⟩
abbrev main_call10_cst : Ref sig .tc := ⟨.hbm, 382, rfl⟩
abbrev main_call10_v3 : Ref sig .tc := ⟨.hbm, 383, rfl⟩
abbrev main_call10_v4 : Ref sig .tc := ⟨.hbm, 384, rfl⟩
abbrev main_call10_v5 : Ref sig .tc := ⟨.hbm, 385, rfl⟩
abbrev main_call10_cst_0 : Ref sig .tc := ⟨.hbm, 386, rfl⟩
abbrev main_call10_v6 : Ref sig .tc := ⟨.hbm, 387, rfl⟩
abbrev main_call10_cst_1 : Ref sig .tc := ⟨.hbm, 388, rfl⟩
abbrev main_call10_v7 : Ref sig .tc := ⟨.hbm, 389, rfl⟩
abbrev main_call10_v8 : Ref sig .tc := ⟨.hbm, 390, rfl⟩
abbrev main_call10_v9 : Ref sig .tc := ⟨.hbm, 391, rfl⟩
abbrev main_call10_cst_2 : Ref sig .tc := ⟨.hbm, 392, rfl⟩
abbrev main_call10_call1_v0 : Ref sig .tc := ⟨.hbm, 393, rfl⟩
abbrev main_call10_call1_v1 : Ref sig .tc := ⟨.hbm, 394, rfl⟩
abbrev main_call10_v10 : Ref sig .tc := ⟨.hbm, 395, rfl⟩
abbrev main_call10_v11 : Ref sig .tc := ⟨.hbm, 396, rfl⟩
abbrev main_call10_v12 : Ref sig .tc := ⟨.hbm, 397, rfl⟩
abbrev main_call10_v13 : Ref sig .tc := ⟨.hbm, 398, rfl⟩
abbrev main_call10_cst_3 : Ref sig .tc := ⟨.hbm, 399, rfl⟩
abbrev main_call10_v14 : Ref sig .tc := ⟨.hbm, 400, rfl⟩
abbrev main_call10_v15 : Ref sig .tc := ⟨.hbm, 401, rfl⟩
abbrev main_call10_v16 : Ref sig .tc := ⟨.hbm, 402, rfl⟩
abbrev main_call10_v17 : Ref sig .tc := ⟨.hbm, 403, rfl⟩
abbrev main_call10_v18 : Ref sig .tc := ⟨.hbm, 404, rfl⟩
abbrev main_call10_v19 : Ref sig .tc := ⟨.hbm, 405, rfl⟩
abbrev main_call10_v20 : Ref sig .tc := ⟨.hbm, 406, rfl⟩
abbrev main_call10_v21 : Ref sig .tc := ⟨.hbm, 407, rfl⟩
abbrev main_call10_call2_v0 : Ref sig .tc := ⟨.hbm, 408, rfl⟩
abbrev main_call10_call2_cst : Ref sig .tc := ⟨.hbm, 409, rfl⟩
abbrev main_call10_call2_v1 : Ref sig .tc := ⟨.hbm, 410, rfl⟩
abbrev main_call10_call2_v2 : Ref sig .tc := ⟨.hbm, 411, rfl⟩
abbrev main_call10_v22 : Ref sig .tc := ⟨.hbm, 412, rfl⟩
abbrev main_call10_cst_4 : Ref sig .tc := ⟨.hbm, 413, rfl⟩
abbrev main_call10_call3_v0 : Ref sig .tc := ⟨.hbm, 414, rfl⟩
abbrev main_call10_call3_v1 : Ref sig .tc := ⟨.hbm, 415, rfl⟩
abbrev main_call10_v23 : Ref sig .tc := ⟨.hbm, 416, rfl⟩
abbrev main_call10_v24 : Ref sig .tc := ⟨.hbm, 417, rfl⟩
abbrev main_call10_v25 : Ref sig .tc := ⟨.hbm, 418, rfl⟩
abbrev main_call10_cst_5 : Ref sig .tc := ⟨.hbm, 419, rfl⟩
abbrev main_call10_v26 : Ref sig .tc := ⟨.hbm, 420, rfl⟩
abbrev main_call10_v27 : Ref sig .tc := ⟨.hbm, 421, rfl⟩
abbrev main_call10_v28 : Ref sig .tc := ⟨.hbm, 422, rfl⟩
abbrev main_call10_call4_v0 : Ref sig .tc := ⟨.hbm, 423, rfl⟩
abbrev main_v44 : Ref sig .tc := ⟨.hbm, 424, rfl⟩
abbrev main_cst_19 : Ref sig .tc := ⟨.hbm, 425, rfl⟩
abbrev main_call11_v0 : Ref sig .tc := ⟨.hbm, 426, rfl⟩
abbrev main_call11_v1 : Ref sig .tc := ⟨.hbm, 427, rfl⟩
abbrev main_call11_call0_v0 : Ref sig .tc := ⟨.hbm, 428, rfl⟩
abbrev main_call11_call0_cst : Ref sig .tc := ⟨.hbm, 429, rfl⟩
abbrev main_call11_call0_c : Ref sig .tc := ⟨.hbm, 430, rfl⟩
abbrev main_call11_call0_v1_0 : Ref sig .tc := ⟨.hbm, 431, rfl⟩
abbrev main_call11_v2 : Ref sig .tc := ⟨.hbm, 432, rfl⟩
abbrev main_call11_cst : Ref sig .tc := ⟨.hbm, 433, rfl⟩
abbrev main_call11_v3 : Ref sig .tc := ⟨.hbm, 434, rfl⟩
abbrev main_call11_v4 : Ref sig .tc := ⟨.hbm, 435, rfl⟩
abbrev main_call11_v5 : Ref sig .tc := ⟨.hbm, 436, rfl⟩
abbrev main_call11_cst_0 : Ref sig .tc := ⟨.hbm, 437, rfl⟩
abbrev main_call11_v6 : Ref sig .tc := ⟨.hbm, 438, rfl⟩
abbrev main_call11_cst_1 : Ref sig .tc := ⟨.hbm, 439, rfl⟩
abbrev main_call11_v7 : Ref sig .tc := ⟨.hbm, 440, rfl⟩
abbrev main_call11_v8 : Ref sig .tc := ⟨.hbm, 441, rfl⟩
abbrev main_call11_v9 : Ref sig .tc := ⟨.hbm, 442, rfl⟩
abbrev main_call11_cst_2 : Ref sig .tc := ⟨.hbm, 443, rfl⟩
abbrev main_call11_call1_v0 : Ref sig .tc := ⟨.hbm, 444, rfl⟩
abbrev main_call11_call1_v1 : Ref sig .tc := ⟨.hbm, 445, rfl⟩
abbrev main_call11_v10 : Ref sig .tc := ⟨.hbm, 446, rfl⟩
abbrev main_call11_v11 : Ref sig .tc := ⟨.hbm, 447, rfl⟩
abbrev main_call11_v12 : Ref sig .tc := ⟨.hbm, 448, rfl⟩
abbrev main_call11_v13 : Ref sig .tc := ⟨.hbm, 449, rfl⟩
abbrev main_call11_cst_3 : Ref sig .tc := ⟨.hbm, 450, rfl⟩
abbrev main_call11_v14 : Ref sig .tc := ⟨.hbm, 451, rfl⟩
abbrev main_call11_v15 : Ref sig .tc := ⟨.hbm, 452, rfl⟩
abbrev main_call11_v16 : Ref sig .tc := ⟨.hbm, 453, rfl⟩
abbrev main_call11_v17 : Ref sig .tc := ⟨.hbm, 454, rfl⟩
abbrev main_call11_v18 : Ref sig .tc := ⟨.hbm, 455, rfl⟩
abbrev main_call11_v19 : Ref sig .tc := ⟨.hbm, 456, rfl⟩
abbrev main_call11_v20 : Ref sig .tc := ⟨.hbm, 457, rfl⟩
abbrev main_call11_v21 : Ref sig .tc := ⟨.hbm, 458, rfl⟩
abbrev main_call11_call2_v0 : Ref sig .tc := ⟨.hbm, 459, rfl⟩
abbrev main_call11_call2_cst : Ref sig .tc := ⟨.hbm, 460, rfl⟩
abbrev main_call11_call2_v1 : Ref sig .tc := ⟨.hbm, 461, rfl⟩
abbrev main_call11_call2_v2 : Ref sig .tc := ⟨.hbm, 462, rfl⟩
abbrev main_call11_v22 : Ref sig .tc := ⟨.hbm, 463, rfl⟩
abbrev main_call11_cst_4 : Ref sig .tc := ⟨.hbm, 464, rfl⟩
abbrev main_call11_call3_v0 : Ref sig .tc := ⟨.hbm, 465, rfl⟩
abbrev main_call11_call3_v1 : Ref sig .tc := ⟨.hbm, 466, rfl⟩
abbrev main_call11_v23 : Ref sig .tc := ⟨.hbm, 467, rfl⟩
abbrev main_call11_v24 : Ref sig .tc := ⟨.hbm, 468, rfl⟩
abbrev main_call11_v25 : Ref sig .tc := ⟨.hbm, 469, rfl⟩
abbrev main_call11_cst_5 : Ref sig .tc := ⟨.hbm, 470, rfl⟩
abbrev main_call11_v26 : Ref sig .tc := ⟨.hbm, 471, rfl⟩
abbrev main_call11_v27 : Ref sig .tc := ⟨.hbm, 472, rfl⟩
abbrev main_call11_v28 : Ref sig .tc := ⟨.hbm, 473, rfl⟩
abbrev main_call11_call4_v0 : Ref sig .tc := ⟨.hbm, 474, rfl⟩
abbrev main_v45 : Ref sig .tc := ⟨.hbm, 475, rfl⟩
abbrev main_cst_20 : Ref sig .tc := ⟨.hbm, 476, rfl⟩
abbrev main_call12_v0 : Ref sig .tc := ⟨.hbm, 477, rfl⟩
abbrev main_call12_v1 : Ref sig .tc := ⟨.hbm, 478, rfl⟩
abbrev main_call12_call0_v0 : Ref sig .tc := ⟨.hbm, 479, rfl⟩
abbrev main_call12_call0_cst : Ref sig .tc := ⟨.hbm, 480, rfl⟩
abbrev main_call12_call0_c : Ref sig .tc := ⟨.hbm, 481, rfl⟩
abbrev main_call12_call0_v1_0 : Ref sig .tc := ⟨.hbm, 482, rfl⟩
abbrev main_call12_v2 : Ref sig .tc := ⟨.hbm, 483, rfl⟩
abbrev main_call12_cst : Ref sig .tc := ⟨.hbm, 484, rfl⟩
abbrev main_call12_v3 : Ref sig .tc := ⟨.hbm, 485, rfl⟩
abbrev main_call12_v4 : Ref sig .tc := ⟨.hbm, 486, rfl⟩
abbrev main_call12_v5 : Ref sig .tc := ⟨.hbm, 487, rfl⟩
abbrev main_call12_cst_0 : Ref sig .tc := ⟨.hbm, 488, rfl⟩
abbrev main_call12_v6 : Ref sig .tc := ⟨.hbm, 489, rfl⟩
abbrev main_call12_cst_1 : Ref sig .tc := ⟨.hbm, 490, rfl⟩
abbrev main_call12_v7 : Ref sig .tc := ⟨.hbm, 491, rfl⟩
abbrev main_call12_v8 : Ref sig .tc := ⟨.hbm, 492, rfl⟩
abbrev main_call12_v9 : Ref sig .tc := ⟨.hbm, 493, rfl⟩
abbrev main_call12_cst_2 : Ref sig .tc := ⟨.hbm, 494, rfl⟩
abbrev main_call12_call1_v0 : Ref sig .tc := ⟨.hbm, 495, rfl⟩
abbrev main_call12_call1_v1 : Ref sig .tc := ⟨.hbm, 496, rfl⟩
abbrev main_call12_v10 : Ref sig .tc := ⟨.hbm, 497, rfl⟩
abbrev main_call12_v11 : Ref sig .tc := ⟨.hbm, 498, rfl⟩
abbrev main_call12_v12 : Ref sig .tc := ⟨.hbm, 499, rfl⟩
abbrev main_call12_v13 : Ref sig .tc := ⟨.hbm, 500, rfl⟩
abbrev main_call12_cst_3 : Ref sig .tc := ⟨.hbm, 501, rfl⟩
abbrev main_call12_v14 : Ref sig .tc := ⟨.hbm, 502, rfl⟩
abbrev main_call12_v15 : Ref sig .tc := ⟨.hbm, 503, rfl⟩
abbrev main_call12_v16 : Ref sig .tc := ⟨.hbm, 504, rfl⟩
abbrev main_call12_v17 : Ref sig .tc := ⟨.hbm, 505, rfl⟩
abbrev main_call12_v18 : Ref sig .tc := ⟨.hbm, 506, rfl⟩
abbrev main_call12_v19 : Ref sig .tc := ⟨.hbm, 507, rfl⟩
abbrev main_call12_v20 : Ref sig .tc := ⟨.hbm, 508, rfl⟩
abbrev main_call12_v21 : Ref sig .tc := ⟨.hbm, 509, rfl⟩
abbrev main_call12_call2_v0 : Ref sig .tc := ⟨.hbm, 510, rfl⟩
abbrev main_call12_call2_cst : Ref sig .tc := ⟨.hbm, 511, rfl⟩
abbrev main_call12_call2_v1 : Ref sig .tc := ⟨.hbm, 512, rfl⟩
abbrev main_call12_call2_v2 : Ref sig .tc := ⟨.hbm, 513, rfl⟩
abbrev main_call12_v22 : Ref sig .tc := ⟨.hbm, 514, rfl⟩
abbrev main_call12_cst_4 : Ref sig .tc := ⟨.hbm, 515, rfl⟩
abbrev main_call12_call3_v0 : Ref sig .tc := ⟨.hbm, 516, rfl⟩
abbrev main_call12_call3_v1 : Ref sig .tc := ⟨.hbm, 517, rfl⟩
abbrev main_call12_v23 : Ref sig .tc := ⟨.hbm, 518, rfl⟩
abbrev main_call12_v24 : Ref sig .tc := ⟨.hbm, 519, rfl⟩
abbrev main_call12_v25 : Ref sig .tc := ⟨.hbm, 520, rfl⟩
abbrev main_call12_cst_5 : Ref sig .tc := ⟨.hbm, 521, rfl⟩
abbrev main_call12_v26 : Ref sig .tc := ⟨.hbm, 522, rfl⟩
abbrev main_call12_v27 : Ref sig .tc := ⟨.hbm, 523, rfl⟩
abbrev main_call12_v28 : Ref sig .tc := ⟨.hbm, 524, rfl⟩
abbrev main_call12_call4_v0 : Ref sig .tc := ⟨.hbm, 525, rfl⟩
abbrev main_v46 : Ref sig .tc := ⟨.hbm, 526, rfl⟩
abbrev main_cst_21 : Ref sig .tc := ⟨.hbm, 527, rfl⟩
abbrev main_call13_v0 : Ref sig .tc := ⟨.hbm, 528, rfl⟩
abbrev main_call13_v1 : Ref sig .tc := ⟨.hbm, 529, rfl⟩
abbrev main_call13_call0_v0 : Ref sig .tc := ⟨.hbm, 530, rfl⟩
abbrev main_call13_call0_cst : Ref sig .tc := ⟨.hbm, 531, rfl⟩
abbrev main_call13_call0_c : Ref sig .tc := ⟨.hbm, 532, rfl⟩
abbrev main_call13_call0_v1_0 : Ref sig .tc := ⟨.hbm, 533, rfl⟩
abbrev main_call13_v2 : Ref sig .tc := ⟨.hbm, 534, rfl⟩
abbrev main_call13_cst : Ref sig .tc := ⟨.hbm, 535, rfl⟩
abbrev main_call13_v3 : Ref sig .tc := ⟨.hbm, 536, rfl⟩
abbrev main_call13_v4 : Ref sig .tc := ⟨.hbm, 537, rfl⟩
abbrev main_call13_v5 : Ref sig .tc := ⟨.hbm, 538, rfl⟩
abbrev main_call13_cst_0 : Ref sig .tc := ⟨.hbm, 539, rfl⟩
abbrev main_call13_v6 : Ref sig .tc := ⟨.hbm, 540, rfl⟩
abbrev main_call13_cst_1 : Ref sig .tc := ⟨.hbm, 541, rfl⟩
abbrev main_call13_v7 : Ref sig .tc := ⟨.hbm, 542, rfl⟩
abbrev main_call13_v8 : Ref sig .tc := ⟨.hbm, 543, rfl⟩
abbrev main_call13_v9 : Ref sig .tc := ⟨.hbm, 544, rfl⟩
abbrev main_call13_cst_2 : Ref sig .tc := ⟨.hbm, 545, rfl⟩
abbrev main_call13_call1_v0 : Ref sig .tc := ⟨.hbm, 546, rfl⟩
abbrev main_call13_call1_v1 : Ref sig .tc := ⟨.hbm, 547, rfl⟩
abbrev main_call13_v10 : Ref sig .tc := ⟨.hbm, 548, rfl⟩
abbrev main_call13_v11 : Ref sig .tc := ⟨.hbm, 549, rfl⟩
abbrev main_call13_v12 : Ref sig .tc := ⟨.hbm, 550, rfl⟩
abbrev main_call13_v13 : Ref sig .tc := ⟨.hbm, 551, rfl⟩
abbrev main_call13_cst_3 : Ref sig .tc := ⟨.hbm, 552, rfl⟩
abbrev main_call13_v14 : Ref sig .tc := ⟨.hbm, 553, rfl⟩
abbrev main_call13_v15 : Ref sig .tc := ⟨.hbm, 554, rfl⟩
abbrev main_call13_v16 : Ref sig .tc := ⟨.hbm, 555, rfl⟩
abbrev main_call13_v17 : Ref sig .tc := ⟨.hbm, 556, rfl⟩
abbrev main_call13_v18 : Ref sig .tc := ⟨.hbm, 557, rfl⟩
abbrev main_call13_v19 : Ref sig .tc := ⟨.hbm, 558, rfl⟩
abbrev main_call13_v20 : Ref sig .tc := ⟨.hbm, 559, rfl⟩
abbrev main_call13_v21 : Ref sig .tc := ⟨.hbm, 560, rfl⟩
abbrev main_call13_call2_v0 : Ref sig .tc := ⟨.hbm, 561, rfl⟩
abbrev main_call13_call2_cst : Ref sig .tc := ⟨.hbm, 562, rfl⟩
abbrev main_call13_call2_v1 : Ref sig .tc := ⟨.hbm, 563, rfl⟩
abbrev main_call13_call2_v2 : Ref sig .tc := ⟨.hbm, 564, rfl⟩
abbrev main_call13_v22 : Ref sig .tc := ⟨.hbm, 565, rfl⟩
abbrev main_call13_cst_4 : Ref sig .tc := ⟨.hbm, 566, rfl⟩
abbrev main_call13_call3_v0 : Ref sig .tc := ⟨.hbm, 567, rfl⟩
abbrev main_call13_call3_v1 : Ref sig .tc := ⟨.hbm, 568, rfl⟩
abbrev main_call13_v23 : Ref sig .tc := ⟨.hbm, 569, rfl⟩
abbrev main_call13_v24 : Ref sig .tc := ⟨.hbm, 570, rfl⟩
abbrev main_call13_v25 : Ref sig .tc := ⟨.hbm, 571, rfl⟩
abbrev main_call13_cst_5 : Ref sig .tc := ⟨.hbm, 572, rfl⟩
abbrev main_call13_v26 : Ref sig .tc := ⟨.hbm, 573, rfl⟩
abbrev main_call13_v27 : Ref sig .tc := ⟨.hbm, 574, rfl⟩
abbrev main_call13_v28 : Ref sig .tc := ⟨.hbm, 575, rfl⟩
abbrev main_call13_call4_v0 : Ref sig .tc := ⟨.hbm, 576, rfl⟩
abbrev main_v47 : Ref sig .tc := ⟨.hbm, 577, rfl⟩
abbrev main_cst_22 : Ref sig .tc := ⟨.hbm, 578, rfl⟩
abbrev main_call14_v0 : Ref sig .tc := ⟨.hbm, 579, rfl⟩
abbrev main_call14_v1 : Ref sig .tc := ⟨.hbm, 580, rfl⟩
abbrev main_call14_call0_v0 : Ref sig .tc := ⟨.hbm, 581, rfl⟩
abbrev main_call14_call0_cst : Ref sig .tc := ⟨.hbm, 582, rfl⟩
abbrev main_call14_call0_c : Ref sig .tc := ⟨.hbm, 583, rfl⟩
abbrev main_call14_call0_v1_0 : Ref sig .tc := ⟨.hbm, 584, rfl⟩
abbrev main_call14_v2 : Ref sig .tc := ⟨.hbm, 585, rfl⟩
abbrev main_call14_cst : Ref sig .tc := ⟨.hbm, 586, rfl⟩
abbrev main_call14_v3 : Ref sig .tc := ⟨.hbm, 587, rfl⟩
abbrev main_call14_v4 : Ref sig .tc := ⟨.hbm, 588, rfl⟩
abbrev main_call14_v5 : Ref sig .tc := ⟨.hbm, 589, rfl⟩
abbrev main_call14_cst_0 : Ref sig .tc := ⟨.hbm, 590, rfl⟩
abbrev main_call14_v6 : Ref sig .tc := ⟨.hbm, 591, rfl⟩
abbrev main_call14_cst_1 : Ref sig .tc := ⟨.hbm, 592, rfl⟩
abbrev main_call14_v7 : Ref sig .tc := ⟨.hbm, 593, rfl⟩
abbrev main_call14_v8 : Ref sig .tc := ⟨.hbm, 594, rfl⟩
abbrev main_call14_v9 : Ref sig .tc := ⟨.hbm, 595, rfl⟩
abbrev main_call14_cst_2 : Ref sig .tc := ⟨.hbm, 596, rfl⟩
abbrev main_call14_call1_v0 : Ref sig .tc := ⟨.hbm, 597, rfl⟩
abbrev main_call14_call1_v1 : Ref sig .tc := ⟨.hbm, 598, rfl⟩
abbrev main_call14_v10 : Ref sig .tc := ⟨.hbm, 599, rfl⟩
abbrev main_call14_v11 : Ref sig .tc := ⟨.hbm, 600, rfl⟩
abbrev main_call14_v12 : Ref sig .tc := ⟨.hbm, 601, rfl⟩
abbrev main_call14_v13 : Ref sig .tc := ⟨.hbm, 602, rfl⟩
abbrev main_call14_cst_3 : Ref sig .tc := ⟨.hbm, 603, rfl⟩
abbrev main_call14_v14 : Ref sig .tc := ⟨.hbm, 604, rfl⟩
abbrev main_call14_v15 : Ref sig .tc := ⟨.hbm, 605, rfl⟩
abbrev main_call14_v16 : Ref sig .tc := ⟨.hbm, 606, rfl⟩
abbrev main_call14_v17 : Ref sig .tc := ⟨.hbm, 607, rfl⟩
abbrev main_call14_v18 : Ref sig .tc := ⟨.hbm, 608, rfl⟩
abbrev main_call14_v19 : Ref sig .tc := ⟨.hbm, 609, rfl⟩
abbrev main_call14_v20 : Ref sig .tc := ⟨.hbm, 610, rfl⟩
abbrev main_call14_v21 : Ref sig .tc := ⟨.hbm, 611, rfl⟩
abbrev main_call14_call2_v0 : Ref sig .tc := ⟨.hbm, 612, rfl⟩
abbrev main_call14_call2_cst : Ref sig .tc := ⟨.hbm, 613, rfl⟩
abbrev main_call14_call2_v1 : Ref sig .tc := ⟨.hbm, 614, rfl⟩
abbrev main_call14_call2_v2 : Ref sig .tc := ⟨.hbm, 615, rfl⟩
abbrev main_call14_v22 : Ref sig .tc := ⟨.hbm, 616, rfl⟩
abbrev main_call14_cst_4 : Ref sig .tc := ⟨.hbm, 617, rfl⟩
abbrev main_call14_call3_v0 : Ref sig .tc := ⟨.hbm, 618, rfl⟩
abbrev main_call14_call3_v1 : Ref sig .tc := ⟨.hbm, 619, rfl⟩
abbrev main_call14_v23 : Ref sig .tc := ⟨.hbm, 620, rfl⟩
abbrev main_call14_v24 : Ref sig .tc := ⟨.hbm, 621, rfl⟩
abbrev main_call14_v25 : Ref sig .tc := ⟨.hbm, 622, rfl⟩
abbrev main_call14_cst_5 : Ref sig .tc := ⟨.hbm, 623, rfl⟩
abbrev main_call14_v26 : Ref sig .tc := ⟨.hbm, 624, rfl⟩
abbrev main_call14_v27 : Ref sig .tc := ⟨.hbm, 625, rfl⟩
abbrev main_call14_v28 : Ref sig .tc := ⟨.hbm, 626, rfl⟩
abbrev main_call14_call4_v0 : Ref sig .tc := ⟨.hbm, 627, rfl⟩
abbrev main_v48 : Ref sig .tc := ⟨.hbm, 628, rfl⟩
abbrev main_cst_23 : Ref sig .tc := ⟨.hbm, 629, rfl⟩
abbrev main_call15_v0 : Ref sig .tc := ⟨.hbm, 630, rfl⟩
abbrev main_call15_v1 : Ref sig .tc := ⟨.hbm, 631, rfl⟩
abbrev main_call15_call0_v0 : Ref sig .tc := ⟨.hbm, 632, rfl⟩
abbrev main_call15_call0_cst : Ref sig .tc := ⟨.hbm, 633, rfl⟩
abbrev main_call15_call0_c : Ref sig .tc := ⟨.hbm, 634, rfl⟩
abbrev main_call15_call0_v1_0 : Ref sig .tc := ⟨.hbm, 635, rfl⟩
abbrev main_call15_v2 : Ref sig .tc := ⟨.hbm, 636, rfl⟩
abbrev main_call15_cst : Ref sig .tc := ⟨.hbm, 637, rfl⟩
abbrev main_call15_v3 : Ref sig .tc := ⟨.hbm, 638, rfl⟩
abbrev main_call15_v4 : Ref sig .tc := ⟨.hbm, 639, rfl⟩
abbrev main_call15_v5 : Ref sig .tc := ⟨.hbm, 640, rfl⟩
abbrev main_call15_cst_0 : Ref sig .tc := ⟨.hbm, 641, rfl⟩
abbrev main_call15_v6 : Ref sig .tc := ⟨.hbm, 642, rfl⟩
abbrev main_call15_cst_1 : Ref sig .tc := ⟨.hbm, 643, rfl⟩
abbrev main_call15_v7 : Ref sig .tc := ⟨.hbm, 644, rfl⟩
abbrev main_call15_v8 : Ref sig .tc := ⟨.hbm, 645, rfl⟩
abbrev main_call15_v9 : Ref sig .tc := ⟨.hbm, 646, rfl⟩
abbrev main_call15_cst_2 : Ref sig .tc := ⟨.hbm, 647, rfl⟩
abbrev main_call15_call1_v0 : Ref sig .tc := ⟨.hbm, 648, rfl⟩
abbrev main_call15_call1_v1 : Ref sig .tc := ⟨.hbm, 649, rfl⟩
abbrev main_call15_v10 : Ref sig .tc := ⟨.hbm, 650, rfl⟩
abbrev main_call15_v11 : Ref sig .tc := ⟨.hbm, 651, rfl⟩
abbrev main_call15_v12 : Ref sig .tc := ⟨.hbm, 652, rfl⟩
abbrev main_call15_v13 : Ref sig .tc := ⟨.hbm, 653, rfl⟩
abbrev main_call15_cst_3 : Ref sig .tc := ⟨.hbm, 654, rfl⟩
abbrev main_call15_v14 : Ref sig .tc := ⟨.hbm, 655, rfl⟩
abbrev main_call15_v15 : Ref sig .tc := ⟨.hbm, 656, rfl⟩
abbrev main_call15_v16 : Ref sig .tc := ⟨.hbm, 657, rfl⟩
abbrev main_call15_v17 : Ref sig .tc := ⟨.hbm, 658, rfl⟩
abbrev main_call15_v18 : Ref sig .tc := ⟨.hbm, 659, rfl⟩
abbrev main_call15_v19 : Ref sig .tc := ⟨.hbm, 660, rfl⟩
abbrev main_call15_v20 : Ref sig .tc := ⟨.hbm, 661, rfl⟩
abbrev main_call15_v21 : Ref sig .tc := ⟨.hbm, 662, rfl⟩
abbrev main_call15_call2_v0 : Ref sig .tc := ⟨.hbm, 663, rfl⟩
abbrev main_call15_call2_cst : Ref sig .tc := ⟨.hbm, 664, rfl⟩
abbrev main_call15_call2_v1 : Ref sig .tc := ⟨.hbm, 665, rfl⟩
abbrev main_call15_call2_v2 : Ref sig .tc := ⟨.hbm, 666, rfl⟩
abbrev main_call15_v22 : Ref sig .tc := ⟨.hbm, 667, rfl⟩
abbrev main_call15_cst_4 : Ref sig .tc := ⟨.hbm, 668, rfl⟩
abbrev main_call15_call3_v0 : Ref sig .tc := ⟨.hbm, 669, rfl⟩
abbrev main_call15_call3_v1 : Ref sig .tc := ⟨.hbm, 670, rfl⟩
abbrev main_call15_v23 : Ref sig .tc := ⟨.hbm, 671, rfl⟩
abbrev main_call15_v24 : Ref sig .tc := ⟨.hbm, 672, rfl⟩
abbrev main_call15_v25 : Ref sig .tc := ⟨.hbm, 673, rfl⟩
abbrev main_call15_cst_5 : Ref sig .tc := ⟨.hbm, 674, rfl⟩
abbrev main_call15_v26 : Ref sig .tc := ⟨.hbm, 675, rfl⟩
abbrev main_call15_v27 : Ref sig .tc := ⟨.hbm, 676, rfl⟩
abbrev main_call15_v28 : Ref sig .tc := ⟨.hbm, 677, rfl⟩
abbrev main_call15_call4_v0 : Ref sig .tc := ⟨.hbm, 678, rfl⟩
abbrev main_v49 : Ref sig .tc := ⟨.hbm, 679, rfl⟩
abbrev main_cst_24 : Ref sig .tc := ⟨.hbm, 680, rfl⟩
abbrev main_call16_v0 : Ref sig .tc := ⟨.hbm, 681, rfl⟩
abbrev main_call16_v1 : Ref sig .tc := ⟨.hbm, 682, rfl⟩
abbrev main_call16_call0_v0 : Ref sig .tc := ⟨.hbm, 683, rfl⟩
abbrev main_call16_call0_cst : Ref sig .tc := ⟨.hbm, 684, rfl⟩
abbrev main_call16_call0_c : Ref sig .tc := ⟨.hbm, 685, rfl⟩
abbrev main_call16_call0_v1_0 : Ref sig .tc := ⟨.hbm, 686, rfl⟩
abbrev main_call16_v2 : Ref sig .tc := ⟨.hbm, 687, rfl⟩
abbrev main_call16_cst : Ref sig .tc := ⟨.hbm, 688, rfl⟩
abbrev main_call16_v3 : Ref sig .tc := ⟨.hbm, 689, rfl⟩
abbrev main_call16_v4 : Ref sig .tc := ⟨.hbm, 690, rfl⟩
abbrev main_call16_v5 : Ref sig .tc := ⟨.hbm, 691, rfl⟩
abbrev main_call16_cst_0 : Ref sig .tc := ⟨.hbm, 692, rfl⟩
abbrev main_call16_v6 : Ref sig .tc := ⟨.hbm, 693, rfl⟩
abbrev main_call16_cst_1 : Ref sig .tc := ⟨.hbm, 694, rfl⟩
abbrev main_call16_v7 : Ref sig .tc := ⟨.hbm, 695, rfl⟩
abbrev main_call16_v8 : Ref sig .tc := ⟨.hbm, 696, rfl⟩
abbrev main_call16_v9 : Ref sig .tc := ⟨.hbm, 697, rfl⟩
abbrev main_call16_cst_2 : Ref sig .tc := ⟨.hbm, 698, rfl⟩
abbrev main_call16_call1_v0 : Ref sig .tc := ⟨.hbm, 699, rfl⟩
abbrev main_call16_call1_v1 : Ref sig .tc := ⟨.hbm, 700, rfl⟩
abbrev main_call16_v10 : Ref sig .tc := ⟨.hbm, 701, rfl⟩
abbrev main_call16_v11 : Ref sig .tc := ⟨.hbm, 702, rfl⟩
abbrev main_call16_v12 : Ref sig .tc := ⟨.hbm, 703, rfl⟩
abbrev main_call16_v13 : Ref sig .tc := ⟨.hbm, 704, rfl⟩
abbrev main_call16_cst_3 : Ref sig .tc := ⟨.hbm, 705, rfl⟩
abbrev main_call16_v14 : Ref sig .tc := ⟨.hbm, 706, rfl⟩
abbrev main_call16_v15 : Ref sig .tc := ⟨.hbm, 707, rfl⟩
abbrev main_call16_v16 : Ref sig .tc := ⟨.hbm, 708, rfl⟩
abbrev main_call16_v17 : Ref sig .tc := ⟨.hbm, 709, rfl⟩
abbrev main_call16_v18 : Ref sig .tc := ⟨.hbm, 710, rfl⟩
abbrev main_call16_v19 : Ref sig .tc := ⟨.hbm, 711, rfl⟩
abbrev main_call16_v20 : Ref sig .tc := ⟨.hbm, 712, rfl⟩
abbrev main_call16_v21 : Ref sig .tc := ⟨.hbm, 713, rfl⟩
abbrev main_call16_call2_v0 : Ref sig .tc := ⟨.hbm, 714, rfl⟩
abbrev main_call16_call2_cst : Ref sig .tc := ⟨.hbm, 715, rfl⟩
abbrev main_call16_call2_v1 : Ref sig .tc := ⟨.hbm, 716, rfl⟩
abbrev main_call16_call2_v2 : Ref sig .tc := ⟨.hbm, 717, rfl⟩
abbrev main_call16_v22 : Ref sig .tc := ⟨.hbm, 718, rfl⟩
abbrev main_call16_cst_4 : Ref sig .tc := ⟨.hbm, 719, rfl⟩
abbrev main_call16_call3_v0 : Ref sig .tc := ⟨.hbm, 720, rfl⟩
abbrev main_call16_call3_v1 : Ref sig .tc := ⟨.hbm, 721, rfl⟩
abbrev main_call16_v23 : Ref sig .tc := ⟨.hbm, 722, rfl⟩
abbrev main_call16_v24 : Ref sig .tc := ⟨.hbm, 723, rfl⟩
abbrev main_call16_v25 : Ref sig .tc := ⟨.hbm, 724, rfl⟩
abbrev main_call16_cst_5 : Ref sig .tc := ⟨.hbm, 725, rfl⟩
abbrev main_call16_v26 : Ref sig .tc := ⟨.hbm, 726, rfl⟩
abbrev main_call16_v27 : Ref sig .tc := ⟨.hbm, 727, rfl⟩
abbrev main_call16_v28 : Ref sig .tc := ⟨.hbm, 728, rfl⟩
abbrev main_call16_call4_v0 : Ref sig .tc := ⟨.hbm, 729, rfl⟩
abbrev main_v50 : Ref sig .tc := ⟨.hbm, 730, rfl⟩
abbrev main_cst_25 : Ref sig .tc := ⟨.hbm, 731, rfl⟩
abbrev main_call17_v0 : Ref sig .tc := ⟨.hbm, 732, rfl⟩
abbrev main_call17_v1 : Ref sig .tc := ⟨.hbm, 733, rfl⟩
abbrev main_call17_call0_v0 : Ref sig .tc := ⟨.hbm, 734, rfl⟩
abbrev main_call17_call0_cst : Ref sig .tc := ⟨.hbm, 735, rfl⟩
abbrev main_call17_call0_c : Ref sig .tc := ⟨.hbm, 736, rfl⟩
abbrev main_call17_call0_v1_0 : Ref sig .tc := ⟨.hbm, 737, rfl⟩
abbrev main_call17_v2 : Ref sig .tc := ⟨.hbm, 738, rfl⟩
abbrev main_call17_cst : Ref sig .tc := ⟨.hbm, 739, rfl⟩
abbrev main_call17_v3 : Ref sig .tc := ⟨.hbm, 740, rfl⟩
abbrev main_call17_v4 : Ref sig .tc := ⟨.hbm, 741, rfl⟩
abbrev main_call17_v5 : Ref sig .tc := ⟨.hbm, 742, rfl⟩
abbrev main_call17_cst_0 : Ref sig .tc := ⟨.hbm, 743, rfl⟩
abbrev main_call17_v6 : Ref sig .tc := ⟨.hbm, 744, rfl⟩
abbrev main_call17_cst_1 : Ref sig .tc := ⟨.hbm, 745, rfl⟩
abbrev main_call17_v7 : Ref sig .tc := ⟨.hbm, 746, rfl⟩
abbrev main_call17_v8 : Ref sig .tc := ⟨.hbm, 747, rfl⟩
abbrev main_call17_v9 : Ref sig .tc := ⟨.hbm, 748, rfl⟩
abbrev main_call17_cst_2 : Ref sig .tc := ⟨.hbm, 749, rfl⟩
abbrev main_call17_call1_v0 : Ref sig .tc := ⟨.hbm, 750, rfl⟩
abbrev main_call17_call1_v1 : Ref sig .tc := ⟨.hbm, 751, rfl⟩
abbrev main_call17_v10 : Ref sig .tc := ⟨.hbm, 752, rfl⟩
abbrev main_call17_v11 : Ref sig .tc := ⟨.hbm, 753, rfl⟩
abbrev main_call17_v12 : Ref sig .tc := ⟨.hbm, 754, rfl⟩
abbrev main_call17_v13 : Ref sig .tc := ⟨.hbm, 755, rfl⟩
abbrev main_call17_cst_3 : Ref sig .tc := ⟨.hbm, 756, rfl⟩
abbrev main_call17_v14 : Ref sig .tc := ⟨.hbm, 757, rfl⟩
abbrev main_call17_v15 : Ref sig .tc := ⟨.hbm, 758, rfl⟩
abbrev main_call17_v16 : Ref sig .tc := ⟨.hbm, 759, rfl⟩
abbrev main_call17_v17 : Ref sig .tc := ⟨.hbm, 760, rfl⟩
abbrev main_call17_v18 : Ref sig .tc := ⟨.hbm, 761, rfl⟩
abbrev main_call17_v19 : Ref sig .tc := ⟨.hbm, 762, rfl⟩
abbrev main_call17_v20 : Ref sig .tc := ⟨.hbm, 763, rfl⟩
abbrev main_call17_v21 : Ref sig .tc := ⟨.hbm, 764, rfl⟩
abbrev main_call17_call2_v0 : Ref sig .tc := ⟨.hbm, 765, rfl⟩
abbrev main_call17_call2_cst : Ref sig .tc := ⟨.hbm, 766, rfl⟩
abbrev main_call17_call2_v1 : Ref sig .tc := ⟨.hbm, 767, rfl⟩
abbrev main_call17_call2_v2 : Ref sig .tc := ⟨.hbm, 768, rfl⟩
abbrev main_call17_v22 : Ref sig .tc := ⟨.hbm, 769, rfl⟩
abbrev main_call17_cst_4 : Ref sig .tc := ⟨.hbm, 770, rfl⟩
abbrev main_call17_call3_v0 : Ref sig .tc := ⟨.hbm, 771, rfl⟩
abbrev main_call17_call3_v1 : Ref sig .tc := ⟨.hbm, 772, rfl⟩
abbrev main_call17_v23 : Ref sig .tc := ⟨.hbm, 773, rfl⟩
abbrev main_call17_v24 : Ref sig .tc := ⟨.hbm, 774, rfl⟩
abbrev main_call17_v25 : Ref sig .tc := ⟨.hbm, 775, rfl⟩
abbrev main_call17_cst_5 : Ref sig .tc := ⟨.hbm, 776, rfl⟩
abbrev main_call17_v26 : Ref sig .tc := ⟨.hbm, 777, rfl⟩
abbrev main_call17_v27 : Ref sig .tc := ⟨.hbm, 778, rfl⟩
abbrev main_call17_v28 : Ref sig .tc := ⟨.hbm, 779, rfl⟩
abbrev main_call17_call4_v0 : Ref sig .tc := ⟨.hbm, 780, rfl⟩
abbrev main_v51 : Ref sig .tc := ⟨.hbm, 781, rfl⟩
abbrev main_cst_26 : Ref sig .tc := ⟨.hbm, 782, rfl⟩
abbrev main_call18_v0 : Ref sig .tc := ⟨.hbm, 783, rfl⟩
abbrev main_call18_v1 : Ref sig .tc := ⟨.hbm, 784, rfl⟩
abbrev main_call18_call0_v0 : Ref sig .tc := ⟨.hbm, 785, rfl⟩
abbrev main_call18_call0_cst : Ref sig .tc := ⟨.hbm, 786, rfl⟩
abbrev main_call18_call0_c : Ref sig .tc := ⟨.hbm, 787, rfl⟩
abbrev main_call18_call0_v1_0 : Ref sig .tc := ⟨.hbm, 788, rfl⟩
abbrev main_call18_v2 : Ref sig .tc := ⟨.hbm, 789, rfl⟩
abbrev main_call18_cst : Ref sig .tc := ⟨.hbm, 790, rfl⟩
abbrev main_call18_v3 : Ref sig .tc := ⟨.hbm, 791, rfl⟩
abbrev main_call18_v4 : Ref sig .tc := ⟨.hbm, 792, rfl⟩
abbrev main_call18_v5 : Ref sig .tc := ⟨.hbm, 793, rfl⟩
abbrev main_call18_cst_0 : Ref sig .tc := ⟨.hbm, 794, rfl⟩
abbrev main_call18_v6 : Ref sig .tc := ⟨.hbm, 795, rfl⟩
abbrev main_call18_cst_1 : Ref sig .tc := ⟨.hbm, 796, rfl⟩
abbrev main_call18_v7 : Ref sig .tc := ⟨.hbm, 797, rfl⟩
abbrev main_call18_v8 : Ref sig .tc := ⟨.hbm, 798, rfl⟩
abbrev main_call18_v9 : Ref sig .tc := ⟨.hbm, 799, rfl⟩
abbrev main_call18_cst_2 : Ref sig .tc := ⟨.hbm, 800, rfl⟩
abbrev main_call18_call1_v0 : Ref sig .tc := ⟨.hbm, 801, rfl⟩
abbrev main_call18_call1_v1 : Ref sig .tc := ⟨.hbm, 802, rfl⟩
abbrev main_call18_v10 : Ref sig .tc := ⟨.hbm, 803, rfl⟩
abbrev main_call18_v11 : Ref sig .tc := ⟨.hbm, 804, rfl⟩
abbrev main_call18_v12 : Ref sig .tc := ⟨.hbm, 805, rfl⟩
abbrev main_call18_v13 : Ref sig .tc := ⟨.hbm, 806, rfl⟩
abbrev main_call18_cst_3 : Ref sig .tc := ⟨.hbm, 807, rfl⟩
abbrev main_call18_v14 : Ref sig .tc := ⟨.hbm, 808, rfl⟩
abbrev main_call18_v15 : Ref sig .tc := ⟨.hbm, 809, rfl⟩
abbrev main_call18_v16 : Ref sig .tc := ⟨.hbm, 810, rfl⟩
abbrev main_call18_v17 : Ref sig .tc := ⟨.hbm, 811, rfl⟩
abbrev main_call18_v18 : Ref sig .tc := ⟨.hbm, 812, rfl⟩
abbrev main_call18_v19 : Ref sig .tc := ⟨.hbm, 813, rfl⟩
abbrev main_call18_v20 : Ref sig .tc := ⟨.hbm, 814, rfl⟩
abbrev main_call18_v21 : Ref sig .tc := ⟨.hbm, 815, rfl⟩
abbrev main_call18_call2_v0 : Ref sig .tc := ⟨.hbm, 816, rfl⟩
abbrev main_call18_call2_cst : Ref sig .tc := ⟨.hbm, 817, rfl⟩
abbrev main_call18_call2_v1 : Ref sig .tc := ⟨.hbm, 818, rfl⟩
abbrev main_call18_call2_v2 : Ref sig .tc := ⟨.hbm, 819, rfl⟩
abbrev main_call18_v22 : Ref sig .tc := ⟨.hbm, 820, rfl⟩
abbrev main_call18_cst_4 : Ref sig .tc := ⟨.hbm, 821, rfl⟩
abbrev main_call18_call3_v0 : Ref sig .tc := ⟨.hbm, 822, rfl⟩
abbrev main_call18_call3_v1 : Ref sig .tc := ⟨.hbm, 823, rfl⟩
abbrev main_call18_v23 : Ref sig .tc := ⟨.hbm, 824, rfl⟩
abbrev main_call18_v24 : Ref sig .tc := ⟨.hbm, 825, rfl⟩
abbrev main_call18_v25 : Ref sig .tc := ⟨.hbm, 826, rfl⟩
abbrev main_call18_cst_5 : Ref sig .tc := ⟨.hbm, 827, rfl⟩
abbrev main_call18_v26 : Ref sig .tc := ⟨.hbm, 828, rfl⟩
abbrev main_call18_v27 : Ref sig .tc := ⟨.hbm, 829, rfl⟩
abbrev main_call18_v28 : Ref sig .tc := ⟨.hbm, 830, rfl⟩
abbrev main_call18_call4_v0 : Ref sig .tc := ⟨.hbm, 831, rfl⟩
abbrev main_v52 : Ref sig .tc := ⟨.hbm, 832, rfl⟩
abbrev main_cst_27 : Ref sig .tc := ⟨.hbm, 833, rfl⟩
abbrev main_call19_v0 : Ref sig .tc := ⟨.hbm, 834, rfl⟩
abbrev main_call19_v1 : Ref sig .tc := ⟨.hbm, 835, rfl⟩
abbrev main_call19_call0_v0 : Ref sig .tc := ⟨.hbm, 836, rfl⟩
abbrev main_call19_call0_cst : Ref sig .tc := ⟨.hbm, 837, rfl⟩
abbrev main_call19_call0_c : Ref sig .tc := ⟨.hbm, 838, rfl⟩
abbrev main_call19_call0_v1_0 : Ref sig .tc := ⟨.hbm, 839, rfl⟩
abbrev main_call19_v2 : Ref sig .tc := ⟨.hbm, 840, rfl⟩
abbrev main_call19_cst : Ref sig .tc := ⟨.hbm, 841, rfl⟩
abbrev main_call19_v3 : Ref sig .tc := ⟨.hbm, 842, rfl⟩
abbrev main_call19_v4 : Ref sig .tc := ⟨.hbm, 843, rfl⟩
abbrev main_call19_v5 : Ref sig .tc := ⟨.hbm, 844, rfl⟩
abbrev main_call19_cst_0 : Ref sig .tc := ⟨.hbm, 845, rfl⟩
abbrev main_call19_v6 : Ref sig .tc := ⟨.hbm, 846, rfl⟩
abbrev main_call19_cst_1 : Ref sig .tc := ⟨.hbm, 847, rfl⟩
abbrev main_call19_v7 : Ref sig .tc := ⟨.hbm, 848, rfl⟩
abbrev main_call19_v8 : Ref sig .tc := ⟨.hbm, 849, rfl⟩
abbrev main_call19_v9 : Ref sig .tc := ⟨.hbm, 850, rfl⟩
abbrev main_call19_cst_2 : Ref sig .tc := ⟨.hbm, 851, rfl⟩
abbrev main_call19_call1_v0 : Ref sig .tc := ⟨.hbm, 852, rfl⟩
abbrev main_call19_call1_v1 : Ref sig .tc := ⟨.hbm, 853, rfl⟩
abbrev main_call19_v10 : Ref sig .tc := ⟨.hbm, 854, rfl⟩
abbrev main_call19_v11 : Ref sig .tc := ⟨.hbm, 855, rfl⟩
abbrev main_call19_v12 : Ref sig .tc := ⟨.hbm, 856, rfl⟩
abbrev main_call19_v13 : Ref sig .tc := ⟨.hbm, 857, rfl⟩
abbrev main_call19_cst_3 : Ref sig .tc := ⟨.hbm, 858, rfl⟩
abbrev main_call19_v14 : Ref sig .tc := ⟨.hbm, 859, rfl⟩
abbrev main_call19_v15 : Ref sig .tc := ⟨.hbm, 860, rfl⟩
abbrev main_call19_v16 : Ref sig .tc := ⟨.hbm, 861, rfl⟩
abbrev main_call19_v17 : Ref sig .tc := ⟨.hbm, 862, rfl⟩
abbrev main_call19_v18 : Ref sig .tc := ⟨.hbm, 863, rfl⟩
abbrev main_call19_v19 : Ref sig .tc := ⟨.hbm, 864, rfl⟩
abbrev main_call19_v20 : Ref sig .tc := ⟨.hbm, 865, rfl⟩
abbrev main_call19_v21 : Ref sig .tc := ⟨.hbm, 866, rfl⟩
abbrev main_call19_call2_v0 : Ref sig .tc := ⟨.hbm, 867, rfl⟩
abbrev main_call19_call2_cst : Ref sig .tc := ⟨.hbm, 868, rfl⟩
abbrev main_call19_call2_v1 : Ref sig .tc := ⟨.hbm, 869, rfl⟩
abbrev main_call19_call2_v2 : Ref sig .tc := ⟨.hbm, 870, rfl⟩
abbrev main_call19_v22 : Ref sig .tc := ⟨.hbm, 871, rfl⟩
abbrev main_call19_cst_4 : Ref sig .tc := ⟨.hbm, 872, rfl⟩
abbrev main_call19_call3_v0 : Ref sig .tc := ⟨.hbm, 873, rfl⟩
abbrev main_call19_call3_v1 : Ref sig .tc := ⟨.hbm, 874, rfl⟩
abbrev main_call19_v23 : Ref sig .tc := ⟨.hbm, 875, rfl⟩
abbrev main_call19_v24 : Ref sig .tc := ⟨.hbm, 876, rfl⟩
abbrev main_call19_v25 : Ref sig .tc := ⟨.hbm, 877, rfl⟩
abbrev main_call19_cst_5 : Ref sig .tc := ⟨.hbm, 878, rfl⟩
abbrev main_call19_v26 : Ref sig .tc := ⟨.hbm, 879, rfl⟩
abbrev main_call19_v27 : Ref sig .tc := ⟨.hbm, 880, rfl⟩
abbrev main_call19_v28 : Ref sig .tc := ⟨.hbm, 881, rfl⟩
abbrev main_call19_call4_v0 : Ref sig .tc := ⟨.hbm, 882, rfl⟩
abbrev main_v53 : Ref sig .tc := ⟨.hbm, 883, rfl⟩
abbrev main_cst_28 : Ref sig .tc := ⟨.hbm, 884, rfl⟩
abbrev main_call20_v0 : Ref sig .tc := ⟨.hbm, 885, rfl⟩
abbrev main_call20_v1 : Ref sig .tc := ⟨.hbm, 886, rfl⟩
abbrev main_call20_call0_v0 : Ref sig .tc := ⟨.hbm, 887, rfl⟩
abbrev main_call20_call0_cst : Ref sig .tc := ⟨.hbm, 888, rfl⟩
abbrev main_call20_call0_c : Ref sig .tc := ⟨.hbm, 889, rfl⟩
abbrev main_call20_call0_v1_0 : Ref sig .tc := ⟨.hbm, 890, rfl⟩
abbrev main_call20_v2 : Ref sig .tc := ⟨.hbm, 891, rfl⟩
abbrev main_call20_cst : Ref sig .tc := ⟨.hbm, 892, rfl⟩
abbrev main_call20_v3 : Ref sig .tc := ⟨.hbm, 893, rfl⟩
abbrev main_call20_v4 : Ref sig .tc := ⟨.hbm, 894, rfl⟩
abbrev main_call20_v5 : Ref sig .tc := ⟨.hbm, 895, rfl⟩
abbrev main_call20_cst_0 : Ref sig .tc := ⟨.hbm, 896, rfl⟩
abbrev main_call20_v6 : Ref sig .tc := ⟨.hbm, 897, rfl⟩
abbrev main_call20_cst_1 : Ref sig .tc := ⟨.hbm, 898, rfl⟩
abbrev main_call20_v7 : Ref sig .tc := ⟨.hbm, 899, rfl⟩
abbrev main_call20_v8 : Ref sig .tc := ⟨.hbm, 900, rfl⟩
abbrev main_call20_v9 : Ref sig .tc := ⟨.hbm, 901, rfl⟩
abbrev main_call20_cst_2 : Ref sig .tc := ⟨.hbm, 902, rfl⟩
abbrev main_call20_call1_v0 : Ref sig .tc := ⟨.hbm, 903, rfl⟩
abbrev main_call20_call1_v1 : Ref sig .tc := ⟨.hbm, 904, rfl⟩
abbrev main_call20_v10 : Ref sig .tc := ⟨.hbm, 905, rfl⟩
abbrev main_call20_v11 : Ref sig .tc := ⟨.hbm, 906, rfl⟩
abbrev main_call20_v12 : Ref sig .tc := ⟨.hbm, 907, rfl⟩
abbrev main_call20_v13 : Ref sig .tc := ⟨.hbm, 908, rfl⟩
abbrev main_call20_cst_3 : Ref sig .tc := ⟨.hbm, 909, rfl⟩
abbrev main_call20_v14 : Ref sig .tc := ⟨.hbm, 910, rfl⟩
abbrev main_call20_v15 : Ref sig .tc := ⟨.hbm, 911, rfl⟩
abbrev main_call20_v16 : Ref sig .tc := ⟨.hbm, 912, rfl⟩
abbrev main_call20_v17 : Ref sig .tc := ⟨.hbm, 913, rfl⟩
abbrev main_call20_v18 : Ref sig .tc := ⟨.hbm, 914, rfl⟩
abbrev main_call20_v19 : Ref sig .tc := ⟨.hbm, 915, rfl⟩
abbrev main_call20_v20 : Ref sig .tc := ⟨.hbm, 916, rfl⟩
abbrev main_call20_v21 : Ref sig .tc := ⟨.hbm, 917, rfl⟩
abbrev main_call20_call2_v0 : Ref sig .tc := ⟨.hbm, 918, rfl⟩
abbrev main_call20_call2_cst : Ref sig .tc := ⟨.hbm, 919, rfl⟩
abbrev main_call20_call2_v1 : Ref sig .tc := ⟨.hbm, 920, rfl⟩
abbrev main_call20_call2_v2 : Ref sig .tc := ⟨.hbm, 921, rfl⟩
abbrev main_call20_v22 : Ref sig .tc := ⟨.hbm, 922, rfl⟩
abbrev main_call20_cst_4 : Ref sig .tc := ⟨.hbm, 923, rfl⟩
abbrev main_call20_call3_v0 : Ref sig .tc := ⟨.hbm, 924, rfl⟩
abbrev main_call20_call3_v1 : Ref sig .tc := ⟨.hbm, 925, rfl⟩
abbrev main_call20_v23 : Ref sig .tc := ⟨.hbm, 926, rfl⟩
abbrev main_call20_v24 : Ref sig .tc := ⟨.hbm, 927, rfl⟩
abbrev main_call20_v25 : Ref sig .tc := ⟨.hbm, 928, rfl⟩
abbrev main_call20_cst_5 : Ref sig .tc := ⟨.hbm, 929, rfl⟩
abbrev main_call20_v26 : Ref sig .tc := ⟨.hbm, 930, rfl⟩
abbrev main_call20_v27 : Ref sig .tc := ⟨.hbm, 931, rfl⟩
abbrev main_call20_v28 : Ref sig .tc := ⟨.hbm, 932, rfl⟩
abbrev main_call20_call4_v0 : Ref sig .tc := ⟨.hbm, 933, rfl⟩
abbrev main_v54 : Ref sig .tc := ⟨.hbm, 934, rfl⟩
abbrev main_cst_29 : Ref sig .tc := ⟨.hbm, 935, rfl⟩
abbrev main_call21_v0 : Ref sig .tc := ⟨.hbm, 936, rfl⟩
abbrev main_call21_v1 : Ref sig .tc := ⟨.hbm, 937, rfl⟩
abbrev main_call21_call0_v0 : Ref sig .tc := ⟨.hbm, 938, rfl⟩
abbrev main_call21_call0_cst : Ref sig .tc := ⟨.hbm, 939, rfl⟩
abbrev main_call21_call0_c : Ref sig .tc := ⟨.hbm, 940, rfl⟩
abbrev main_call21_call0_v1_0 : Ref sig .tc := ⟨.hbm, 941, rfl⟩
abbrev main_call21_v2 : Ref sig .tc := ⟨.hbm, 942, rfl⟩
abbrev main_call21_cst : Ref sig .tc := ⟨.hbm, 943, rfl⟩
abbrev main_call21_v3 : Ref sig .tc := ⟨.hbm, 944, rfl⟩
abbrev main_call21_v4 : Ref sig .tc := ⟨.hbm, 945, rfl⟩
abbrev main_call21_v5 : Ref sig .tc := ⟨.hbm, 946, rfl⟩
abbrev main_call21_cst_0 : Ref sig .tc := ⟨.hbm, 947, rfl⟩
abbrev main_call21_v6 : Ref sig .tc := ⟨.hbm, 948, rfl⟩
abbrev main_call21_cst_1 : Ref sig .tc := ⟨.hbm, 949, rfl⟩
abbrev main_call21_v7 : Ref sig .tc := ⟨.hbm, 950, rfl⟩
abbrev main_call21_v8 : Ref sig .tc := ⟨.hbm, 951, rfl⟩
abbrev main_call21_v9 : Ref sig .tc := ⟨.hbm, 952, rfl⟩
abbrev main_call21_cst_2 : Ref sig .tc := ⟨.hbm, 953, rfl⟩
abbrev main_call21_call1_v0 : Ref sig .tc := ⟨.hbm, 954, rfl⟩
abbrev main_call21_call1_v1 : Ref sig .tc := ⟨.hbm, 955, rfl⟩
abbrev main_call21_v10 : Ref sig .tc := ⟨.hbm, 956, rfl⟩
abbrev main_call21_v11 : Ref sig .tc := ⟨.hbm, 957, rfl⟩
abbrev main_call21_v12 : Ref sig .tc := ⟨.hbm, 958, rfl⟩
abbrev main_call21_v13 : Ref sig .tc := ⟨.hbm, 959, rfl⟩
abbrev main_call21_cst_3 : Ref sig .tc := ⟨.hbm, 960, rfl⟩
abbrev main_call21_v14 : Ref sig .tc := ⟨.hbm, 961, rfl⟩
abbrev main_call21_v15 : Ref sig .tc := ⟨.hbm, 962, rfl⟩
abbrev main_call21_v16 : Ref sig .tc := ⟨.hbm, 963, rfl⟩
abbrev main_call21_v17 : Ref sig .tc := ⟨.hbm, 964, rfl⟩
abbrev main_call21_v18 : Ref sig .tc := ⟨.hbm, 965, rfl⟩
abbrev main_call21_v19 : Ref sig .tc := ⟨.hbm, 966, rfl⟩
abbrev main_call21_v20 : Ref sig .tc := ⟨.hbm, 967, rfl⟩
abbrev main_call21_v21 : Ref sig .tc := ⟨.hbm, 968, rfl⟩
abbrev main_call21_call2_v0 : Ref sig .tc := ⟨.hbm, 969, rfl⟩
abbrev main_call21_call2_cst : Ref sig .tc := ⟨.hbm, 970, rfl⟩
abbrev main_call21_call2_v1 : Ref sig .tc := ⟨.hbm, 971, rfl⟩
abbrev main_call21_call2_v2 : Ref sig .tc := ⟨.hbm, 972, rfl⟩
abbrev main_call21_v22 : Ref sig .tc := ⟨.hbm, 973, rfl⟩
abbrev main_call21_cst_4 : Ref sig .tc := ⟨.hbm, 974, rfl⟩
abbrev main_call21_call3_v0 : Ref sig .tc := ⟨.hbm, 975, rfl⟩
abbrev main_call21_call3_v1 : Ref sig .tc := ⟨.hbm, 976, rfl⟩
abbrev main_call21_v23 : Ref sig .tc := ⟨.hbm, 977, rfl⟩
abbrev main_call21_v24 : Ref sig .tc := ⟨.hbm, 978, rfl⟩
abbrev main_call21_v25 : Ref sig .tc := ⟨.hbm, 979, rfl⟩
abbrev main_call21_cst_5 : Ref sig .tc := ⟨.hbm, 980, rfl⟩
abbrev main_call21_v26 : Ref sig .tc := ⟨.hbm, 981, rfl⟩
abbrev main_call21_v27 : Ref sig .tc := ⟨.hbm, 982, rfl⟩
abbrev main_call21_v28 : Ref sig .tc := ⟨.hbm, 983, rfl⟩
abbrev main_call21_call4_v0 : Ref sig .tc := ⟨.hbm, 984, rfl⟩
abbrev main_v55 : Ref sig .tc := ⟨.hbm, 985, rfl⟩
abbrev main_cst_30 : Ref sig .tc := ⟨.hbm, 986, rfl⟩
abbrev main_call22_v0 : Ref sig .tc := ⟨.hbm, 987, rfl⟩
abbrev main_call22_v1 : Ref sig .tc := ⟨.hbm, 988, rfl⟩
abbrev main_call22_call0_v0 : Ref sig .tc := ⟨.hbm, 989, rfl⟩
abbrev main_call22_call0_cst : Ref sig .tc := ⟨.hbm, 990, rfl⟩
abbrev main_call22_call0_c : Ref sig .tc := ⟨.hbm, 991, rfl⟩
abbrev main_call22_call0_v1_0 : Ref sig .tc := ⟨.hbm, 992, rfl⟩
abbrev main_call22_v2 : Ref sig .tc := ⟨.hbm, 993, rfl⟩
abbrev main_call22_cst : Ref sig .tc := ⟨.hbm, 994, rfl⟩
abbrev main_call22_v3 : Ref sig .tc := ⟨.hbm, 995, rfl⟩
abbrev main_call22_v4 : Ref sig .tc := ⟨.hbm, 996, rfl⟩
abbrev main_call22_v5 : Ref sig .tc := ⟨.hbm, 997, rfl⟩
abbrev main_call22_cst_0 : Ref sig .tc := ⟨.hbm, 998, rfl⟩
abbrev main_call22_v6 : Ref sig .tc := ⟨.hbm, 999, rfl⟩
abbrev main_call22_cst_1 : Ref sig .tc := ⟨.hbm, 1000, rfl⟩
abbrev main_call22_v7 : Ref sig .tc := ⟨.hbm, 1001, rfl⟩
abbrev main_call22_v8 : Ref sig .tc := ⟨.hbm, 1002, rfl⟩
abbrev main_call22_v9 : Ref sig .tc := ⟨.hbm, 1003, rfl⟩
abbrev main_call22_cst_2 : Ref sig .tc := ⟨.hbm, 1004, rfl⟩
abbrev main_call22_call1_v0 : Ref sig .tc := ⟨.hbm, 1005, rfl⟩
abbrev main_call22_call1_v1 : Ref sig .tc := ⟨.hbm, 1006, rfl⟩
abbrev main_call22_v10 : Ref sig .tc := ⟨.hbm, 1007, rfl⟩
abbrev main_call22_v11 : Ref sig .tc := ⟨.hbm, 1008, rfl⟩
abbrev main_call22_v12 : Ref sig .tc := ⟨.hbm, 1009, rfl⟩
abbrev main_call22_v13 : Ref sig .tc := ⟨.hbm, 1010, rfl⟩
abbrev main_call22_cst_3 : Ref sig .tc := ⟨.hbm, 1011, rfl⟩
abbrev main_call22_v14 : Ref sig .tc := ⟨.hbm, 1012, rfl⟩
abbrev main_call22_v15 : Ref sig .tc := ⟨.hbm, 1013, rfl⟩
abbrev main_call22_v16 : Ref sig .tc := ⟨.hbm, 1014, rfl⟩
abbrev main_call22_v17 : Ref sig .tc := ⟨.hbm, 1015, rfl⟩
abbrev main_call22_v18 : Ref sig .tc := ⟨.hbm, 1016, rfl⟩
abbrev main_call22_v19 : Ref sig .tc := ⟨.hbm, 1017, rfl⟩
abbrev main_call22_v20 : Ref sig .tc := ⟨.hbm, 1018, rfl⟩
abbrev main_call22_v21 : Ref sig .tc := ⟨.hbm, 1019, rfl⟩
abbrev main_call22_call2_v0 : Ref sig .tc := ⟨.hbm, 1020, rfl⟩
abbrev main_call22_call2_cst : Ref sig .tc := ⟨.hbm, 1021, rfl⟩
abbrev main_call22_call2_v1 : Ref sig .tc := ⟨.hbm, 1022, rfl⟩
abbrev main_call22_call2_v2 : Ref sig .tc := ⟨.hbm, 1023, rfl⟩
abbrev main_call22_v22 : Ref sig .tc := ⟨.hbm, 1024, rfl⟩
abbrev main_call22_cst_4 : Ref sig .tc := ⟨.hbm, 1025, rfl⟩
abbrev main_call22_call3_v0 : Ref sig .tc := ⟨.hbm, 1026, rfl⟩
abbrev main_call22_call3_v1 : Ref sig .tc := ⟨.hbm, 1027, rfl⟩
abbrev main_call22_v23 : Ref sig .tc := ⟨.hbm, 1028, rfl⟩
abbrev main_call22_v24 : Ref sig .tc := ⟨.hbm, 1029, rfl⟩
abbrev main_call22_v25 : Ref sig .tc := ⟨.hbm, 1030, rfl⟩
abbrev main_call22_cst_5 : Ref sig .tc := ⟨.hbm, 1031, rfl⟩
abbrev main_call22_v26 : Ref sig .tc := ⟨.hbm, 1032, rfl⟩
abbrev main_call22_v27 : Ref sig .tc := ⟨.hbm, 1033, rfl⟩
abbrev main_call22_v28 : Ref sig .tc := ⟨.hbm, 1034, rfl⟩
abbrev main_call22_call4_v0 : Ref sig .tc := ⟨.hbm, 1035, rfl⟩
abbrev main_v56 : Ref sig .tc := ⟨.hbm, 1036, rfl⟩
abbrev main_cst_31 : Ref sig .tc := ⟨.hbm, 1037, rfl⟩
abbrev main_call23_v0 : Ref sig .tc := ⟨.hbm, 1038, rfl⟩
abbrev main_call23_v1 : Ref sig .tc := ⟨.hbm, 1039, rfl⟩
abbrev main_call23_call0_v0 : Ref sig .tc := ⟨.hbm, 1040, rfl⟩
abbrev main_call23_call0_cst : Ref sig .tc := ⟨.hbm, 1041, rfl⟩
abbrev main_call23_call0_c : Ref sig .tc := ⟨.hbm, 1042, rfl⟩
abbrev main_call23_call0_v1_0 : Ref sig .tc := ⟨.hbm, 1043, rfl⟩
abbrev main_call23_v2 : Ref sig .tc := ⟨.hbm, 1044, rfl⟩
abbrev main_call23_cst : Ref sig .tc := ⟨.hbm, 1045, rfl⟩
abbrev main_call23_v3 : Ref sig .tc := ⟨.hbm, 1046, rfl⟩
abbrev main_call23_v4 : Ref sig .tc := ⟨.hbm, 1047, rfl⟩
abbrev main_call23_v5 : Ref sig .tc := ⟨.hbm, 1048, rfl⟩
abbrev main_call23_cst_0 : Ref sig .tc := ⟨.hbm, 1049, rfl⟩
abbrev main_call23_v6 : Ref sig .tc := ⟨.hbm, 1050, rfl⟩
abbrev main_call23_cst_1 : Ref sig .tc := ⟨.hbm, 1051, rfl⟩
abbrev main_call23_v7 : Ref sig .tc := ⟨.hbm, 1052, rfl⟩
abbrev main_call23_v8 : Ref sig .tc := ⟨.hbm, 1053, rfl⟩
abbrev main_call23_v9 : Ref sig .tc := ⟨.hbm, 1054, rfl⟩
abbrev main_call23_cst_2 : Ref sig .tc := ⟨.hbm, 1055, rfl⟩
abbrev main_call23_call1_v0 : Ref sig .tc := ⟨.hbm, 1056, rfl⟩
abbrev main_call23_call1_v1 : Ref sig .tc := ⟨.hbm, 1057, rfl⟩
abbrev main_call23_v10 : Ref sig .tc := ⟨.hbm, 1058, rfl⟩
abbrev main_call23_v11 : Ref sig .tc := ⟨.hbm, 1059, rfl⟩
abbrev main_call23_v12 : Ref sig .tc := ⟨.hbm, 1060, rfl⟩
abbrev main_call23_v13 : Ref sig .tc := ⟨.hbm, 1061, rfl⟩
abbrev main_call23_cst_3 : Ref sig .tc := ⟨.hbm, 1062, rfl⟩
abbrev main_call23_v14 : Ref sig .tc := ⟨.hbm, 1063, rfl⟩
abbrev main_call23_v15 : Ref sig .tc := ⟨.hbm, 1064, rfl⟩
abbrev main_call23_v16 : Ref sig .tc := ⟨.hbm, 1065, rfl⟩
abbrev main_call23_v17 : Ref sig .tc := ⟨.hbm, 1066, rfl⟩
abbrev main_call23_v18 : Ref sig .tc := ⟨.hbm, 1067, rfl⟩
abbrev main_call23_v19 : Ref sig .tc := ⟨.hbm, 1068, rfl⟩
abbrev main_call23_v20 : Ref sig .tc := ⟨.hbm, 1069, rfl⟩
abbrev main_call23_v21 : Ref sig .tc := ⟨.hbm, 1070, rfl⟩
abbrev main_call23_call2_v0 : Ref sig .tc := ⟨.hbm, 1071, rfl⟩
abbrev main_call23_call2_cst : Ref sig .tc := ⟨.hbm, 1072, rfl⟩
abbrev main_call23_call2_v1 : Ref sig .tc := ⟨.hbm, 1073, rfl⟩
abbrev main_call23_call2_v2 : Ref sig .tc := ⟨.hbm, 1074, rfl⟩
abbrev main_call23_v22 : Ref sig .tc := ⟨.hbm, 1075, rfl⟩
abbrev main_call23_cst_4 : Ref sig .tc := ⟨.hbm, 1076, rfl⟩
abbrev main_call23_call3_v0 : Ref sig .tc := ⟨.hbm, 1077, rfl⟩
abbrev main_call23_call3_v1 : Ref sig .tc := ⟨.hbm, 1078, rfl⟩
abbrev main_call23_v23 : Ref sig .tc := ⟨.hbm, 1079, rfl⟩
abbrev main_call23_v24 : Ref sig .tc := ⟨.hbm, 1080, rfl⟩
abbrev main_call23_v25 : Ref sig .tc := ⟨.hbm, 1081, rfl⟩
abbrev main_call23_cst_5 : Ref sig .tc := ⟨.hbm, 1082, rfl⟩
abbrev main_call23_v26 : Ref sig .tc := ⟨.hbm, 1083, rfl⟩
abbrev main_call23_v27 : Ref sig .tc := ⟨.hbm, 1084, rfl⟩
abbrev main_call23_v28 : Ref sig .tc := ⟨.hbm, 1085, rfl⟩
abbrev main_call23_call4_v0 : Ref sig .tc := ⟨.hbm, 1086, rfl⟩
abbrev main_v57 : Ref sig .tc := ⟨.hbm, 1087, rfl⟩
abbrev main_c_32 : Ref sig .tc := ⟨.hbm, 1088, rfl⟩
abbrev main_v58 : Ref sig .tc := ⟨.hbm, 1089, rfl⟩
abbrev main_v59 : Ref sig .tc := ⟨.hbm, 1090, rfl⟩
abbrev main_c_33 : Ref sig .tc := ⟨.hbm, 1091, rfl⟩
abbrev main_v60 : Ref sig .tc := ⟨.hbm, 1092, rfl⟩
abbrev main_v61 : Ref sig .tc := ⟨.hbm, 1093, rfl⟩
abbrev main_v62 : Ref sig .tc := ⟨.hbm, 1094, rfl⟩
abbrev main_v63 : Ref sig .tc := ⟨.hbm, 1095, rfl⟩
abbrev main_v64 : Ref sig .tc := ⟨.hbm, 1096, rfl⟩
abbrev main_call24_v0 : Ref sig .tc := ⟨.hbm, 1097, rfl⟩
abbrev main_call24_cst : Ref sig .tc := ⟨.hbm, 1098, rfl⟩
abbrev main_call24_v1 : Ref sig .tc := ⟨.hbm, 1099, rfl⟩
abbrev main_call24_v2 : Ref sig .tc := ⟨.hbm, 1100, rfl⟩
abbrev main_v65 : Ref sig .tc := ⟨.hbm, 1101, rfl⟩
abbrev main_cst_34 : Ref sig .tc := ⟨.hbm, 1102, rfl⟩
abbrev main_call25_v0 : Ref sig .tc := ⟨.hbm, 1103, rfl⟩
abbrev main_call25_v1 : Ref sig .tc := ⟨.hbm, 1104, rfl⟩
abbrev main_v66 : Ref sig .tc := ⟨.hbm, 1105, rfl⟩
abbrev main_v67 : Ref sig .tc := ⟨.hbm, 1106, rfl⟩
abbrev main_v68 : Ref sig .tc := ⟨.hbm, 1107, rfl⟩
abbrev main_c_35 : Ref sig .tc := ⟨.hbm, 1108, rfl⟩
abbrev main_v69 : Ref sig .tc := ⟨.hbm, 1109, rfl⟩
abbrev main_v70 : Ref sig .tc := ⟨.hbm, 1110, rfl⟩
abbrev main_c_36 : Ref sig .tc := ⟨.hbm, 1111, rfl⟩
abbrev main_v71 : Ref sig .tc := ⟨.hbm, 1112, rfl⟩
abbrev main_v72 : Ref sig .tc := ⟨.hbm, 1113, rfl⟩
abbrev main_v73 : Ref sig .tc := ⟨.hbm, 1114, rfl⟩
abbrev main_v74 : Ref sig .tc := ⟨.hbm, 1115, rfl⟩
abbrev main_v75 : Ref sig .tc := ⟨.hbm, 1116, rfl⟩
abbrev main_call26_v0 : Ref sig .tc := ⟨.hbm, 1117, rfl⟩
abbrev main_call26_cst : Ref sig .tc := ⟨.hbm, 1118, rfl⟩
abbrev main_call26_v1 : Ref sig .tc := ⟨.hbm, 1119, rfl⟩
abbrev main_call26_v2 : Ref sig .tc := ⟨.hbm, 1120, rfl⟩
abbrev main_v76 : Ref sig .tc := ⟨.hbm, 1121, rfl⟩
abbrev main_cst_37 : Ref sig .tc := ⟨.hbm, 1122, rfl⟩
abbrev main_call27_v0 : Ref sig .tc := ⟨.hbm, 1123, rfl⟩
abbrev main_call27_v1 : Ref sig .tc := ⟨.hbm, 1124, rfl⟩
abbrev main_v77 : Ref sig .tc := ⟨.hbm, 1125, rfl⟩
abbrev main_v78 : Ref sig .tc := ⟨.hbm, 1126, rfl⟩
abbrev main_v79 : Ref sig .tc := ⟨.hbm, 1127, rfl⟩
abbrev main_v80 : Ref sig .tc := ⟨.hbm, 1128, rfl⟩
abbrev main_v81 : Ref sig .tc := ⟨.hbm, 1129, rfl⟩
abbrev main_cst_38 : Ref sig .tc := ⟨.hbm, 1130, rfl⟩
abbrev main_v82 : Ref sig .tc := ⟨.hbm, 1131, rfl⟩
abbrev main_cst_39 : Ref sig .tc := ⟨.hbm, 1132, rfl⟩
abbrev main_v83 : Ref sig .tc := ⟨.hbm, 1133, rfl⟩
abbrev main_cst_40 : Ref sig .tc := ⟨.hbm, 1134, rfl⟩
abbrev main_v84 : Ref sig .tc := ⟨.hbm, 1135, rfl⟩
abbrev main_v85 : Ref sig .tc := ⟨.hbm, 1136, rfl⟩
abbrev main_v86 : Ref sig .tc := ⟨.hbm, 1137, rfl⟩
abbrev main_cst_41 : Ref sig .tc := ⟨.hbm, 1138, rfl⟩
abbrev main_v87 : Ref sig .tc := ⟨.hbm, 1139, rfl⟩
abbrev main_cst_42 : Ref sig .tc := ⟨.hbm, 1140, rfl⟩
abbrev main_v88 : Ref sig .tc := ⟨.hbm, 1141, rfl⟩
abbrev main_cst_43 : Ref sig .tc := ⟨.hbm, 1142, rfl⟩
abbrev main_v89 : Ref sig .tc := ⟨.hbm, 1143, rfl⟩
abbrev main_cst_44 : Ref sig .tc := ⟨.hbm, 1144, rfl⟩
abbrev main_v90 : Ref sig .tc := ⟨.hbm, 1145, rfl⟩
abbrev main_v91 : Ref sig .tc := ⟨.hbm, 1146, rfl⟩
abbrev main_call28_cst : Ref sig .tc := ⟨.hbm, 1147, rfl⟩
abbrev main_v92 : Ref sig .tc := ⟨.hbm, 1148, rfl⟩
abbrev main_c_45 : Ref sig .tc := ⟨.hbm, 1149, rfl⟩
abbrev main_v93 : Ref sig .tc := ⟨.hbm, 1150, rfl⟩
abbrev main_v94 : Ref sig .tc := ⟨.hbm, 1151, rfl⟩
abbrev main_c_46 : Ref sig .tc := ⟨.hbm, 1152, rfl⟩
abbrev main_v95 : Ref sig .tc := ⟨.hbm, 1153, rfl⟩
abbrev main_v96 : Ref sig .tc := ⟨.hbm, 1154, rfl⟩
abbrev main_v97 : Ref sig .tc := ⟨.hbm, 1155, rfl⟩
abbrev main_v98 : Ref sig .tc := ⟨.hbm, 1156, rfl⟩
abbrev main_v99 : Ref sig .tc := ⟨.hbm, 1157, rfl⟩
abbrev main_call29_v0 : Ref sig .tc := ⟨.hbm, 1158, rfl⟩
abbrev main_call29_cst : Ref sig .tc := ⟨.hbm, 1159, rfl⟩
abbrev main_call29_v1 : Ref sig .tc := ⟨.hbm, 1160, rfl⟩
abbrev main_call29_v2 : Ref sig .tc := ⟨.hbm, 1161, rfl⟩
abbrev main_v100 : Ref sig .tc := ⟨.hbm, 1162, rfl⟩
abbrev main_cst_47 : Ref sig .tc := ⟨.hbm, 1163, rfl⟩
abbrev main_call30_v0 : Ref sig .tc := ⟨.hbm, 1164, rfl⟩
abbrev main_call30_v1 : Ref sig .tc := ⟨.hbm, 1165, rfl⟩
abbrev main_v101 : Ref sig .tc := ⟨.hbm, 1166, rfl⟩
abbrev main_v102 : Ref sig .tc := ⟨.hbm, 1167, rfl⟩
abbrev main_v103 : Ref sig .tc := ⟨.hbm, 1168, rfl⟩
abbrev main_v104 : Ref sig .tc := ⟨.hbm, 1169, rfl⟩
abbrev main_v105 : Ref sig .tc := ⟨.hbm, 1170, rfl⟩
abbrev main_cst_48 : Ref sig .tc := ⟨.hbm, 1171, rfl⟩
abbrev main_v106 : Ref sig .tc := ⟨.hbm, 1172, rfl⟩
abbrev main_v107 : Ref sig .tc := ⟨.hbm, 1173, rfl⟩
abbrev main_cst_49 : Ref sig .tc := ⟨.hbm, 1174, rfl⟩
abbrev main_v108 : Ref sig .tc := ⟨.hbm, 1175, rfl⟩
abbrev main_v109 : Ref sig .tc := ⟨.hbm, 1176, rfl⟩
abbrev main_cst_50 : Ref sig .tc := ⟨.hbm, 1177, rfl⟩
abbrev main_v110 : Ref sig .tc := ⟨.hbm, 1178, rfl⟩
abbrev main_v111 : Ref sig .tc := ⟨.hbm, 1179, rfl⟩
abbrev main_cst_51 : Ref sig .tc := ⟨.hbm, 1180, rfl⟩
abbrev main_v112 : Ref sig .tc := ⟨.hbm, 1181, rfl⟩
abbrev main_v113 : Ref sig .tc := ⟨.hbm, 1182, rfl⟩
abbrev main_v114 : Ref sig .tc := ⟨.hbm, 1183, rfl⟩
abbrev main_v115 : Ref sig .tc := ⟨.hbm, 1184, rfl⟩
abbrev main_v116 : Ref sig .tc := ⟨.hbm, 1185, rfl⟩
abbrev main_v117 : Ref sig .tc := ⟨.hbm, 1186, rfl⟩
abbrev main_cst_52 : Ref sig .tc := ⟨.hbm, 1187, rfl⟩
abbrev main_v118 : Ref sig .tc := ⟨.hbm, 1188, rfl⟩
abbrev main_v119 : Ref sig .tc := ⟨.hbm, 1189, rfl⟩
abbrev main_v120 : Ref sig .tc := ⟨.hbm, 1190, rfl⟩
abbrev main_v121 : Ref sig .tc := ⟨.hbm, 1191, rfl⟩
abbrev main_v122 : Ref sig .tc := ⟨.hbm, 1192, rfl⟩
abbrev main_cst_53 : Ref sig .tc := ⟨.hbm, 1193, rfl⟩
abbrev main_v123 : Ref sig .tc := ⟨.hbm, 1194, rfl⟩
abbrev main_v124 : Ref sig .tc := ⟨.hbm, 1195, rfl⟩
abbrev main_v125 : Ref sig .tc := ⟨.hbm, 1196, rfl⟩
abbrev main_cst_54 : Ref sig .tc := ⟨.hbm, 1197, rfl⟩
abbrev main_v126 : Ref sig .tc := ⟨.hbm, 1198, rfl⟩
abbrev main_v127 : Ref sig .tc := ⟨.hbm, 1199, rfl⟩
abbrev main_cst_55 : Ref sig .tc := ⟨.hbm, 1200, rfl⟩
abbrev main_v128 : Ref sig .tc := ⟨.hbm, 1201, rfl⟩
abbrev main_v129 : Ref sig .tc := ⟨.hbm, 1202, rfl⟩
abbrev main_cst_56 : Ref sig .tc := ⟨.hbm, 1203, rfl⟩
abbrev main_v130 : Ref sig .tc := ⟨.hbm, 1204, rfl⟩
abbrev main_v131 : Ref sig .tc := ⟨.hbm, 1205, rfl⟩
abbrev main_v132 : Ref sig .tc := ⟨.hbm, 1206, rfl⟩
abbrev main_v133 : Ref sig .tc := ⟨.hbm, 1207, rfl⟩
abbrev main_v134 : Ref sig .tc := ⟨.hbm, 1208, rfl⟩
abbrev main_v135 : Ref sig .tc := ⟨.hbm, 1209, rfl⟩
abbrev main_cst_57 : Ref sig .tc := ⟨.hbm, 1210, rfl⟩
abbrev main_v136 : Ref sig .tc := ⟨.hbm, 1211, rfl⟩
abbrev main_v137 : Ref sig .tc := ⟨.hbm, 1212, rfl⟩
abbrev main_v138 : Ref sig .tc := ⟨.hbm, 1213, rfl⟩
abbrev main_v139 : Ref sig .tc := ⟨.hbm, 1214, rfl⟩
abbrev main_cst_58 : Ref sig .tc := ⟨.hbm, 1215, rfl⟩
abbrev main_v140 : Ref sig .tc := ⟨.hbm, 1216, rfl⟩
abbrev main_cst_59 : Ref sig .tc := ⟨.hbm, 1217, rfl⟩
abbrev main_v141 : Ref sig .tc := ⟨.hbm, 1218, rfl⟩
abbrev main_v142 : Ref sig .tc := ⟨.hbm, 1219, rfl⟩
abbrev main_cst_60 : Ref sig .tc := ⟨.hbm, 1220, rfl⟩
abbrev main_v143 : Ref sig .tc := ⟨.hbm, 1221, rfl⟩
abbrev main_v144 : Ref sig .tc := ⟨.hbm, 1222, rfl⟩
abbrev main_cst_61 : Ref sig .tc := ⟨.hbm, 1223, rfl⟩
abbrev main_v145 : Ref sig .tc := ⟨.hbm, 1224, rfl⟩
abbrev main_v146 : Ref sig .tc := ⟨.hbm, 1225, rfl⟩
abbrev main_cst_62 : Ref sig .tc := ⟨.hbm, 1226, rfl⟩
abbrev main_v147 : Ref sig .tc := ⟨.hbm, 1227, rfl⟩
abbrev main_v148 : Ref sig .tc := ⟨.hbm, 1228, rfl⟩
abbrev main_v149 : Ref sig .tc := ⟨.hbm, 1229, rfl⟩
abbrev main_call31_v0 : Ref sig .tc := ⟨.hbm, 1230, rfl⟩
abbrev main_call31_cst : Ref sig .tc := ⟨.hbm, 1231, rfl⟩
abbrev main_call31_v1 : Ref sig .tc := ⟨.hbm, 1232, rfl⟩
abbrev main_call31_v2 : Ref sig .tc := ⟨.hbm, 1233, rfl⟩
abbrev main_v150 : Ref sig .tc := ⟨.hbm, 1234, rfl⟩
abbrev main_cst_63 : Ref sig .tc := ⟨.hbm, 1235, rfl⟩
abbrev main_call32_v0 : Ref sig .tc := ⟨.hbm, 1236, rfl⟩
abbrev main_call32_v1 : Ref sig .tc := ⟨.hbm, 1237, rfl⟩
abbrev main_v151 : Ref sig .tc := ⟨.hbm, 1238, rfl⟩
abbrev main_v152 : Ref sig .tc := ⟨.hbm, 1239, rfl⟩
abbrev main_v153 : Ref sig .tc := ⟨.hbm, 1240, rfl⟩
abbrev main_cst_64 : Ref sig .tc := ⟨.hbm, 1241, rfl⟩
abbrev main_v154 : Ref sig .tc := ⟨.hbm, 1242, rfl⟩
abbrev main_v155 : Ref sig .tc := ⟨.hbm, 1243, rfl⟩
abbrev main_cst_65 : Ref sig .tc := ⟨.hbm, 1244, rfl⟩
abbrev main_v156 : Ref sig .tc := ⟨.hbm, 1245, rfl⟩
abbrev main_v157 : Ref sig .tc := ⟨.hbm, 1246, rfl⟩
abbrev main_v158 : Ref sig .tc := ⟨.hbm, 1247, rfl⟩
abbrev main_call33_v0 : Ref sig .tc := ⟨.hbm, 1248, rfl⟩
abbrev main_call33_cst : Ref sig .tc := ⟨.hbm, 1249, rfl⟩
abbrev main_call33_v1 : Ref sig .tc := ⟨.hbm, 1250, rfl⟩
abbrev main_call33_v2 : Ref sig .tc := ⟨.hbm, 1251, rfl⟩
abbrev main_v159 : Ref sig .tc := ⟨.hbm, 1252, rfl⟩
abbrev main_cst_66 : Ref sig .tc := ⟨.hbm, 1253, rfl⟩
abbrev main_call34_v0 : Ref sig .tc := ⟨.hbm, 1254, rfl⟩
abbrev main_call34_v1 : Ref sig .tc := ⟨.hbm, 1255, rfl⟩
abbrev main_v160 : Ref sig .tc := ⟨.hbm, 1256, rfl⟩
abbrev main_v161 : Ref sig .tc := ⟨.hbm, 1257, rfl⟩
abbrev main_v162 : Ref sig .tc := ⟨.hbm, 1258, rfl⟩

abbrev nD : Nat := 1
abbrev τ : Topo := Topo.v7x

variable {F : FTy → Type} [FloatOps F]
-- ==== Proof.Line.lean ====
/-
  Straight lines of host operations in which every buffer is written once, after everything it reads.

  Such a line ends with buffer contents `W` that every one of its operations leaves unchanged: the value of each
  result is the operation's function of the values of its operands, all read from the same `W`. So what a line
  computes is a list of equations about one final memory. `Line p s E` collects for a program `p` what is needed: it is a line,
  `s` lists what each operation writes and reads, and `E` holds of all contents that the line's operations fix.
-/
module

public import Idealize.ShloMosaic.Lib.StableHlo.RunHlo
public import Idealize.ShloMosaic.Lib.Quiescent

@[expose] public section

noncomputable section

namespace Cert.Lines

open Idealize.ShloMosaic Idealize.ShloMosaic.StableHlo Idealize.SL.Sem

variable {nD : Nat} {τ : Topo} {sig : RefSig} {Val : EltTy → Type} {Λ : Labels}

/-- A reference's position in the program's table of buffers. -/
def rank (r : Ref sig .tc) : ℕ := r.idx.val

/-- An operation writes exactly `y`, and what it writes depends on the contents of `xs` only. -/
structure Fits (op : HloOp τ sig Val) (y : Ref sig .tc) (xs : List (Ref sig .tc)) : Prop where
  writes : op.writes = {Proc.devRef .tc y}
  fresh : op.fresh = ∅
  bufs : op.bufs ⊆ tcRefs τ sig
  dep : ∀ F G : Valuation τ sig Val, (∀ x ∈ xs, F (Proc.devRef .tc x) = G (Proc.devRef .tc x)) →
    op.result F (Proc.devRef .tc y) = op.result G (Proc.devRef .tc y)

/-- Every operation of the list writes a position not below `lo`, above all positions written before it and above
    all positions it reads. -/
def ordered : ℕ → List (Ref sig .tc × List (Ref sig .tc)) → Bool
  | _, [] => true
  | lo, (y, xs) :: s => decide (lo ≤ rank y) && xs.all (fun x => decide (rank x < rank y)) && ordered (rank y + 1) s

/-- After an ordered line the buffers below `lo` are as before, and the contents are fixed by each of its operations. -/
theorem after_fix (ops : List (HloOp τ sig Val)) (s : List (Ref sig .tc × List (Ref sig .tc)))
    (h : List.Forall₂ (fun op w => Fits op w.1 w.2) ops s) :
    ∀ (lo : ℕ) (V : Valuation τ sig Val), ordered lo s = true →
      (∀ r : Ref sig .tc, rank r < lo → after ops V (Proc.devRef .tc r) = V (Proc.devRef .tc r))
      ∧ ∀ op ∈ ops, op.result (after ops V) = after ops V := by
  induction h with
  | nil => exact fun _ _ _ => ⟨fun _ _ => rfl, fun _ h => nomatch h⟩
  | @cons op w ops s hf _ ih =>
    intro lo V ho
    obtain ⟨y, xs⟩ := w
    simp only [ordered, Bool.and_eq_true, decide_eq_true_eq, List.all_eq_true] at ho
    obtain ⟨⟨hlo, hxs⟩, hs⟩ := ho
    obtain ⟨hold, hfix⟩ := ih (rank y + 1) (op.result V) hs
    have hV : ∀ r : Ref sig .tc, rank r < rank y → op.result V (Proc.devRef .tc r) = V (Proc.devRef .tc r) := fun r hr =>
      op.result_of_not_mem V (by
        rw [hf.writes, Finset.mem_singleton]
        exact devRef_ne_of_ne fun e => by rw [e] at hr; exact lt_irrefl _ hr)
    refine ⟨fun r hr => ?_, fun o ho => ?_⟩
    · rw [after_cons, hold r (by omega), hV r (by omega)]
    · rcases List.mem_cons.mp ho with rfl | ho
      · funext b
        by_cases hb : b ∈ o.writes
        · rw [hf.writes, Finset.mem_singleton] at hb
          subst hb
          rw [after_cons, hold y (by omega)]
          refine hf.dep _ _ fun x hx => ?_
          rw [hold x (by have := hxs x hx; omega), hV x (hxs x hx)]
        · exact o.result_of_not_mem _ hb
      · exact hfix o ho

/-- `p` is a line of operations, `s` is what they write and read, and `E` holds of all contents they fix. -/
def Line (p : Prog (TpuEff nD τ sig Val Λ .tc) PUnit) (s : List (Ref sig .tc × List (Ref sig .tc)))
    (E : Valuation τ sig Val → Prop) : Prop :=
  ∃ ops : List (HloOp τ sig Val), p = seq ops ∧ List.Forall₂ (fun op w => Fits op w.1 w.2) ops s
    ∧ ∀ W : Valuation τ sig Val, (∀ op ∈ ops, op.result W = W) → E W

/-- A line's equations weaken. -/
theorem Line.mono {p : Prog (TpuEff nD τ sig Val Λ .tc) PUnit} {s : List (Ref sig .tc × List (Ref sig .tc))}
    {E E' : Valuation τ sig Val → Prop} (h : Line p s E) (hE : ∀ W, E W → E' W) : Line p s E' := by
  obtain ⟨ops, hp, hs, he⟩ := h
  exact ⟨ops, hp, hs, fun W hW => hE W (he W hW)⟩

/-- The empty line. -/
theorem Line.nil : Line (pure ⟨⟩ : Prog (TpuEff nD τ sig Val Λ .tc) PUnit) [] (fun _ => True) :=
  ⟨[], rfl, .nil, fun _ _ => trivial⟩

/-- One operation, then a line. -/
theorem Line.cons {op : HloOp τ sig Val} {y : Ref sig .tc} {xs : List (Ref sig .tc)} {A E : Valuation τ sig Val → Prop}
    {k : Prog (TpuEff nD τ sig Val Λ .tc) PUnit} {s : List (Ref sig .tc × List (Ref sig .tc))}
    (hf : Fits op y xs) (ha : ∀ W : Valuation τ sig Val, op.result W = W → A W) (hk : Line k s E) :
    Line ((hlo rfl op fun _ => .ret (⟨⟩ : PUnit)) >>= fun _ => k) ((y, xs) :: s) (fun W => A W ∧ E W) := by
  obtain ⟨ops, rfl, hs, he⟩ := hk
  exact ⟨op :: ops, rfl, .cons hf hs, fun W hW =>
    ⟨ha W (hW op List.mem_cons_self), he W fun o ho => hW o (List.mem_cons_of_mem _ ho)⟩⟩

/-- A line, then a line. -/
theorem Line.bind {p k : Prog (TpuEff nD τ sig Val Λ .tc) PUnit} {s t : List (Ref sig .tc × List (Ref sig .tc))}
    {A E : Valuation τ sig Val → Prop} (hp : Line p s A) (hk : Line k t E) :
    Line (p >>= fun _ => k) (s ++ t) (fun W => A W ∧ E W) := by
  obtain ⟨o₁, rfl, h₁, e₁⟩ := hp
  obtain ⟨o₂, rfl, h₂, e₂⟩ := hk
  exact ⟨o₁ ++ o₂, (seq_append _ _).symm, List.rel_append h₁ h₂, fun W hW =>
    ⟨e₁ W fun o ho => hW o (List.mem_append_left _ ho), e₂ W fun o ho => hW o (List.mem_append_right _ ho)⟩⟩

/-! ## The builders -/

section Builders

variable (x a b c e y : Ref sig .tc)

theorem fits_nullary (v : y.ty.Contents Val) (hy) : Fits (nullary (τ := τ) y v hy) y [] where
  writes := rfl
  fresh := rfl
  bufs := nullary_bufs_sub y v hy
  dep F G _ := by rw [nullary_result', nullary_result']

theorem fits_unary (f : x.ty.Contents Val → y.ty.Contents Val) (hx hy) : Fits (unary (τ := τ) x y f hx hy) y [x] where
  writes := rfl
  fresh := rfl
  bufs := unary_bufs_sub x y f hx hy
  dep F G h := by rw [unary_result', unary_result', h x (by simp)]

theorem fits_binary (f : a.ty.Contents Val → b.ty.Contents Val → y.ty.Contents Val) (ha hb hy) :
    Fits (binary (τ := τ) a b y f ha hb hy) y [a, b] where
  writes := rfl
  fresh := rfl
  bufs := binary_bufs_sub a b y f ha hb hy
  dep F G h := by rw [binary_result', binary_result', h a (by simp), h b (by simp)]

theorem fits_ternary (f : c.ty.Contents Val → a.ty.Contents Val → b.ty.Contents Val → y.ty.Contents Val) (hc ha hb hy) :
    Fits (ternary (τ := τ) c a b y f hc ha hb hy) y [c, a, b] where
  writes := rfl
  fresh := rfl
  bufs := ternary_bufs_sub a b c y f hc ha hb hy
  dep F G h := by rw [ternary_result', ternary_result', h a (by simp), h b (by simp), h c (by simp)]

theorem fits_quaternary (f : a.ty.Contents Val → b.ty.Contents Val → c.ty.Contents Val → e.ty.Contents Val → y.ty.Contents Val)
    (ha hb hc he hy) : Fits (quaternary (τ := τ) a b c e y f ha hb hc he hy) y [a, b, c, e] where
  writes := rfl
  fresh := rfl
  bufs := quaternary_bufs_sub a b c e y f ha hb hc he hy
  dep F G h := by
    rw [quaternary_result', quaternary_result', h a (by simp), h b (by simp), h c (by simp), h e (by simp)]

theorem fits_reshape (he hn hx hy) : Fits (reshape (τ := τ) (Val := Val) x y he hn hx hy) y [x] where
  writes := rfl
  fresh := rfl
  bufs := reshape_bufs_sub x y he hn hx hy
  dep F G h := by rw [reshape_result', reshape_result', h x (by simp)]

variable {k : Prog (TpuEff nD τ sig Val Λ .tc) PUnit} {s : List (Ref sig .tc × List (Ref sig .tc))}
  {E : Valuation τ sig Val → Prop}

/-- A line starting with a constant. -/
theorem Line.nullary (v : y.ty.Contents Val) (hy) (hk : Line k s E) :
    Line ((hlo rfl (StableHlo.nullary y v hy) fun _ => .ret (⟨⟩ : PUnit)) >>= fun _ => k) ((y, []) :: s)
      (fun W => W (Proc.devRef .tc y) = v ∧ E W) :=
  .cons (fits_nullary y v hy) (fun W h => by rw [← h]; exact nullary_result' (y := y) v hy W) hk

/-- A line starting with an operation of one operand. -/
theorem Line.unary (f : x.ty.Contents Val → y.ty.Contents Val) (hx hy) (hk : Line k s E) :
    Line ((hlo rfl (StableHlo.unary x y f hx hy) fun _ => .ret (⟨⟩ : PUnit)) >>= fun _ => k) ((y, [x]) :: s)
      (fun W => W (Proc.devRef .tc y) = f (W (Proc.devRef .tc x)) ∧ E W) :=
  .cons (fits_unary x y f hx hy) (fun W h => by
    have := unary_result' (x := x) (y := y) f hx hy W; rwa [h] at this) hk

/-- A line starting with an operation of two operands. -/
theorem Line.binary (f : a.ty.Contents Val → b.ty.Contents Val → y.ty.Contents Val) (ha hb hy) (hk : Line k s E) :
    Line ((hlo rfl (StableHlo.binary a b y f ha hb hy) fun _ => .ret (⟨⟩ : PUnit)) >>= fun _ => k) ((y, [a, b]) :: s)
      (fun W => W (Proc.devRef .tc y) = f (W (Proc.devRef .tc a)) (W (Proc.devRef .tc b)) ∧ E W) :=
  .cons (fits_binary a b y f ha hb hy) (fun W h => by
    have := binary_result' (a := a) (b := b) (y := y) f ha hb hy W; rwa [h] at this) hk

/-- A line starting with an operation of three operands. -/
theorem Line.ternary (f : c.ty.Contents Val → a.ty.Contents Val → b.ty.Contents Val → y.ty.Contents Val) (hc ha hb hy)
    (hk : Line k s E) :
    Line ((hlo rfl (StableHlo.ternary c a b y f hc ha hb hy) fun _ => .ret (⟨⟩ : PUnit)) >>= fun _ => k)
      ((y, [c, a, b]) :: s)
      (fun W => W (Proc.devRef .tc y) = f (W (Proc.devRef .tc c)) (W (Proc.devRef .tc a)) (W (Proc.devRef .tc b)) ∧ E W) :=
  .cons (fits_ternary a b c y f hc ha hb hy) (fun W h => by
    have := ternary_result' (a := a) (b := b) (c := c) (y := y) f hc ha hb hy W; rwa [h] at this) hk

/-- A line starting with an operation of four operands. -/
theorem Line.quaternary
    (f : a.ty.Contents Val → b.ty.Contents Val → c.ty.Contents Val → e.ty.Contents Val → y.ty.Contents Val)
    (ha hb hc he hy) (hk : Line k s E) :
    Line ((hlo rfl (StableHlo.quaternary a b c e y f ha hb hc he hy) fun _ => .ret (⟨⟩ : PUnit)) >>= fun _ => k)
      ((y, [a, b, c, e]) :: s)
      (fun W => W (Proc.devRef .tc y)
        = f (W (Proc.devRef .tc a)) (W (Proc.devRef .tc b)) (W (Proc.devRef .tc c)) (W (Proc.devRef .tc e)) ∧ E W) :=
  .cons (fits_quaternary a b c e y f ha hb hc he hy) (fun W h => by
    have := quaternary_result' (a := a) (b := b) (c := c) (e := e) (y := y) f ha hb hc he hy W; rwa [h] at this) hk

/-- The line of one operation of two operands. -/
theorem Line.last_binary (f : a.ty.Contents Val → b.ty.Contents Val → y.ty.Contents Val) (ha hb hy) :
    Line (hlo rfl (StableHlo.binary a b y f ha hb hy) fun _ => .ret ⟨⟩ : Prog (TpuEff nD τ sig Val Λ .tc) PUnit) [(y, [a, b])]
      (fun W => W (Proc.devRef .tc y) = f (W (Proc.devRef .tc a)) (W (Proc.devRef .tc b)) ∧ True) :=
  Line.binary a b y f ha hb hy .nil

/-- A line starting with a reshape. -/
theorem Line.reshape (he hn hx hy) (hk : Line k s E) :
    Line ((hlo rfl (StableHlo.reshape x y he hn hx hy) fun _ => .ret (⟨⟩ : PUnit)) >>= fun _ => k) ((y, [x]) :: s)
      (fun W => W (Proc.devRef .tc y) = (fun i => he ▸ shapeCast y.ty.shape (W (Proc.devRef .tc x)) hn i) ∧ E W) :=
  .cons (fits_reshape x y he hn hx hy) (fun W h => by
    have := reshape_result' (x := x) (y := y) he hn hx hy W; rwa [h] at this) hk

end Builders

/-! ## Typed references -/

section Typed

variable {T Ta Tb Tc Te Ty : BufTy}

/-- The value a typed reference's buffer holds. -/
def get (t : TRef sig T) (W : Valuation τ sig Val) : T.Contents Val := t.ofBuf (W (Proc.devRef .tc t.ref))

/-- From the buffer's contents written at the buffer's type to the value. -/
theorem get_of_eq {t : TRef sig T} {W : Valuation τ sig Val} {v : T.Contents Val}
    (h : W (Proc.devRef .tc t.ref) = t.toBuf v) : get t W = v := by
  rw [get, h, TRef.ofBuf_toBuf]

variable (x : TRef sig T) (a : TRef sig Ta) (b : TRef sig Tb) (c : TRef sig Tc) (e : TRef sig Te) (y : TRef sig Ty)
variable {k : Prog (TpuEff nD τ sig Val Λ .tc) PUnit} {s : List (Ref sig .tc × List (Ref sig .tc))}
  {E : Valuation τ sig Val → Prop}

/-- A line starting with a constant at a typed reference. -/
theorem Line.tnullary (v : Ty.Contents Val) (hk : Line k s E) :
    Line ((hlo rfl (TRef.nullary y v) fun _ => .ret (⟨⟩ : PUnit)) >>= fun _ => k) ((y.ref, []) :: s)
      (fun W => get y W = v ∧ E W) :=
  .mono (.nullary y.ref _ _ hk) fun _ h => ⟨get_of_eq h.1, h.2⟩

/-- A line starting with an operation of one operand at typed references. -/
theorem Line.tunary (f : T.Contents Val → Ty.Contents Val) (hk : Line k s E) :
    Line ((hlo rfl (TRef.unary x y f) fun _ => .ret (⟨⟩ : PUnit)) >>= fun _ => k) ((y.ref, [x.ref]) :: s)
      (fun W => get y W = f (get x W) ∧ E W) :=
  .mono (.unary x.ref y.ref _ _ _ hk) fun _ h => ⟨get_of_eq h.1, h.2⟩

/-- A line starting with an operation of two operands at typed references. -/
theorem Line.tbinary (f : Ta.Contents Val → Tb.Contents Val → Ty.Contents Val) (hk : Line k s E) :
    Line ((hlo rfl (TRef.binary a b y f) fun _ => .ret (⟨⟩ : PUnit)) >>= fun _ => k) ((y.ref, [a.ref, b.ref]) :: s)
      (fun W => get y W = f (get a W) (get b W) ∧ E W) :=
  .mono (.binary a.ref b.ref y.ref _ _ _ _ hk) fun _ h => ⟨get_of_eq h.1, h.2⟩

/-- A line starting with an operation of three operands at typed references. -/
theorem Line.tternary (f : Tc.Contents Val → Ta.Contents Val → Tb.Contents Val → Ty.Contents Val) (hk : Line k s E) :
    Line ((hlo rfl (TRef.ternary c a b y f) fun _ => .ret (⟨⟩ : PUnit)) >>= fun _ => k)
      ((y.ref, [c.ref, a.ref, b.ref]) :: s) (fun W => get y W = f (get c W) (get a W) (get b W) ∧ E W) :=
  .mono (.ternary a.ref b.ref c.ref y.ref _ _ _ _ _ hk) fun _ h => ⟨get_of_eq h.1, h.2⟩

/-- A line starting with an operation of four operands at typed references. -/
theorem Line.tquaternary (f : Ta.Contents Val → Tb.Contents Val → Tc.Contents Val → Te.Contents Val → Ty.Contents Val)
    (hk : Line k s E) :
    Line ((hlo rfl (TRef.quaternary a b c e y f) fun _ => .ret (⟨⟩ : PUnit)) >>= fun _ => k)
      ((y.ref, [a.ref, b.ref, c.ref, e.ref]) :: s) (fun W => get y W = f (get a W) (get b W) (get c W) (get e W) ∧ E W) :=
  .mono (.quaternary a.ref b.ref c.ref e.ref y.ref _ _ _ _ _ _ hk) fun _ h => ⟨get_of_eq h.1, h.2⟩

end Typed

/-! ## The run -/

/-- A program that is an ordered line runs, and each device ends with contents `W` that satisfy the line's equations and
    agree with the initial memory below `lo`; the semaphores are zero. -/
theorem run_line (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (s : List (Ref sig .tc × List (Ref sig .tc))) (E : Valuation τ sig Val → Prop) (hmain : ∀ d, Line (main d) s E)
    (lo : ℕ) (ho : ordered lo s = true) (m : (ℓ : Loc nD τ sig) → Buf Val ℓ) (ρ : Dev nD → PrngReg) :
    θ_run defs (onTc (τ := τ) main) ⟨m, fun _ => 0, ρ⟩ fun r => ∀ d : Dev nD, ∃ W : Valuation τ sig Val,
      E W ∧ (∀ b : Ref sig .tc, r.2.mem ((d.tc : Thread nD τ).loc b) = W (Proc.devRef .tc b))
      ∧ ∀ b : Ref sig .tc, rank b < lo → W (Proc.devRef .tc b) = m ((d.tc : Thread nD τ).loc b) := by
  choose ops hp hf he using hmain
  have hall : ∀ d, ∀ op ∈ ops d, op.bufs ⊆ tcRefs τ sig ∧ op.fresh = ∅ := fun d op hop => by
    obtain ⟨hl, hg⟩ := List.forall₂_iff_get.mp (hf d)
    obtain ⟨i, hi, rfl⟩ := List.mem_iff_getElem.mp hop
    have hw := hg i hi (hl ▸ hi)
    exact ⟨hw.bufs, hw.fresh⟩
  refine θ_run_mono (run_seq hR hC defs main ops hp
    (fun d => List.forall_iff_forall_mem.mpr fun op hop => (hall d op hop).1) m ρ
    (fun d op hop => (hall d op hop).2)) fun r hr d => ?_
  have h := after_fix (ops d) s (hf d) lo (launchContents m d) ho
  exact ⟨after (ops d) (launchContents m d), he d _ h.2, hr d, h.1⟩

end Cert.Lines

end
-- ==== Proof.RefLine.lean ====
/-
  The reference as straight lines: what each of its functions computes, as one function of the values of its
  arguments, and the equations between the values of its main function.
-/
module

public import proofs.«01_k».proof.Proof.Line
public import proofs.«01_k».proof.ReferenceIdeal

@[expose] public section

set_option maxRecDepth 16384

noncomputable section

namespace Cert.RefLine

open Idealize.ShloMosaic Idealize.ShloMosaic.StableHlo Idealize.SL.Sem Cert.Lines Cert.ReferenceIdeal

variable {F : FTy → Type} [FloatOps F] [Facts₀] [Facts]

/-! ## The functions -/

/-- Row norms of a 512 × 256 array. -/
def norm512 (x : FVec F S512x256 .f32) : FVec F S512x1 .f32 :=
  Host.sqrt (broadcastInDim S512x1 ![0] Facts₀.bcast_S512_S512x1_0
    (Host.reduceAdd (mulf x x) (constant S_ .f32 0x00000000#32) Facts₀.reducesTo_S512x256_S512_d1 Facts₀.h_S_))

/-- Row norms of a 1024 × 256 array. -/
def norm1024 (x : FVec F S1024x256 .f32) : FVec F S1024x1 .f32 :=
  Host.sqrt (broadcastInDim S1024x1 ![0] Facts₀.bcast_S1024_S1024x1_0
    (Host.reduceAdd (mulf x x) (constant S_ .f32 0x00000000#32) Facts₀.reducesTo_S1024x256_S1024_d1 Facts₀.h_S_))

/-- Row norms of a 32768 × 256 array. -/
def norm32768 (x : FVec F S32768x256 .f32) : FVec F S32768x1 .f32 :=
  Host.sqrt (broadcastInDim S32768x1 ![0] Facts₀.bcast_S32768_S32768x1_0
    (Host.reduceAdd (mulf x x) (constant S_ .f32 0x00000000#32) Facts₀.reducesTo_S32768x256_S32768_d1 Facts₀.h_S_))

/-- The rows of a 512 × 256 array divided by the larger of their norm and 1e-8. -/
def unit512 (x : FVec F S512x256 .f32) : FVec F S512x256 .f32 :=
  Host.divf x (broadcastInDim S512x256 ![0, 1] Facts₀.bcast_S512x1_S512x256_0_1
    (maximumf (broadcastInDim S512x1 ![] Facts₀.bcast_S_S512x1 (constant S_ .f32 0x322BCC77#32)) (norm512 x)))

/-- The rows of a 1024 × 256 array divided by the larger of their norm and 1e-8. -/
def unit1024 (x : FVec F S1024x256 .f32) : FVec F S1024x256 .f32 :=
  Host.divf x (broadcastInDim S1024x256 ![0, 1] Facts₀.bcast_S1024x1_S1024x256_0_1
    (maximumf (broadcastInDim S1024x1 ![] Facts₀.bcast_S_S1024x1 (constant S_ .f32 0x322BCC77#32)) (norm1024 x)))

/-- The rows of a 32768 × 256 array divided by the larger of their norm and 1e-8. -/
def unit32768 (x : FVec F S32768x256 .f32) : FVec F S32768x256 .f32 :=
  Host.divf x (broadcastInDim S32768x256 ![0, 1] Facts₀.bcast_S32768x1_S32768x256_0_1
    (maximumf (broadcastInDim S32768x1 ![] Facts₀.bcast_S_S32768x1 (constant S_ .f32 0x322BCC77#32)) (norm32768 x)))

/-- The similarities of 1024 rows with 512 prototypes. -/
def sims (f : FVec F S1024x256 .f32) (p : FVec F S512x256 .f32) : FVec F S1024x512 .f32 :=
  Host.dotGeneral dot_S1024x256_S256x512_S1024x512_1_0_0_1_n_n none f
    (transpose S256x512 [1, 0] p Facts₀.transposes_S512x256_S256x512_1_0)

/-- The position of each row's largest similarity, as a column. -/
def assign (sim : FVec F S1024x512 .f32) : IVec S1024x1 32 :=
  broadcastInDim S1024x1 ![0] Facts₀.bcast_S1024_S1024x1_0 fun j =>
    (Host.argReduce reducer_argmax_f32_i32 sim (iotaInDim S1024x512 32 1) (constant S_ .f32 0xFF800000#32)
      (constantI S_ 32 0#32) Facts₀.reducesTo_S1024x512_S1024_d1 Facts₀.h_S_ j).2

/-- The sum of the rows assigned to each prototype. -/
def sums (f : FVec F S1024x256 .f32) (a : IVec S1024x1 32) : FVec F S512x256 .f32 :=
  Host.scatterAdd scatter_S512x256_S1024x1_S1024x256_1_0_0_1
    (broadcastInDim S512x256 ![] Facts₀.bcast_S_S512x256 (constant S_ .f32 0x00000000#32)) a f

/-- The number of rows assigned to each prototype. -/
def counts (a : IVec S1024x1 32) : FVec F S512 .f32 :=
  Host.scatterAdd scatter_S512_S1024x1_S1024_n_0_0_1
    (broadcastInDim S512 ![] Facts₀.bcast_S_S512 (constant S_ .f32 0x00000000#32)) a
    (broadcastInDim S1024 ![] Facts₀.bcast_S_S1024 (constant S_ .f32 0x3F800000#32))

/-- The mean of the rows assigned to each prototype, from their sum and their number. -/
def mean (s : FVec F S512x256 .f32) (n : FVec F S512 .f32) : FVec F S512x256 .f32 :=
  Host.divf s (broadcastInDim S512x256 ![0, 1] Facts₀.bcast_S512x1_S512x256_0_1
    (broadcastInDim S512x1 ![0] Facts₀.bcast_S512_S512x1_0
      (maximumf (broadcastInDim S512 ![] Facts₀.bcast_S_S512 (constant S_ .f32 0x3F800000#32)) n)))

/-- A prototype moved by the step towards its mean, not yet normalised. -/
def moved (p q : FVec F S512x256 .f32) (t : FVec F S_ .f32) : FVec F S512x256 .f32 :=
  addf (mulf (broadcastInDim S512x256 ![] Facts₀.bcast_S_S512x256 (subf (constant S_ .f32 0x3F800000#32) t)) p)
    (mulf (broadcastInDim S512x256 ![] Facts₀.bcast_S_S512x256 t) q)

/-- The first array in the rows whose count is positive, the second in the others. -/
def whereUsed (n : FVec F S512 .f32) (x y : FVec F S512x256 .f32) : FVec F S512x256 .f32 :=
  select (broadcastInDim S512x256 ![0, 1] Facts₀.bcast_S512x1_S512x256_0_1
    (broadcastInDim S512x1 ![0] Facts₀.bcast_S512_S512x1_0
      (cmpf .ogt n (broadcastInDim S512 ![] Facts₀.bcast_S_S512 (constant S_ .f32 0x00000000#32))))) x y

/-- One refinement of the prototypes `p` with the rows `f` at step `t`. -/
def refine (p : FVec F S512x256 .f32) (f : FVec F S1024x256 .f32) (t : FVec F S_ .f32) : FVec F S512x256 .f32 :=
  whereUsed (counts (assign (sims f p)))
    (unit512 (moved p (mean (sums f (assign (sims f p))) (counts (assign (sims f p)))) t)) p

/-- What `@norm_2` computes. -/
def norm_2_line (a : TRef sig ⟨S512x256, .f32⟩) (φ : fn_norm_2.Bufs) :
    { s // Line (fn_norm_2.body (F := F) a φ) s fun W => get φ.v3 W = norm512 (get a W) } := by
  refine ⟨_, Line.mono (.tbinary _ _ _ _ (.tnullary _ _ (.tbinary _ _ _ _ (.tunary _ _ _ (.tunary _ _ _ .nil))))) ?_⟩
  rintro W ⟨h1, h2, h3, h4, h5, -⟩
  rw [h5, h4, h3, h2, h1]; rfl

/-- What `@norm_6` computes. -/
def norm_6_line (a : TRef sig ⟨S1024x256, .f32⟩) (φ : fn_norm_6.Bufs) :
    { s // Line (fn_norm_6.body (F := F) a φ) s fun W => get φ.v3 W = norm1024 (get a W) } := by
  refine ⟨_, Line.mono (.tbinary _ _ _ _ (.tnullary _ _ (.tbinary _ _ _ _ (.tunary _ _ _ (.tunary _ _ _ .nil))))) ?_⟩
  rintro W ⟨h1, h2, h3, h4, h5, -⟩
  rw [h5, h4, h3, h2, h1]; rfl

/-- What `@norm` computes. -/
def norm_line (a : TRef sig ⟨S32768x256, .f32⟩) (φ : fn_norm.Bufs) :
    { s // Line (fn_norm.body (F := F) a φ) s fun W => get φ.v3 W = norm32768 (get a W) } := by
  refine ⟨_, Line.mono (.tbinary _ _ _ _ (.tnullary _ _ (.tbinary _ _ _ _ (.tunary _ _ _ (.tunary _ _ _ .nil))))) ?_⟩
  rintro W ⟨h1, h2, h3, h4, h5, -⟩
  rw [h5, h4, h3, h2, h1]; rfl

/-- What `@clip_0` computes. -/
def clip_0_line (a : TRef sig ⟨S32768x1, .f32⟩) (b : TRef sig ⟨S_, .f32⟩) (φ : fn_clip_0.Bufs) :
    { s // Line (fn_clip_0.body (F := F) a b φ) s fun W =>
      get φ.v2 W = maximumf (broadcastInDim S32768x1 ![] Facts₀.bcast_S_S32768x1 (get b W)) (get a W) } := by
  refine ⟨_, Line.mono (.tunary _ _ _ (.tunary _ _ _ (.tbinary _ _ _ _ .nil))) ?_⟩
  rintro W ⟨h1, h2, h3, -⟩
  rw [h3, h2, h1]; rfl

/-- What `@clip_1` computes. -/
def clip_1_line (a : TRef sig ⟨S512, .f32⟩) (b : TRef sig ⟨S_, .f32⟩) (φ : fn_clip_1.Bufs) :
    { s // Line (fn_clip_1.body (F := F) a b φ) s fun W =>
      get φ.v2 W = maximumf (broadcastInDim S512 ![] Facts₀.bcast_S_S512 (get b W)) (get a W) } := by
  refine ⟨_, Line.mono (.tunary _ _ _ (.tunary _ _ _ (.tbinary _ _ _ _ .nil))) ?_⟩
  rintro W ⟨h1, h2, h3, -⟩
  rw [h3, h2, h1]; rfl

/-- What `@clip_3` computes. -/
def clip_3_line (a : TRef sig ⟨S512x1, .f32⟩) (b : TRef sig ⟨S_, .f32⟩) (φ : fn_clip_3.Bufs) :
    { s // Line (fn_clip_3.body (F := F) a b φ) s fun W =>
      get φ.v2 W = maximumf (broadcastInDim S512x1 ![] Facts₀.bcast_S_S512x1 (get b W)) (get a W) } := by
  refine ⟨_, Line.mono (.tunary _ _ _ (.tunary _ _ _ (.tbinary _ _ _ _ .nil))) ?_⟩
  rintro W ⟨h1, h2, h3, -⟩
  rw [h3, h2, h1]; rfl

/-- What `@clip_7` computes. -/
def clip_7_line (a : TRef sig ⟨S1024x1, .f32⟩) (b : TRef sig ⟨S_, .f32⟩) (φ : fn_clip_7.Bufs) :
    { s // Line (fn_clip_7.body (F := F) a b φ) s fun W =>
      get φ.v2 W = maximumf (broadcastInDim S1024x1 ![] Facts₀.bcast_S_S1024x1 (get b W)) (get a W) } := by
  refine ⟨_, Line.mono (.tunary _ _ _ (.tunary _ _ _ (.tbinary _ _ _ _ .nil))) ?_⟩
  rintro W ⟨h1, h2, h3, -⟩
  rw [h3, h2, h1]; rfl

/-- What `@clip` computes: the values between a lower and an upper bound. -/
def clip_line (a : TRef sig ⟨S8x1x64x64, .f32⟩) (b c : TRef sig ⟨S_, .f32⟩) (φ : fn_clip.Bufs) :
    { s // Line (fn_clip.body (F := F) a b c φ) s fun W =>
      get φ.v5 W = minimumf (broadcastInDim S8x1x64x64 ![] Facts₀.bcast_S_S8x1x64x64 (get c W))
        (maximumf (broadcastInDim S8x1x64x64 ![] Facts₀.bcast_S_S8x1x64x64 (get b W)) (get a W)) } := by
  refine ⟨_, Line.mono (.tunary _ _ _ (.tunary _ _ _ (.tbinary _ _ _ _ (.tunary _ _ _ (.tunary _ _ _
    (.tbinary _ _ _ _ .nil)))))) ?_⟩
  rintro W ⟨h1, h2, h3, h4, h5, h6, -⟩
  rw [h6, h5, h4, h3, h2, h1]; rfl

/-- What `@relu` computes. -/
def relu_line (a : TRef sig ⟨S_, .f32⟩) (φ : fn_relu.Bufs) :
    { s // Line (fn_relu.body (F := F) a φ) s fun W =>
      get φ.v0 W = maximumf (get a W) (constant S_ .f32 0x00000000#32) } := by
  refine ⟨_, Line.mono (.tnullary _ _ (.tbinary _ _ _ _ .nil)) ?_⟩
  rintro W ⟨h1, h2, -⟩
  rw [h2, h1]

/-- What `@argmax` computes: each row's position of its largest entry. -/
def argmax_line (a : TRef sig ⟨S1024x512, .f32⟩) (φ : fn_argmax.Bufs) :
    { s // Line (fn_argmax.body (F := F) a φ) s fun W =>
      get φ.v1_1 W = fun j =>
        (Host.argReduce reducer_argmax_f32_i32 (get a W) (iotaInDim S1024x512 32 1) (constant S_ .f32 0xFF800000#32)
          (constantI S_ 32 0#32) Facts₀.reducesTo_S1024x512_S1024_d1 Facts₀.h_S_ j).2 } := by
  refine ⟨_, Line.mono (.tnullary _ _ (.tnullary _ _ (.tnullary _ _ (.tquaternary _ _ _ _ _ _
    (.tquaternary _ _ _ _ _ _ .nil))))) ?_⟩
  rintro W ⟨h1, h2, h3, -, h5, -⟩
  rw [h5, h3, h2, h1]

/-- What `@_where` computes. -/
def where_line (a : TRef sig ⟨S512x1, .i1⟩) (b c : TRef sig ⟨S512x256, .f32⟩) (φ : fn_where.Bufs) :
    { s // Line (fn_where.body (F := F) a b c φ) s fun W =>
      get φ.v1 W = select (broadcastInDim S512x256 ![0, 1] Facts₀.bcast_S512x1_S512x256_0_1 (get a W))
        (get b W) (get c W) } := by
  refine ⟨_, Line.mono (.tunary _ _ _ (.tternary _ _ _ _ _ .nil)) ?_⟩
  rintro W ⟨h1, h2, -⟩
  rw [h2, h1]

/-- What `@_refine_step` computes: one refinement of the prototypes. -/
def step_line (a : TRef sig ⟨S512x256, .f32⟩) (b : TRef sig ⟨S1024x256, .f32⟩) (c : TRef sig ⟨S_, .f32⟩)
    (φ : fn_refine_step.Bufs) :
    { s // Line (fn_refine_step.body (F := F) a b c φ) s fun W =>
      get φ.call4.v1 W = refine (get a W) (get b W) (get c W) } := by
  refine ⟨_, Line.mono (.tunary _ _ _ (.tbinary _ _ _ _ (.bind (argmax_line _ _).2 (.tnullary _ _ (.tunary _ _ _
    (.tunary _ _ _ (.tternary _ _ _ _ _ (.tnullary _ _ (.tunary _ _ _ (.tnullary _ _ (.tunary _ _ _ (.tunary _ _ _
    (.tternary _ _ _ _ _ (.tnullary _ _ (.bind (clip_1_line _ _ _).2 (.tunary _ _ _ (.tunary _ _ _ (.tbinary _ _ _ _
    (.tnullary _ _ (.tbinary _ _ _ _ (.tunary _ _ _ (.tunary _ _ _ (.tbinary _ _ _ _ (.tunary _ _ _ (.tunary _ _ _
    (.tbinary _ _ _ _ (.tbinary _ _ _ _ (.bind (norm_2_line _ _).2 (.tnullary _ _ (.bind (clip_3_line _ _ _).2
    (.tunary _ _ _ (.tbinary _ _ _ _ (.tnullary _ _ (.tunary _ _ _ (.tbinary _ _ _ _ (.tunary _ _ _
    (.bind (where_line _ _ _ _).2 .nil))))))))))))))))))))))))))))))))))))) ?_⟩
  rintro W ⟨h1, h2, h3, h4, h5, h6, h7, h8, h9, h10, h11, h12, h13, h14, h15, h16, h17, h18, h19, h20, h21, h22, h23, h24,
    h25, h26, h27, h28, h29, h30, h31, h32, h33, h34, h35, h36, h37, -⟩
  have hs : get φ.v1 W = sims (get b W) (get a W) := by rw [h2, h1]; rfl
  have ha4 : get φ.v4 W = assign (sims (get b W) (get a W)) := by rw [h6, h3, hs]; rfl
  have ha8 : get φ.v8 W = assign (sims (get b W) (get a W)) := by rw [h12, h3, hs]; rfl
  have hsum : get φ.v5 W = sums (get b W) (assign (sims (get b W) (get a W))) := by rw [h7, h5, h4, ha4]; rfl
  have hcnt : get φ.v9 W = counts (assign (sims (get b W) (get a W))) := by rw [h13, h11, h10, h9, h8, ha8]; rfl
  have hmean : get φ.v13 W = mean (sums (get b W) (assign (sims (get b W) (get a W))))
      (counts (assign (sims (get b W) (get a W)))) := by rw [h18, h17, h16, h15, h14, hsum, hcnt]; rfl
  have hmoved : get φ.v21 W = moved (get a W) (mean (sums (get b W) (assign (sims (get b W) (get a W))))
      (counts (assign (sims (get b W) (get a W))))) (get c W) := by
    rw [h27, h26, h25, h24, h23, h22, h21, h20, h19, hmean]; rfl
  have hunit : get φ.v25 W = unit512 (get φ.v21 W) := by rw [h32, h31, h30, h29, h28]; rfl
  rw [h37, h36, h35, h34, h33, hunit, hmoved, hcnt]; rfl

/-- The buffers of a later call of the refinement function, as those of the first. -/
def steps (φ : fn_refine_step_4.Bufs) : fn_refine_step.Bufs where
  v0 := φ.v0
  v1 := φ.v1
  call0 := φ.call0
  cst := φ.cst
  v3 := φ.v3
  v4 := φ.v4
  v5 := φ.v5
  cst_0 := φ.cst_0
  v6 := φ.v6
  cst_1 := φ.cst_1
  v7 := φ.v7
  v8 := φ.v8
  v9 := φ.v9
  cst_2 := φ.cst_2
  call1 := φ.call1
  v11 := φ.v11
  v12 := φ.v12
  v13 := φ.v13
  cst_3 := φ.cst_3
  v14 := φ.v14
  v15 := φ.v15
  v16 := φ.v16
  v17 := φ.v17
  v18 := φ.v18
  v19 := φ.v19
  v20 := φ.v20
  v21 := φ.v21
  call2 := φ.call2
  cst_4 := φ.cst_4
  call3 := φ.call3
  v24 := φ.v24
  v25 := φ.v25
  cst_5 := φ.cst_5
  v26 := φ.v26
  v27 := φ.v27
  v28 := φ.v28
  call4 := ⟨φ.call4.v0, φ.call4.v1⟩

/-- What `@_refine_step_4` computes: the same as `@_refine_step`. -/
def step_4_line (a : TRef sig ⟨S512x256, .f32⟩) (b : TRef sig ⟨S1024x256, .f32⟩) (c : TRef sig ⟨S_, .f32⟩)
    (φ : fn_refine_step_4.Bufs) :
    { s // Line (fn_refine_step_4.body (F := F) a b c φ) s fun W =>
      get φ.call4.v1 W = refine (get a W) (get b W) (get c W) } :=
  ⟨(step_line (F := F) a b c (steps φ)).1, (step_line (F := F) a b c (steps φ)).2⟩

end Cert.RefLine

end
-- ==== Proof.RefMain.lean ====
/-
  The reference's main function as one straight line: its results as functions of its arguments.
-/
module

public import proofs.«01_k».proof.Proof.RefLine

@[expose] public section

set_option maxRecDepth 16384

noncomputable section

namespace Cert.RefLine

open Idealize.ShloMosaic Idealize.ShloMosaic.StableHlo Idealize.SL.Sem Cert.Lines Cert.ReferenceIdeal

variable {F : FTy → Type} [FloatOps F] [Facts₀] [Facts]

/-! ## The values -/

/-- The mask as one row of numbers between 0 and 1. -/
def maskOf (x : FVec F S8x64x64 .f32) : FVec F S32768 .f32 :=
  shapeCast S32768 (minimumf (broadcastInDim S8x1x64x64 ![] Facts₀.bcast_S_S8x1x64x64 (constant S_ .f32 0x3F800000#32))
    (maximumf (broadcastInDim S8x1x64x64 ![] Facts₀.bcast_S_S8x1x64x64 (constant S_ .f32 0x00000000#32))
      (broadcastInDim S8x1x64x64 ![0, 2, 3] Facts₀.bcast_S8x64x64_S8x1x64x64_0_2_3 x)))
    Facts₀.shapeCasts_S8x1x64x64_S32768

/-- The features as rows, before normalising. -/
def rawOf (x : FVec F S8x256x64x64 .f32) : FVec F S32768x256 .f32 :=
  shapeCast S32768x256 (transpose S8x64x64x256 [0, 2, 3, 1] x Facts₀.transposes_S8x256x64x64_S8x64x64x256_0_2_3_1)
    Facts₀.shapeCasts_S8x64x64x256_S32768x256

/-- Each row's least distance `1 - similarity` to the prototypes. -/
def minDist (f : FVec F S32768x256 .f32) (p : FVec F S512x256 .f32) : FVec F S32768 .f32 :=
  Host.reduce FloatOps.minimumf (subf (broadcastInDim S32768x512 ![] Facts₀.bcast_S_S32768x512 (constant S_ .f32 0x3F800000#32))
    (Host.dotGeneral dot_S32768x256_S256x512_S32768x512_1_0_0_1_n_n none f
      (transpose S256x512 [1, 0] p Facts₀.transposes_S512x256_S256x512_1_0)))
    (constant S_ .f32 0x7F800000#32) Facts₀.reducesTo_S32768x512_S32768_d1 Facts₀.h_S_

/-- The scores that choose the foreground rows. -/
def scoreFg (f : FVec F S32768x256 .f32) (p : FVec F S512x256 .f32) (x : FVec F S8x64x64 .f32) : FVec F S32768 .f32 :=
  mulf (minDist f p) (maskOf x)

/-- The scores that choose the background rows. -/
def scoreBg (f : FVec F S32768x256 .f32) (p : FVec F S512x256 .f32) (x : FVec F S8x64x64 .f32) : FVec F S32768 .f32 :=
  mulf (minDist f p) (subf (broadcastInDim S32768 ![] Facts₀.bcast_S_S32768 (constant S_ .f32 0x3F800000#32)) (maskOf x))

/-- The positions of the 1024 largest scores. -/
def topOf (s : FVec F S32768 .f32) : IVec S1024 32 :=
  (Host.topK S1024 0 (FloatOps.cmpfTotal .gt) s Facts₀.sliceFits_S32768_S1024).2

/-- The rows at given positions; a negative position counts from the end. -/
def rowsAt (f : FVec F S32768x256 .f32) (i : IVec S1024 32) : FVec F S1024x256 .f32 :=
  Host.gather gather_S32768x256_S1024x1_S1024x256_1_0_n_n_0_1_1256 f (broadcastInDim S1024x1 ![0] Facts₀.bcast_S1024_S1024x1_0
    (select (cmpi .slt i (broadcastInDim S1024 ![] Facts₀.bcast_S_S1024 (constantI S_ 32 0#32)))
      (addi i (broadcastInDim S1024 ![] Facts₀.bcast_S_S1024 (constantI S_ 32 32768#32))) i))

/-- The ten step sizes, as float words. -/
def stepWords : List (BitVec 32) := [0x3DCCCCCD#32, 0x3D888889#32, 0x3D4CCCCD#32, 0x3D23D70A#32, 0x3D088889#32, 0x3CEA0EA1#32,
  0x3CCCCCCD#32, 0x3CB60B61#32, 0x3CA3D70A#32, 0x3C94F209#32]

/-- Refinements of the prototypes `p` with the rows `f`, one per step size. -/
def refines (l : List (BitVec 32)) (p : FVec F S512x256 .f32) (f : FVec F S1024x256 .f32) : FVec F S512x256 .f32 :=
  l.foldl (fun p b => refine p f (constant S_ .f32 b)) p

/-- The mean of each row's largest similarity. -/
def meanMax (f : FVec F S1024x256 .f32) (p : FVec F S512x256 .f32) : FVec F S_ .f32 :=
  Host.divf (Host.reduceAdd (Host.reduce FloatOps.maximumf (sims f p) (constant S_ .f32 0xFF800000#32)
    Facts₀.reducesTo_S1024x512_S1024_d1 Facts₀.h_S_) (constant S_ .f32 0x00000000#32) Facts₀.reducesTo_S1024_S_d0 Facts₀.h_S_)
    (constant S_ .f32 0x44800000#32)

/-- The margin part of the loss. -/
def hinge (fp fn : FVec F S1024x256 .f32) (p : FVec F S512x256 .f32) : FVec F S_ .f32 :=
  maximumf (subf (addf (constant S_ .f32 0x3E4CCCCD#32) (meanMax fn p)) (meanMax fp p)) (constant S_ .f32 0x00000000#32)

/-- The similarities over the temperature. -/
def scaled (f : FVec F S1024x256 .f32) (p : FVec F S512x256 .f32) : FVec F S1024x512 .f32 :=
  Host.divf (sims f p) (broadcastInDim S1024x512 ![] Facts₀.bcast_S_S1024x512 (constant S_ .f32 0x3D8F5C29#32))

/-- The number subtracted in a row's log-sum-exp: the row's largest entry, or 0 if that is not finite. -/
def shiftOf (m : FVec F S1024 .f32) : FVec F S1024 .f32 :=
  select (cmpf .olt (Host.absf m) (broadcastInDim S1024 ![] Facts₀.bcast_S_S1024 (constant S_ .f32 0x7F800000#32))) m
    (broadcastInDim S1024 ![] Facts₀.bcast_S_S1024 (constant S_ .f32 0x00000000#32))

/-- The log-sum-exp of each row of 512 entries. -/
def lse512 (x : FVec F S1024x512 .f32) : FVec F S1024 .f32 :=
  addf (Host.log (Host.reduceAdd (Host.exp (subf x (broadcastInDim S1024x512 ![0, 1] Facts₀.bcast_S1024x1_S1024x512_0_1
    (broadcastInDim S1024x1 ![0] Facts₀.bcast_S1024_S1024x1_0 (shiftOf (Host.reduce FloatOps.maximumf x
      (constant S_ .f32 0xFF800000#32) Facts₀.reducesTo_S1024x512_S1024_d1 Facts₀.h_S_))))))
      (constant S_ .f32 0x00000000#32) Facts₀.reducesTo_S1024x512_S1024_d1 Facts₀.h_S_))
    (shiftOf (Host.reduce FloatOps.maximumf x (constant S_ .f32 0xFF800000#32) Facts₀.reducesTo_S1024x512_S1024_d1 Facts₀.h_S_))

/-- The log-sum-exp of each row of 1024 entries. -/
def lse1024 (x : FVec F S1024x1024 .f32) : FVec F S1024 .f32 :=
  addf (Host.log (Host.reduceAdd (Host.exp (subf x (broadcastInDim S1024x1024 ![0, 1] Facts₀.bcast_S1024x1_S1024x1024_0_1
    (broadcastInDim S1024x1 ![0] Facts₀.bcast_S1024_S1024x1_0 (shiftOf (Host.reduce FloatOps.maximumf x
      (constant S_ .f32 0xFF800000#32) Facts₀.reducesTo_S1024x1024_S1024_d1 Facts₀.h_S_))))))
      (constant S_ .f32 0x00000000#32) Facts₀.reducesTo_S1024x1024_S1024_d1 Facts₀.h_S_))
    (shiftOf (Host.reduce FloatOps.maximumf x (constant S_ .f32 0xFF800000#32) Facts₀.reducesTo_S1024x1024_S1024_d1 Facts₀.h_S_))

/-- Two arrays of rows beside one another. -/
def beside (x y : FVec F S1024x512 .f32) : FVec F S1024x1024 .f32 :=
  concatenate S1024x1024 1 [⟨S1024x512, x⟩, ⟨S1024x512, y⟩] Facts₀.concatenates_S1024x512_S1024x512_S1024x1024_d1

/-- The contrastive part of the loss, from the two log-sum-exps of each row. -/
def contrast (num den : FVec F S1024 .f32) : FVec F S_ .f32 :=
  mulf (constant S_ .f32 0x3E800000#32) (Host.negf (Host.divf (Host.reduceAdd (subf num den) (constant S_ .f32 0x00000000#32)
    Facts₀.reducesTo_S1024_S_d0 Facts₀.h_S_) (constant S_ .f32 0x44800000#32)))

/-- The loss, from the normalised chosen rows and the refined prototypes. -/
def lossOf (fp fn : FVec F S1024x256 .f32) (p q : FVec F S512x256 .f32) : FVec F S_ .f32 :=
  addf (hinge fp fn p) (contrast (lse512 (scaled fp p)) (lse1024 (beside (scaled fp p) (scaled fp q))))

/-- The new prototypes: a mixture of the old and the refined ones, normalised. -/
def blend (p q : FVec F S512x256 .f32) : FVec F S512x256 .f32 :=
  unit512 (addf (mulf (broadcastInDim S512x256 ![] Facts₀.bcast_S_S512x256 (constant S_ .f32 0x3F333333#32)) p)
    (mulf (broadcastInDim S512x256 ![] Facts₀.bcast_S_S512x256 (constant S_ .f32 0x3E99999A#32)) q))

/-! ## The main function -/

/-- What a buffer holds. -/
abbrev val (W : Valuation τ sig (Elt F)) (r : Ref sig .tc) : r.ty.Contents (Elt F) := W (Proc.devRef .tc r)

/-- The first part: the chosen rows, and three refinements of the foreground prototypes. -/
def part0_line (d : Dev nD) : { s // Line (main_part0 (F := F) d) s fun W =>
    val W main_v8 = unit32768 (rawOf (val W main_arg2))
    ∧ val W main_indices = topOf (scoreFg (val W main_v8) (val W main_arg0) (val W main_arg3))
    ∧ val W main_indices_8 = topOf (scoreBg (val W main_v8) (val W main_arg1) (val W main_arg3))
    ∧ val W main_v30 = rowsAt (val W main_v8) (val W main_indices)
    ∧ val W main_v37 = rowsAt (val W main_v8) (val W main_indices_8)
    ∧ val W main_v40 = refines (stepWords.take 3) (val W main_arg0) (val W main_v30) } := by
  refine ⟨_, Line.mono (.unary _ _ _ _ _ (.bind .nil (.nullary _ _ _ (.nullary _ _ _ (.bind (clip_line _ _ _ _).2 (.unary _ _ _ _ _
    (.reshape _ _ _ _ _ _ (.bind (norm_line _ _).2 (.nullary _ _ _ (.bind (clip_0_line _ _ _).2 (.unary _ _ _ _ _
    (.binary _ _ _ _ _ _ _ (.reshape _ _ _ _ _ _ (.unary _ _ _ _ _ (.binary _ _ _ _ _ _ _ (.nullary _ _ _ (.unary _
    _ _ _ _ (.binary _ _ _ _ _ _ _ (.nullary _ _ _ (.binary _ _ _ _ _ _ _ (.unary _ _ _ _ _ (.binary _ _ _ _ _ _ _
    (.nullary _ _ _ (.unary _ _ _ _ _ (.binary _ _ _ _ _ _ _ (.nullary _ _ _ (.binary _ _ _ _ _ _ _ (.binary _ _ _ _
    _ _ _ (.nullary _ _ _ (.unary _ _ _ _ _ (.binary _ _ _ _ _ _ _ (.binary _ _ _ _ _ _ _ (.unary _ _ _ _ _ (.unary
    _ _ _ _ _ (.unary _ _ _ _ _ (.unary _ _ _ _ _ (.nullary _ _ _ (.unary _ _ _ _ _ (.binary _ _ _ _ _ _ _ (.nullary
    _ _ _ (.unary _ _ _ _ _ (.binary _ _ _ _ _ _ _ (.ternary _ _ _ _ _ _ _ _ _ (.unary _ _ _ _ _ (.binary _ _ _ _ _
    _ _ (.nullary _ _ _ (.unary _ _ _ _ _ (.binary _ _ _ _ _ _ _ (.nullary _ _ _ (.unary _ _ _ _ _ (.binary _ _ _ _
    _ _ _ (.ternary _ _ _ _ _ _ _ _ _ (.unary _ _ _ _ _ (.binary _ _ _ _ _ _ _ (.nullary _ _ _ (.bind (step_line _ _
    _ _).2 (.nullary _ _ _ (.bind (step_4_line _ _ _ _).2 (.nullary _ _ _ (step_4_line _ _ _
    _).2))))))))))))))))))))))))))))))))))))))))))))))))))))))))))) ?_⟩
  rintro W ⟨h_v0, -, h_cst, h_cst_0, h_call1, h_v3, h_v4, h_call2, h_cst_1, h_call3, h_v7, h_v8, h_v9, h_v10, h_v11,
    h_cst_2, h_v12, h_v13, h_cst_3, h_v14, h_v15, h_v16, h_cst_4, h_v17, h_v18, h_cst_5, h_v19, h_v20, h_cst_6,
    h_v21, h_v22, h_v23, h_values, h_indices, h_values_7, h_indices_8, h_c, h_v24, h_v25, h_c_9, h_v26, h_v27,
    h_v28, h_v29, h_v30, h_c_10, h_v31, h_v32, h_c_11, h_v33, h_v34, h_v35, h_v36, h_v37, h_cst_12, h_call4,
    h_cst_13, h_call5, h_cst_14, h_call6⟩
  have e2 : W (Proc.devRef .tc main_v2) = _ := h_call1
  have e5 : W (Proc.devRef .tc main_v5) = norm32768 (W (Proc.devRef .tc main_v4)) := h_call2
  have e6 : W (Proc.devRef .tc main_v6) = maximumf (broadcastInDim S32768x1 ![] Facts₀.bcast_S_S32768x1
    (W (Proc.devRef .tc main_cst_1))) (W (Proc.devRef .tc main_v5)) := h_call3
  have f8 : W (Proc.devRef .tc main_v8) = unit32768 (rawOf (W (Proc.devRef .tc main_arg2))) := by
    rw [h_v8, h_v7, e6, h_cst_1, e5, h_v4, h_v3]; rfl
  have f9 : W (Proc.devRef .tc main_v9) = maskOf (W (Proc.devRef .tc main_arg3)) := by
    rw [h_v9, e2]
    have e0 : get (.of main_cst) W = _ := h_cst
    have e1 : get (.of main_cst_0) W = _ := h_cst_0
    have e3 : get (.of main_v0) W = _ := h_v0
    rw [e0, e1, e3]; rfl
  refine ⟨f8, ?_, ?_, ?_, ?_, ?_⟩
  · show W _ = _
    rw [h_indices, h_v20, f9, h_v14, h_cst_3, h_v13, h_v12, h_cst_2, h_v11, h_v10]; rfl
  · show W _ = _
    rw [h_indices_8, h_v23, h_v22, f9, h_v21, h_cst_6, h_v19, h_cst_5, h_v18, h_v17, h_cst_4, h_v16, h_v15]; rfl
  · show W _ = _
    rw [h_v30, h_v29, h_v28, h_v27, h_v26, h_c_9, h_v25, h_v24, h_c]; rfl
  · show W _ = _
    rw [h_v37, h_v36, h_v35, h_v34, h_v33, h_c_11, h_v32, h_v31, h_c_10]; rfl
  · have e38 : W (Proc.devRef .tc main_v38) = refine (W (Proc.devRef .tc main_arg0)) (W (Proc.devRef .tc main_v30))
      (W (Proc.devRef .tc main_cst_12)) := h_call4
    have e39 : W (Proc.devRef .tc main_v39) = refine (W (Proc.devRef .tc main_v38)) (W (Proc.devRef .tc main_v30))
      (W (Proc.devRef .tc main_cst_13)) := h_call5
    have e40 : W (Proc.devRef .tc main_v40) = refine (W (Proc.devRef .tc main_v39)) (W (Proc.devRef .tc main_v30))
      (W (Proc.devRef .tc main_cst_14)) := h_call6
    show W _ = _
    rw [e40, e39, e38, h_cst_12, h_cst_13, h_cst_14]; rfl

/-- The second part: the other refinements, and the first rows chosen again. -/
def part1_line (d : Dev nD) : { s // Line (main_part1 (F := F) d) s fun W =>
    val W main_v47 = refines (stepWords.drop 3) (val W main_v40) (val W main_v30)
    ∧ val W main_v57 = refines stepWords (val W main_arg1) (val W main_v37)
    ∧ val W main_v68 = unit1024 (rowsAt (val W main_v8) (val W main_indices))
    ∧ val W main_v75 = rowsAt (val W main_v8) (val W main_indices_8)
    ∧ val W main_v77 = maximumf (broadcastInDim S1024x1 ![] Facts₀.bcast_S_S1024x1 (constant S_ .f32 0x322BCC77#32))
        (norm1024 (val W main_v75)) } := by
  refine ⟨_, Line.mono (.nullary _ _ _ (.bind (step_4_line _ _ _ _).2 (.nullary _ _ _ (.bind (step_4_line _ _ _ _).2 (.nullary _ _ _
    (.bind (step_4_line _ _ _ _).2 (.nullary _ _ _ (.bind (step_4_line _ _ _ _).2 (.nullary _ _ _ (.bind
    (step_4_line _ _ _ _).2 (.nullary _ _ _ (.bind (step_4_line _ _ _ _).2 (.nullary _ _ _ (.bind (step_4_line _ _ _
    _).2 (.nullary _ _ _ (.bind (step_line _ _ _ _).2 (.nullary _ _ _ (.bind (step_4_line _ _ _ _).2 (.nullary _ _ _
    (.bind (step_4_line _ _ _ _).2 (.nullary _ _ _ (.bind (step_4_line _ _ _ _).2 (.nullary _ _ _ (.bind
    (step_4_line _ _ _ _).2 (.nullary _ _ _ (.bind (step_4_line _ _ _ _).2 (.nullary _ _ _ (.bind (step_4_line _ _ _
    _).2 (.nullary _ _ _ (.bind (step_4_line _ _ _ _).2 (.nullary _ _ _ (.bind (step_4_line _ _ _ _).2 (.nullary _ _
    _ (.bind (step_4_line _ _ _ _).2 (.nullary _ _ _ (.unary _ _ _ _ _ (.binary _ _ _ _ _ _ _ (.nullary _ _ _
    (.unary _ _ _ _ _ (.binary _ _ _ _ _ _ _ (.ternary _ _ _ _ _ _ _ _ _ (.unary _ _ _ _ _ (.binary _ _ _ _ _ _ _
    (.bind (norm_6_line _ _).2 (.nullary _ _ _ (.bind (clip_7_line _ _ _).2 (.unary _ _ _ _ _ (.binary _ _ _ _ _ _ _
    (.nullary _ _ _ (.unary _ _ _ _ _ (.binary _ _ _ _ _ _ _ (.nullary _ _ _ (.unary _ _ _ _ _ (.binary _ _ _ _ _ _
    _ (.ternary _ _ _ _ _ _ _ _ _ (.unary _ _ _ _ _ (.binary _ _ _ _ _ _ _ (.bind (norm_6_line _ _).2 (.nullary _ _
    _ (clip_7_line _ _ _).2))))))))))))))))))))))))))))))))))))))))))))))))))))))))))) ?_⟩
  rintro W ⟨h_cst_15, h_call7, h_cst_16, h_call8, h_cst_17, h_call9, h_cst_18, h_call10, h_cst_19, h_call11, h_cst_20,
    h_call12, h_cst_21, h_call13, h_cst_22, h_call14, h_cst_23, h_call15, h_cst_24, h_call16, h_cst_25, h_call17,
    h_cst_26, h_call18, h_cst_27, h_call19, h_cst_28, h_call20, h_cst_29, h_call21, h_cst_30, h_call22, h_cst_31,
    h_call23, h_c_32, h_v58, h_v59, h_c_33, h_v60, h_v61, h_v62, h_v63, h_v64, h_call24, h_cst_34, h_call25, h_v67,
    h_v68, h_c_35, h_v69, h_v70, h_c_36, h_v71, h_v72, h_v73, h_v74, h_v75, h_call26, h_cst_37, h_call27⟩
  have e41 : W (Proc.devRef .tc main_v41) = refine (W (Proc.devRef .tc main_v40)) (W (Proc.devRef .tc main_v30))
    (W (Proc.devRef .tc main_cst_15)) := h_call7
  have e42 : W (Proc.devRef .tc main_v42) = refine (W (Proc.devRef .tc main_v41)) (W (Proc.devRef .tc main_v30))
    (W (Proc.devRef .tc main_cst_16)) := h_call8
  have e43 : W (Proc.devRef .tc main_v43) = refine (W (Proc.devRef .tc main_v42)) (W (Proc.devRef .tc main_v30))
    (W (Proc.devRef .tc main_cst_17)) := h_call9
  have e44 : W (Proc.devRef .tc main_v44) = refine (W (Proc.devRef .tc main_v43)) (W (Proc.devRef .tc main_v30))
    (W (Proc.devRef .tc main_cst_18)) := h_call10
  have e45 : W (Proc.devRef .tc main_v45) = refine (W (Proc.devRef .tc main_v44)) (W (Proc.devRef .tc main_v30))
    (W (Proc.devRef .tc main_cst_19)) := h_call11
  have e46 : W (Proc.devRef .tc main_v46) = refine (W (Proc.devRef .tc main_v45)) (W (Proc.devRef .tc main_v30))
    (W (Proc.devRef .tc main_cst_20)) := h_call12
  have e47 : W (Proc.devRef .tc main_v47) = refine (W (Proc.devRef .tc main_v46)) (W (Proc.devRef .tc main_v30))
    (W (Proc.devRef .tc main_cst_21)) := h_call13
  have e48 : W (Proc.devRef .tc main_v48) = refine (W (Proc.devRef .tc main_arg1)) (W (Proc.devRef .tc main_v37))
    (W (Proc.devRef .tc main_cst_22)) := h_call14
  have e49 : W (Proc.devRef .tc main_v49) = refine (W (Proc.devRef .tc main_v48)) (W (Proc.devRef .tc main_v37))
    (W (Proc.devRef .tc main_cst_23)) := h_call15
  have e50 : W (Proc.devRef .tc main_v50) = refine (W (Proc.devRef .tc main_v49)) (W (Proc.devRef .tc main_v37))
    (W (Proc.devRef .tc main_cst_24)) := h_call16
  have e51 : W (Proc.devRef .tc main_v51) = refine (W (Proc.devRef .tc main_v50)) (W (Proc.devRef .tc main_v37))
    (W (Proc.devRef .tc main_cst_25)) := h_call17
  have e52 : W (Proc.devRef .tc main_v52) = refine (W (Proc.devRef .tc main_v51)) (W (Proc.devRef .tc main_v37))
    (W (Proc.devRef .tc main_cst_26)) := h_call18
  have e53 : W (Proc.devRef .tc main_v53) = refine (W (Proc.devRef .tc main_v52)) (W (Proc.devRef .tc main_v37))
    (W (Proc.devRef .tc main_cst_27)) := h_call19
  have e54 : W (Proc.devRef .tc main_v54) = refine (W (Proc.devRef .tc main_v53)) (W (Proc.devRef .tc main_v37))
    (W (Proc.devRef .tc main_cst_28)) := h_call20
  have e55 : W (Proc.devRef .tc main_v55) = refine (W (Proc.devRef .tc main_v54)) (W (Proc.devRef .tc main_v37))
    (W (Proc.devRef .tc main_cst_29)) := h_call21
  have e56 : W (Proc.devRef .tc main_v56) = refine (W (Proc.devRef .tc main_v55)) (W (Proc.devRef .tc main_v37))
    (W (Proc.devRef .tc main_cst_30)) := h_call22
  have e57 : W (Proc.devRef .tc main_v57) = refine (W (Proc.devRef .tc main_v56)) (W (Proc.devRef .tc main_v37))
    (W (Proc.devRef .tc main_cst_31)) := h_call23
  have e65 : W (Proc.devRef .tc main_v65) = norm1024 (W (Proc.devRef .tc main_v64)) := h_call24
  have e66 : W (Proc.devRef .tc main_v66) = maximumf (broadcastInDim S1024x1 ![] Facts₀.bcast_S_S1024x1
    (W (Proc.devRef .tc main_cst_34))) (W (Proc.devRef .tc main_v65)) := h_call25
  have e76 : W (Proc.devRef .tc main_v76) = norm1024 (W (Proc.devRef .tc main_v75)) := h_call26
  have e77 : W (Proc.devRef .tc main_v77) = maximumf (broadcastInDim S1024x1 ![] Facts₀.bcast_S_S1024x1
    (W (Proc.devRef .tc main_cst_37))) (W (Proc.devRef .tc main_v76)) := h_call27
  have f64 : W (Proc.devRef .tc main_v64) = rowsAt (W (Proc.devRef .tc main_v8)) (W (Proc.devRef .tc main_indices)) := by
    rw [h_v64, h_v63, h_v62, h_v61, h_v60, h_c_33, h_v59, h_v58, h_c_32]; rfl
  refine ⟨?_, ?_, ?_, ?_, ?_⟩
  · show W _ = _
    rw [e47, e46, e45, e44, e43, e42, e41, h_cst_15, h_cst_16, h_cst_17, h_cst_18, h_cst_19, h_cst_20, h_cst_21]; rfl
  · show W _ = _
    rw [e57, e56, e55, e54, e53, e52, e51, e50, e49, e48, h_cst_22, h_cst_23, h_cst_24, h_cst_25, h_cst_26, h_cst_27, h_cst_28,
      h_cst_29, h_cst_30, h_cst_31]; rfl
  · show W _ = _
    rw [h_v68, h_v67, e66, h_cst_34, e65, f64]; rfl
  · show W _ = _
    rw [h_v75, h_v74, h_v73, h_v72, h_v71, h_c_36, h_v70, h_v69, h_c_35]; rfl
  · show W _ = _
    rw [e77, e76, h_cst_37]

/-- The third part: the margin part of the loss, and the log-sum-exp over the foreground prototypes. -/
def part2_line (d : Dev nD) : { s // Line (main_part2 (F := F) d) s fun W =>
    (val W main_v77 = maximumf (broadcastInDim S1024x1 ![] Facts₀.bcast_S_S1024x1 (constant S_ .f32 0x322BCC77#32))
        (norm1024 (val W main_v75)) → val W main_v92 = hinge (val W main_v68) (unit1024 (val W main_v75)) (val W main_v47))
    ∧ val W main_v103 = unit1024 (rowsAt (val W main_v8) (val W main_indices))
    ∧ val W main_v107 = scaled (val W main_v103) (val W main_v47)
    ∧ val W main_v120 = lse512 (val W main_v107)
    ∧ val W main_v122 = sims (val W main_v103) (val W main_v57) } := by
  refine ⟨_, Line.mono (.unary _ _ _ _ _ (.binary _ _ _ _ _ _ _ (.unary _ _ _ _ _ (.binary _ _ _ _ _ _ _ (.nullary _ _ _ (.binary _ _ _
    _ _ _ _ (.nullary _ _ _ (.binary _ _ _ _ _ _ _ (.nullary _ _ _ (.binary _ _ _ _ _ _ _ (.unary _ _ _ _ _ (.binary
    _ _ _ _ _ _ _ (.nullary _ _ _ (.binary _ _ _ _ _ _ _ (.nullary _ _ _ (.binary _ _ _ _ _ _ _ (.nullary _ _ _
    (.binary _ _ _ _ _ _ _ (.nullary _ _ _ (.binary _ _ _ _ _ _ _ (.binary _ _ _ _ _ _ _ (.bind (relu_line _ _).2
    (.nullary _ _ _ (.unary _ _ _ _ _ (.binary _ _ _ _ _ _ _ (.nullary _ _ _ (.unary _ _ _ _ _ (.binary _ _ _ _ _ _
    _ (.ternary _ _ _ _ _ _ _ _ _ (.unary _ _ _ _ _ (.binary _ _ _ _ _ _ _ (.bind (norm_6_line _ _).2 (.nullary _ _
    _ (.bind (clip_7_line _ _ _).2 (.unary _ _ _ _ _ (.binary _ _ _ _ _ _ _ (.unary _ _ _ _ _ (.binary _ _ _ _ _ _ _
    (.nullary _ _ _ (.unary _ _ _ _ _ (.binary _ _ _ _ _ _ _ (.nullary _ _ _ (.binary _ _ _ _ _ _ _ (.unary _ _ _ _
    _ (.nullary _ _ _ (.unary _ _ _ _ _ (.binary _ _ _ _ _ _ _ (.nullary _ _ _ (.unary _ _ _ _ _ (.ternary _ _ _ _ _
    _ _ _ _ (.unary _ _ _ _ _ (.unary _ _ _ _ _ (.binary _ _ _ _ _ _ _ (.unary _ _ _ _ _ (.nullary _ _ _ (.binary _
    _ _ _ _ _ _ (.unary _ _ _ _ _ (.binary _ _ _ _ _ _ _ (.unary _ _ _ _ _ (.last_binary _ _ _ _ _ _
    _)))))))))))))))))))))))))))))))))))))))))))))))))))))))))))) ?_⟩
  rintro W ⟨h_v78, h_v79, h_v80, h_v81, h_cst_38, h_v82, h_cst_39, h_v83, h_cst_40, h_v84, h_v85, h_v86, h_cst_41, h_v87,
    h_cst_42, h_v88, h_cst_43, h_v89, h_cst_44, h_v90, h_v91, h_call28, h_c_45, h_v93, h_v94, h_c_46, h_v95, h_v96,
    h_v97, h_v98, h_v99, h_call29, h_cst_47, h_call30, h_v102, h_v103, h_v104, h_v105, h_cst_48, h_v106, h_v107,
    h_cst_49, h_v108, h_v109, h_cst_50, h_v110, h_v111, h_cst_51, h_v112, h_v113, h_v114, h_v115, h_v116, h_v117,
    h_cst_52, h_v118, h_v119, h_v120, h_v121, h_v122, -⟩
  have e92 : W (Proc.devRef .tc main_v92) = maximumf (W (Proc.devRef .tc main_v91)) (constant S_ .f32 0x00000000#32) := h_call28
  have e100 : W (Proc.devRef .tc main_v100) = norm1024 (W (Proc.devRef .tc main_v99)) := h_call29
  have e101 : W (Proc.devRef .tc main_v101) = maximumf (broadcastInDim S1024x1 ![] Facts₀.bcast_S_S1024x1
    (W (Proc.devRef .tc main_cst_47))) (W (Proc.devRef .tc main_v100)) := h_call30
  have f99 : W (Proc.devRef .tc main_v99) = rowsAt (W (Proc.devRef .tc main_v8)) (W (Proc.devRef .tc main_indices)) := by
    rw [h_v99, h_v98, h_v97, h_v96, h_v95, h_c_46, h_v94, h_v93, h_c_45]; rfl
  refine ⟨fun f77 => ?_, ?_, ?_, ?_, ?_⟩
  · have f79 : W (Proc.devRef .tc main_v79) = unit1024 (W (Proc.devRef .tc main_v75)) := by
      rw [h_v79, h_v78, show W (Proc.devRef .tc main_v77) = _ from f77]; rfl
    show W _ = _
    rw [e92, h_v91, h_v84, h_cst_40, h_v83, h_cst_39, h_v82, h_cst_38, h_v81, h_v80, h_v90, h_cst_44, h_v89, h_cst_43, h_v88,
      h_cst_42, h_v87, h_cst_41, h_v86, h_v85, f79]; rfl
  · show W _ = _
    rw [h_v103, h_v102, e101, h_cst_47, e100, f99]; rfl
  · show W _ = _
    rw [h_v107, h_v106, h_cst_48, h_v105, h_v104]; rfl
  · have f113 : W (Proc.devRef .tc main_v113) = shiftOf (Host.reduce FloatOps.maximumf (W (Proc.devRef .tc main_v107))
        (constant S_ .f32 0xFF800000#32) Facts₀.reducesTo_S1024x512_S1024_d1 Facts₀.h_S_) := by
      rw [h_v113, h_v112, h_cst_51, h_v111, h_v110, h_cst_50, h_v109, h_v108, h_cst_49]; rfl
    show W _ = _
    rw [h_v120, h_v119, h_v118, h_cst_52, h_v117, h_v116, h_v115, h_v114, f113]; rfl
  · show W _ = _
    rw [h_v122, h_v121]; rfl

/-- The last part: the loss and the new prototypes. -/
def part3_line (d : Dev nD) : { s // Line (main_part3 (F := F) d) s fun W =>
    (val W main_v122 = sims (val W main_v103) (val W main_v57) → val W main_v144 = addf (val W main_v92) (contrast (val W main_v120)
      (lse1024 (beside (val W main_v107) (scaled (val W main_v103) (val W main_v57))))))
    ∧ val W main_v153 = blend (val W main_arg0) (val W main_v47)
    ∧ val W main_v162 = blend (val W main_arg1) (val W main_v57) } := by
  refine ⟨_, Line.mono (.nullary _ _ _ (.unary _ _ _ _ _ (.binary _ _ _ _ _ _ _ (.binary _ _ _ _ _ _ _ (.nullary _ _ _ (.binary _ _ _ _
    _ _ _ (.unary _ _ _ _ _ (.nullary _ _ _ (.unary _ _ _ _ _ (.binary _ _ _ _ _ _ _ (.nullary _ _ _ (.unary _ _ _ _
    _ (.ternary _ _ _ _ _ _ _ _ _ (.unary _ _ _ _ _ (.unary _ _ _ _ _ (.binary _ _ _ _ _ _ _ (.unary _ _ _ _ _
    (.nullary _ _ _ (.binary _ _ _ _ _ _ _ (.unary _ _ _ _ _ (.binary _ _ _ _ _ _ _ (.binary _ _ _ _ _ _ _ (.nullary
    _ _ _ (.binary _ _ _ _ _ _ _ (.nullary _ _ _ (.binary _ _ _ _ _ _ _ (.unary _ _ _ _ _ (.nullary _ _ _ (.binary _
    _ _ _ _ _ _ (.binary _ _ _ _ _ _ _ (.nullary _ _ _ (.unary _ _ _ _ _ (.binary _ _ _ _ _ _ _ (.nullary _ _ _
    (.unary _ _ _ _ _ (.binary _ _ _ _ _ _ _ (.binary _ _ _ _ _ _ _ (.bind (norm_2_line _ _).2 (.nullary _ _ _
    (.bind (clip_3_line _ _ _).2 (.unary _ _ _ _ _ (.binary _ _ _ _ _ _ _ (.nullary _ _ _ (.unary _ _ _ _ _ (.binary
    _ _ _ _ _ _ _ (.nullary _ _ _ (.unary _ _ _ _ _ (.binary _ _ _ _ _ _ _ (.binary _ _ _ _ _ _ _ (.bind
    (norm_2_line _ _).2 (.nullary _ _ _ (.bind (clip_3_line _ _ _).2 (.unary _ _ _ _ _ (.binary _ _ _ _ _ _ _
    .nil)))))))))))))))))))))))))))))))))))))))))))))))))))))) ?_⟩
  rintro W ⟨h_cst_53, h_v123, h_v124, h_v125, h_cst_54, h_v126, h_v127, h_cst_55, h_v128, h_v129, h_cst_56, h_v130, h_v131,
    h_v132, h_v133, h_v134, h_v135, h_cst_57, h_v136, h_v137, h_v138, h_v139, h_cst_58, h_v140, h_cst_59, h_v141,
    h_v142, h_cst_60, h_v143, h_v144, h_cst_61, h_v145, h_v146, h_cst_62, h_v147, h_v148, h_v149, h_call31,
    h_cst_63, h_call32, h_v152, h_v153, h_cst_64, h_v154, h_v155, h_cst_65, h_v156, h_v157, h_v158, h_call33,
    h_cst_66, h_call34, h_v161, h_v162, -⟩
  have e150 : W (Proc.devRef .tc main_v150) = norm512 (W (Proc.devRef .tc main_v149)) := h_call31
  have e151 : W (Proc.devRef .tc main_v151) = maximumf (broadcastInDim S512x1 ![] Facts₀.bcast_S_S512x1
    (W (Proc.devRef .tc main_cst_63))) (W (Proc.devRef .tc main_v150)) := h_call32
  have e159 : W (Proc.devRef .tc main_v159) = norm512 (W (Proc.devRef .tc main_v158)) := h_call33
  have e160 : W (Proc.devRef .tc main_v160) = maximumf (broadcastInDim S512x1 ![] Facts₀.bcast_S_S512x1
    (W (Proc.devRef .tc main_cst_66))) (W (Proc.devRef .tc main_v159)) := h_call34
  refine ⟨fun f122 => ?_, ?_, ?_⟩
  · have f125 : W (Proc.devRef .tc main_v125) = beside (W (Proc.devRef .tc main_v107))
        (scaled (W (Proc.devRef .tc main_v103)) (W (Proc.devRef .tc main_v57))) := by
      rw [h_v125, h_v124, h_v123, h_cst_53, show W (Proc.devRef .tc main_v122) = _ from f122]; rfl
    have f131 : W (Proc.devRef .tc main_v131) = shiftOf (Host.reduce FloatOps.maximumf (W (Proc.devRef .tc main_v125))
        (constant S_ .f32 0xFF800000#32) Facts₀.reducesTo_S1024x1024_S1024_d1 Facts₀.h_S_) := by
      rw [h_v131, h_v130, h_cst_56, h_v129, h_v128, h_cst_55, h_v127, h_v126, h_cst_54]; rfl
    have f138 : W (Proc.devRef .tc main_v138) = lse1024 (W (Proc.devRef .tc main_v125)) := by
      rw [h_v138, h_v137, h_v136, h_cst_57, h_v135, h_v134, h_v133, h_v132, f131]; rfl
    show W _ = _
    rw [h_v144, h_v143, h_cst_60, h_v142, h_v141, h_cst_59, h_v140, h_cst_58, h_v139, f138, f125]; rfl
  · show W _ = _
    rw [h_v153, h_v152, e151, h_cst_63, e150, h_v149, h_v148, h_v147, h_cst_62, h_v146, h_v145, h_cst_61]; rfl
  · show W _ = _
    rw [h_v162, h_v161, e160, h_cst_66, e159, h_v158, h_v157, h_v156, h_cst_65, h_v155, h_v154, h_cst_64]; rfl

/-! ## The results -/

/-- The normalised rows. -/
def feats (x : FVec F S8x256x64x64 .f32) : FVec F S32768x256 .f32 := unit32768 (rawOf x)

/-- The chosen foreground rows. -/
def rowsFg (p : FVec F S512x256 .f32) (x : FVec F S8x256x64x64 .f32) (w : FVec F S8x64x64 .f32) : FVec F S1024x256 .f32 :=
  rowsAt (feats x) (topOf (scoreFg (feats x) p w))

/-- The chosen background rows. -/
def rowsBg (p : FVec F S512x256 .f32) (x : FVec F S8x256x64x64 .f32) (w : FVec F S8x64x64 .f32) : FVec F S1024x256 .f32 :=
  rowsAt (feats x) (topOf (scoreBg (feats x) p w))

/-- The loss. -/
def result0 (p q : FVec F S512x256 .f32) (x : FVec F S8x256x64x64 .f32) (w : FVec F S8x64x64 .f32) : FVec F S_ .f32 :=
  lossOf (unit1024 (rowsFg p x w)) (unit1024 (rowsBg q x w)) (refines stepWords p (rowsFg p x w))
    (refines stepWords q (rowsBg q x w))

/-- The new foreground prototypes. -/
def result1 (p : FVec F S512x256 .f32) (x : FVec F S8x256x64x64 .f32) (w : FVec F S8x64x64 .f32) : FVec F S512x256 .f32 :=
  blend p (refines stepWords p (rowsFg p x w))

/-- The new background prototypes. -/
def result2 (q : FVec F S512x256 .f32) (x : FVec F S8x256x64x64 .f32) (w : FVec F S8x64x64 .f32) : FVec F S512x256 .f32 :=
  blend q (refines stepWords q (rowsBg q x w))

/-- Three refinements and then the other seven are all ten. -/
theorem refines_refines (p : FVec F S512x256 .f32) (f : FVec F S1024x256 .f32) :
    refines (stepWords.drop 3) (refines (stepWords.take 3) p f) f = refines stepWords p f :=
  (List.foldl_append ..).symm

/-- The whole main function. -/
def main_line (d : Dev nD) : { s // Line (main (F := F) d) s fun W =>
    val W main_v144 = result0 (val W main_arg0) (val W main_arg1) (val W main_arg2) (val W main_arg3)
    ∧ val W main_v153 = result1 (val W main_arg0) (val W main_arg2) (val W main_arg3)
    ∧ val W main_v162 = result2 (val W main_arg1) (val W main_arg2) (val W main_arg3) } := by
  refine ⟨_, Line.mono (.bind (part0_line d).2 (.bind (part1_line d).2 (.bind (part2_line d).2 (part3_line d).2))) ?_⟩
  rintro W ⟨⟨h8, hi, hi', h30, h37, h40⟩, ⟨h47, h57, h68, h75, h77⟩, ⟨h92, h103, h107, h120, h122⟩, h144, h153, h162⟩
  have g47 : val W main_v47 = refines stepWords (val W main_arg0) (rowsFg (val W main_arg0) (val W main_arg2) (val W main_arg3)) := by
    rw [h47, h40, refines_refines, h30, hi, h8]; rfl
  have g57 : val W main_v57 = refines stepWords (val W main_arg1) (rowsBg (val W main_arg1) (val W main_arg2) (val W main_arg3)) := by
    rw [h57, h37, hi', h8]; rfl
  refine ⟨?_, ?_, ?_⟩
  · rw [h144 h122, h92 h77, h120, h107, h103, h68, h75, g47, g57, hi, hi', h8]; rfl
  · rw [h153, g47]; rfl
  · rw [h162, g57]; rfl

/-- What the main function writes and reads is ordered, and nothing written is an argument. -/
theorem main_ordered (d : Dev nD) : ordered 4 (main_line (F := F) d).1 = true := by
  rfl

/-- The reference runs and ends with its three results and its arguments unchanged. -/
theorem run (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_v144) = result0 (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v153) = result1 (m ((c.tc : Thread nD τ).loc main_arg0))
        (m ((c.tc : Thread nD τ).loc main_arg2)) (m ((c.tc : Thread nD τ).loc main_arg3))
      ∧ r.2.mem ((c.tc : Thread nD τ).loc main_v162) = result2 (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 := by
  refine θ_run_mono (run_line (by decide) (by decide) defs main _ _ (fun d => (main_line d).2) 4 (main_ordered 0) m g)
    fun r hr => ⟨fun c => ?_, sem_eq_zero_of_no_sems rfl _⟩
  obtain ⟨W, ⟨h0, h1, h2⟩, hm, hl⟩ := hr c
  have k0 : val W main_arg0 = m ((c.tc : Thread nD τ).loc main_arg0) := hl main_arg0 (by decide)
  have k1 : val W main_arg1 = m ((c.tc : Thread nD τ).loc main_arg1) := hl main_arg1 (by decide)
  have k2 : val W main_arg2 = m ((c.tc : Thread nD τ).loc main_arg2) := hl main_arg2 (by decide)
  have k3 : val W main_arg3 = m ((c.tc : Thread nD τ).loc main_arg3) := hl main_arg3 (by decide)
  rw [k0, k1, k2, k3] at h0
  rw [k0, k2, k3] at h1
  rw [k1, k2, k3] at h2
  exact ⟨(hm _).trans h0, (hm _).trans h1, (hm _).trans h2, (hm _).trans k0, (hm _).trans k1, (hm _).trans k2, (hm _).trans k3⟩

end Cert.RefLine

end
-- ==== Proof.KernelRun.lean ====
/-
  The kernel's run: where every weakly fair execution of the launched kernel ends, as the contents that the
  stretches and regions of its main function leave at the last boundary.
-/
module

public import proofs.«01_k».proof.Proof.Gen.KernelIdeal.Frame
public import Idealize.ShloMosaic.Lib.StableHlo.RunHlo

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the launched kernel ends, without a fault, with every buffer outside the
    regions' scopes at the contents of the last boundary and every semaphore at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The run, read at the three results and the four arguments. -/
theorem run : θ_run defs (onTc (τ := τ) (main (F := F))) ⟨m, fun _ => 0, ρ⟩ (fun r => ∀ c : Dev nD,
      r.2.mem ((c.tc : Thread nD τ).loc main_v25) = W7 m ρ c (Proc.devRef .tc main_v25)
      ∧ r.2.mem ((c.tc : Thread nD τ).loc main_v24_1) = W7 m ρ c (Proc.devRef .tc main_v24_1)
      ∧ r.2.mem ((c.tc : Thread nD τ).loc main_v24_2) = W7 m ρ c (Proc.devRef .tc main_v24_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (ends m ρ) fun r hr c =>
    have h := hr.1
    ⟨h c _ (mem_uc main_v25 (by decide)), h c _ (mem_uc main_v24_1 (by decide)), h c _ (mem_uc main_v24_2 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c)⟩

end Cert.KernelRun

end
-- ==== Proof.KernelHost.lean ====
/-
  What the kernel's host stretches leave in the buffers that its regions read.
-/
module

public import proofs.«01_k».proof.Proof.Gen.KernelIdeal.Frame
public import Idealize.ShloMosaic.Lib.StableHlo.RunRead

@[expose] public section

set_option maxRecDepth 16384

noncomputable section

namespace Cert.KernelHost

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD)

/-- The features as rows. -/
def rows (x : FVec F S8x256x64x64 .f32) : FVec F S32768x256 .f32 :=
  shapeCast S32768x256 (transpose S8x64x64x256 [0, 2, 3, 1] x transposes_S8x256x64x64_S8x64x64x256_0_2_3_1)
    shapeCasts_S8x64x64x256_S32768x256

/-- The mask as a column of numbers between 0 and 1. -/
def mask (x : FVec F S8x64x64 .f32) : FVec F S32768x1 .f32 :=
  shapeCast S32768x1 (minimumf (broadcastInDim S8x64x64 ![] bcast_S_S8x64x64 (constant S_ .f32 0x3F800000#32))
    (maximumf (broadcastInDim S8x64x64 ![] bcast_S_S8x64x64 (constant S_ .f32 0x00000000#32)) x)) shapeCasts_S8x64x64_S32768x1

/-- The prototypes of both classes, one set above the other. -/
def protos (p q : FVec F S512x256 .f32) : FVec F S1024x256 .f32 :=
  concatenate S1024x256 0 [⟨S512x256, p⟩, ⟨S512x256, q⟩] concatenates_S512x256_S512x256_S1024x256_d0

/-- The positions of the 1024 largest entries of one column of the scores. -/
def top (s : FVec F S32768x1 .f32) : IVec S1024 32 :=
  (Host.topK S1024 0 (FloatOps.cmpfTotal .gt) (shapeCast S32768 s shapeCasts_S32768x1_S32768) sliceFits_S32768_S1024).2

/-- The rows at given positions; a negative position counts from the end. -/
def rowsAt (f : FVec F S32768x256 .f32) (i : IVec S1024 32) : FVec F S1024x256 .f32 :=
  Host.gather gather_S32768x256_S1024x1_S1024x256_1_0_n_n_0_1_1256 f (broadcastInDim S1024x1 ![0] bcast_S1024_S1024x1_0
    (select (cmpi .slt i (broadcastInDim S1024 ![] bcast_S_S1024 (constantI S_ 32 0#32)))
      (addi i (broadcastInDim S1024 ![] bcast_S_S1024 (constantI S_ 32 32768#32))) i))

theorem entry_rows : W3 m ρ c (Proc.devRef .tc main_v1) = rows (m ((c : Thread nD τ).loc main_arg2)) := by
  rw [W3_of m ρ c main_v1 (by decide), W2_of m ρ c main_v1 (by decide)]
  after_reads_simp
  rfl

theorem entry_mask : W3 m ρ c (Proc.devRef .tc main_v3) = mask (m ((c : Thread nD τ).loc main_arg3)) := by
  after_reads_simp
  rfl

theorem entry_protos : W3 m ρ c (Proc.devRef .tc main_v4)
    = protos (m ((c : Thread nD τ).loc main_arg0)) (m ((c : Thread nD τ).loc main_arg1)) := by
  after_reads_simp
  rfl

theorem chosen_fg : W5 m ρ c (Proc.devRef .tc main_v16)
    = rowsAt (W4 m ρ c (Proc.devRef .tc main_v5_0)) (top (extractStridedSlice S32768x1 ![0, 0]
        (W4 m ρ c (Proc.devRef .tc main_v5_1)) slices_S32768x2_S32768x1_0_0)) := by
  after_reads_simp
  rfl

theorem chosen_bg : W5 m ρ c (Proc.devRef .tc main_v23)
    = rowsAt (W4 m ρ c (Proc.devRef .tc main_v5_0)) (top (extractStridedSlice S32768x1 ![0, 1]
        (W4 m ρ c (Proc.devRef .tc main_v5_1)) slices_S32768x2_S32768x1_0_1)) := by
  after_reads_simp
  rfl

theorem result_loss : W7 m ρ c (Proc.devRef .tc main_v25)
    = shapeCast S_ (W6 m ρ c (Proc.devRef .tc main_v24_0)) shapeCasts_S1x1_S_ := by
  after_reads_simp
  rfl

end Cert.KernelHost

end
-- ==== Proof.FeatSpec.lean ====
/-
  Rows over their norm and least distances, entry by entry, in the reference and in the first kernel body.
-/
module

public import proofs.«01_k».proof.Proof.RefMain
public import proofs.«01_k».proof.Proof.KernelHost
public import Idealize.ShloMosaic.Lib.Pointwise

@[expose] public section

set_option maxRecDepth 16384

noncomputable section

namespace Cert.Spec

open Idealize.ShloMosaic

/-- The float word 1e-8. -/
def eps : EReal := Ideal.ofBits .f32 0x322BCC77#32

/-- The float word of minus infinity is the least extended real. -/
theorem word_bot : Ideal.ofBits .f32 0xFF800000#32 = ⊥ := by simp [Ideal.ofBits, Ideal.ieee]

/-- The float word of plus infinity is the greatest extended real. -/
theorem word_top : Ideal.ofBits .f32 0x7F800000#32 = ⊤ := by simp [Ideal.ofBits, Ideal.ieee]

/-- An entry of a row divided by the larger of the row's norm and 1e-8. -/
def unit {n : ℕ} (r : Fin n → EReal) (k : Fin n) : EReal :=
  Ideal.div (r k) (max eps (Ideal.sqrt (∑ l, r l * r l)))

/-- The inner product of two rows. -/
def dot {n : ℕ} (r p : Fin n → EReal) : EReal := ∑ l, r l * p l

/-- The largest of finitely many numbers. -/
def top {n : ℕ} (x : Fin n → EReal) : EReal := Finset.univ.fold max ⊥ x

/-- The least of finitely many numbers. -/
def low {n : ℕ} (x : Fin n → EReal) : EReal := Finset.univ.fold min ⊤ x

/-- The least of the differences from 1 is 1 minus the largest. -/
theorem low_one_sub {n : ℕ} (x : Fin n → EReal) : low (fun k => 1 - x k) = 1 - top x := by
  have h := Finset.fold_hom (op := max) (op' := min) (s := (Finset.univ : Finset (Fin n))) (f := x) (b := (⊥ : EReal))
    (m := fun y => 1 - y) (fun a b => (Antitone.map_max (f := fun y : EReal => 1 - y)
      (fun _ _ h => EReal.sub_le_sub le_rfl h)))
  have e : (1 : EReal) - ⊥ = ⊤ := rfl
  rw [e] at h
  exact h

section

variable [Cert.ReferenceIdeal.Facts₀] [Cert.ReferenceIdeal.Facts]

theorem unit32768_apply (x : FVec Ideal Cert.ReferenceIdeal.S32768x256 .f32) (i : Fin 32768) (j : Fin 256) :
    RefLine.unit32768 (F := Ideal) x (ix2 i j) = unit (fun l => (x (ix2 i l) : EReal)) j := by
  unfold RefLine.unit32768 RefLine.norm32768
  pointwise
  rfl

theorem unit512_apply (x : FVec Ideal Cert.ReferenceIdeal.S512x256 .f32) (i : Fin 512) (j : Fin 256) :
    RefLine.unit512 (F := Ideal) x (ix2 i j) = unit (fun l => (x (ix2 i l) : EReal)) j := by
  unfold RefLine.unit512 RefLine.norm512
  pointwise
  rfl

theorem unit1024_apply (x : FVec Ideal Cert.ReferenceIdeal.S1024x256 .f32) (i : Fin 1024) (j : Fin 256) :
    RefLine.unit1024 (F := Ideal) x (ix2 i j) = unit (fun l => (x (ix2 i l) : EReal)) j := by
  unfold RefLine.unit1024 RefLine.norm1024
  pointwise
  rfl

theorem minDist_apply (x : FVec Ideal Cert.ReferenceIdeal.S32768x256 .f32) (p : FVec Ideal Cert.ReferenceIdeal.S512x256 .f32)
    (i : Fin 32768) : RefLine.minDist (F := Ideal) x p (ix1 i)
      = 1 - top fun k => dot (fun l => (x (ix2 i l) : EReal)) fun l => (p (ix2 k l) : EReal) := by
  rw [← low_one_sub]
  unfold RefLine.minDist
  pointwise
  rw [word_top]
  rfl

end

open Cert.KernelIdeal Cert.KernelIdeal.Gen

theorem pay1_apply (x : FVec Ideal S2048x256 .f32) (i : Fin 2048) (j : Fin 256) :
    k0_pay1 (F := Ideal) x (ix2 i j) = unit (fun l => (x (ix2 i l) : EReal)) j := by
  unfold k0_pay1
  pointwise
  rw [max_comm]
  rfl

end Cert.Spec

end
-- ==== Proof.FeatScore.lean ====
/-
  The two columns of scores that the first kernel body stores, entry by entry.
-/
module

public import proofs.«01_k».proof.Proof.FeatSpec

@[expose] public section

set_option maxRecDepth 16384

noncomputable section

namespace Cert.Spec

open Idealize.ShloMosaic Cert.KernelIdeal Cert.KernelIdeal.Gen

variable (x : FVec Ideal S2048x256 .f32) (y : FVec Ideal S1024x256 .f32) (z : FVec Ideal S2048x1 .f32) (i : Fin 2048)

/-- The first column: the least distance to the first 512 prototypes, times the mask. -/
theorem pay2_fg : k0_pay2 (F := Ideal) x y z (ix2 i 0)
    = (1 - top fun k : Fin 512 => dot (unit fun l => (x (ix2 i l) : EReal))
        fun l => (y (ix2 (k.castLE (by decide) : Fin 1024) l) : EReal)) * z (ix2 i 0) := by
  have e : ∀ l : Fin 256, k0_pay1 (F := Ideal) x (ix2 i l) = unit (fun l => (x (ix2 i l) : EReal)) l := pay1_apply x i
  unfold k0_pay2
  pointwise
  simp only [e, word_bot]
  rfl

/-- The second column: the least distance to the last 512 prototypes, times 1 minus the mask. -/
theorem pay2_bg : k0_pay2 (F := Ideal) x y z (ix2 i 1)
    = (1 - top fun k : Fin 512 => dot (unit fun l => (x (ix2 i l) : EReal))
        fun l => (y (ix2 (k.natAdd 512 : Fin 1024) l) : EReal)) * (1 - z (ix2 i 0)) := by
  have e : ∀ l : Fin 256, k0_pay1 (F := Ideal) x (ix2 i l) = unit (fun l => (x (ix2 i l) : EReal)) l := pay1_apply x i
  unfold k0_pay2
  pointwise
  simp only [e, word_bot]
  rfl

end Cert.Spec

end
-- ==== Proof.KernelRegion0.lean ====
/-
  The first kernel region: the arrays it leaves are the normalised rows and their two columns of scores.
-/
module

public import proofs.«01_k».proof.Proof.FeatScore
public import Idealize.ShloMosaic.Lib.Pipeline.ValueKit

@[expose] public section

set_option maxRecDepth 16384

noncomputable section

namespace Cert.Spec

open Idealize.ShloMosaic Idealize.ShloMosaic.TcCoe Idealize.SL.Sem Cert.KernelIdeal Cert.KernelIdeal.Gen
open Idealize.ShloMosaic.Pipeline (Dat)

/-- The normalised rows. -/
def unitRows (R : FVec Ideal S32768x256 .f32) : FVec Ideal S32768x256 .f32 :=
  fun j => unit (fun l : Fin 256 => (R (ix2 (j 0) l) : EReal)) (j 1)

/-- The largest similarity of row `i` with the 512 prototypes from row `o` on. -/
def best (R : FVec Ideal S32768x256 .f32) (P : Fin 512 → Fin 256 → EReal) (i : Fin 32768) : EReal :=
  top fun k : Fin 512 => dot (unit fun l : Fin 256 => (R (ix2 i l) : EReal)) (P k)

/-- A row's score in one of the two columns, from the rows, the prototypes of both classes and the mask. -/
def scoreAt (R : FVec Ideal S32768x256 .f32) (P : FVec Ideal S1024x256 .f32) (M : FVec Ideal S32768x1 .f32)
    (i : Fin 32768) (k : Fin 2) : EReal :=
  if k = 0 then (1 - best R (fun k l => (P (ix2 (k.castLE (by decide) : Fin 1024) l) : EReal)) i) * M (ix2 i 0)
  else (1 - best R (fun k l => (P (ix2 (k.natAdd 512 : Fin 1024) l) : EReal)) i) * (1 - M (ix2 i 0))

/-- The two columns of scores. -/
def scores (R : FVec Ideal S32768x256 .f32) (P : FVec Ideal S1024x256 .f32) (M : FVec Ideal S32768x1 .f32) :
    FVec Ideal S32768x2 .f32 := fun j => scoreAt R P M (j 0) (j 1)

theorem idx0 : ∀ t : Fin cfg0.N, win0_0.index t = ![(grid0.coords t 0).val, 0] :=
  (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] :=
  (by decide +kernel : ∀ t : Fin grid0.N, _)
theorem idx3 : ∀ t : Fin cfg0.N, win0_3.index t = ![(grid0.coords t 0).val, 0] :=
  (by decide +kernel : ∀ t : Fin grid0.N, _)
theorem idx4 : ∀ t : Fin cfg0.N, win0_4.index t = ![(grid0.coords t 0).val, 0] :=
  (by decide +kernel : ∀ t : Fin grid0.N, _)

variable (V : (c : Dev nD) → (b : Ref sig .tc) → Buf (Elt Ideal) ((c : Thread nD τ).loc b)) (c : Dev nD)

/-- The array's row that is row `i` of the block at point `t`. -/
def row (t : Fin cfg0.N) (i : Fin 2048) : Fin 32768 :=
  ⟨(grid0.coords t 0).val * 2048 + i.val, by
    have h : (grid0.coords t 0).val < 16 := (grid0.coords t 0).isLt
    omega⟩

theorem place_rows (t : Fin cfg0.N) (i : Fin 2048) (k : Fin 256) :
    ((View.whole main_v5_0).slice (win0_3.rect t)).emb (ix2 i k) = ix2 (row t i) k := by
  blk_ext [idx3, row]

theorem place_scores (t : Fin cfg0.N) (i : Fin 2048) (k : Fin 2) :
    ((View.whole main_v5_1).slice (win0_4.rect t)).emb (ix2 i k) = ix2 (row t i) k := by
  blk_ext [idx4, row]

theorem block_rows (t : Fin cfg0.N) (i : Fin 2048) (k : Fin 256) :
    iblk0 V c 0 t (ix2 i k) = V c main_v1 (ix2 (row t i) k) := by
  blk_simp [iblk0]
  congr 1
  blk_ext [idx0, row]

theorem block_protos (t : Fin cfg0.N) (i : Fin 1024) (k : Fin 256) :
    iblk0 V c 1 t (ix2 i k) = V c main_v4 (ix2 i k) := by
  blk_simp [iblk0]
  congr 1
  blk_ext [idx1]

theorem block_mask (t : Fin cfg0.N) (i : Fin 2048) (k : Fin 1) :
    iblk0 V c 2 t (ix2 i k) = V c main_v3 (ix2 (row t i) k) := by
  blk_simp [iblk0]
  congr 1
  blk_ext [idx2, row]

/-- The first array is the normalised rows. -/
theorem region_rows : (dat0 V c).arrAt 3 cfg0.N = unitRows (V c main_v1) := by
  refine (dat0 V c).arrAt_eq_of_covers 3 _ (by decide +kernel) fun t hf y => ?_
  blk_simp
  rw [after0_3]
  frame_out
  obtain ⟨i, k, rfl⟩ : ∃ (i : Fin 2048) (k : Fin 256), y = ix2 i k := ⟨y 0, y 1, eq_ix2 y⟩
  rw [pay1_apply, place_rows]
  exact congrArg (fun r => unit r k) (funext fun l => block_rows V c t i l)

/-- The second array is the two columns of scores. -/
theorem region_scores : (dat0 V c).arrAt 4 cfg0.N = scores (V c main_v1) (V c main_v4) (V c main_v3) := by
  refine (dat0 V c).arrAt_eq_of_covers 4 _ (by decide +kernel) fun t hf y => ?_
  blk_simp
  rw [after0_4]
  frame_out
  obtain ⟨i, k, rfl⟩ : ∃ (i : Fin 2048) (k : Fin 2), y = ix2 i k := ⟨y 0, y 1, eq_ix2 y⟩
  rw [place_scores]
  have hx : (fun l : Fin 256 => (iblk0 V c 0 t (ix2 i l) : EReal)) = fun l => V c main_v1 (ix2 (row t i) l) :=
    funext fun l => block_rows V c t i l
  match k with
  | ⟨0, _⟩ =>
    refine (pay2_fg _ _ _ i).trans ?_
    rw [hx, block_mask]
    simp only [block_protos]
    rfl
  | ⟨1, _⟩ =>
    refine (pay2_bg _ _ _ i).trans ?_
    rw [hx, block_mask]
    simp only [block_protos]
    rfl

end Cert.Spec

end
-- ==== Proof.Columns.lean ====
/-
  The kernel's arrays of rows, prototypes, mask values and scores are the reference's.
-/
module

public import proofs.«01_k».proof.Proof.KernelRegion0

@[expose] public section

set_option maxRecDepth 16384

noncomputable section

namespace Cert.Spec

open Idealize.ShloMosaic Idealize.ShloMosaic.TcCoe Idealize.SL.Sem Cert.KernelIdeal Cert.KernelIdeal.Gen

variable [Cert.ReferenceIdeal.Facts₀] [Cert.ReferenceIdeal.Facts]

/-- The normalised rows are the reference's. -/
theorem unitRows_eq (x : FVec Ideal S8x256x64x64 .f32) :
    unitRows (KernelHost.rows (F := Ideal) x) = RefLine.unit32768 (F := Ideal) (RefLine.rawOf x) := by
  funext j
  obtain ⟨i, k, rfl⟩ : ∃ (i : Fin 32768) (k : Fin 256), j = ix2 i k := ⟨j 0, j 1, eq_ix2 j⟩
  rw [unit32768_apply]
  rfl

/-- The first 512 of both classes' prototypes are the foreground ones. -/
theorem protos_fg (p q : FVec Ideal S512x256 .f32) (k : Fin 512) (l : Fin 256) :
    KernelHost.protos (F := Ideal) p q (ix2 (k.castLE (by decide) : Fin 1024) l) = p (ix2 k l) := by
  unfold KernelHost.protos
  pointwise
  exact dif_pos k.isLt

/-- The last 512 of both classes' prototypes are the background ones. -/
theorem protos_bg (p q : FVec Ideal S512x256 .f32) (k : Fin 512) (l : Fin 256) :
    KernelHost.protos (F := Ideal) p q (ix2 (k.natAdd 512 : Fin 1024) l) = q (ix2 k l) := by
  unfold KernelHost.protos
  pointwise
  refine (dif_neg (by simp)).trans ?_
  congr 2
  exact Fin.ext (by simp)

/-- A number clipped to the interval from 0 to 1. -/
def clip (x : EReal) : EReal := min (Ideal.ofBits .f32 0x3F800000#32) (max (Ideal.ofBits .f32 0x00000000#32) x)

/-- The kernel's mask is the reference's. -/
theorem mask_eq (w : FVec Ideal S8x64x64 .f32) (i : Fin 32768) :
    KernelHost.mask (F := Ideal) w (ix2 i 0) = RefLine.maskOf (F := Ideal) w (ix1 i) := by
  obtain ⟨a, b, c, h⟩ : ∃ (a : Fin 8) (b : Fin 64) (c : Fin 64), i.val = (a.val * 64 + b.val) * 64 + c.val :=
    ⟨⟨i.val / 4096, by omega⟩, ⟨i.val / 64 % 64, by omega⟩, ⟨i.val % 64, by omega⟩, by simp only; omega⟩
  have e1 : KernelHost.mask (F := Ideal) w (ix2 i 0) = clip (w (ix3 a b c)) := by
    unfold KernelHost.mask
    refine (shapeCast_apply _ shapeCasts_S8x64x64_S32768x1 (ix2 i 0) (ix3 a b c) ?_).trans rfl
    rw [Shape.rowMajor_val_three, Shape.rowMajor_val_two]
    simp
    omega
  have e2 : RefLine.maskOf (F := Ideal) w (ix1 i) = clip (w (ix3 a b c)) := by
    unfold RefLine.maskOf
    refine (shapeCast_apply _ ReferenceIdeal.Facts₀.shapeCasts_S8x1x64x64_S32768 (ix1 i) (ix4 a 0 b c) ?_).trans ?_
    · rw [Shape.rowMajor_val_four, Shape.rowMajor_val_one]
      simp
      omega
    · refine congrArg (fun j => clip (w j)) ?_
      funext d
      match d with
      | ⟨0, _⟩ => rfl
      | ⟨1, _⟩ => rfl
      | ⟨2, _⟩ => rfl
  rw [e1, e2]

/-- The largest similarity of a row, from the reference's least distance. -/
theorem minDist_eq (x : FVec Ideal S8x256x64x64 .f32) (p : FVec Ideal S512x256 .f32) (i : Fin 32768) :
    RefLine.minDist (F := Ideal) (RefLine.unit32768 (RefLine.rawOf x)) p (ix1 i)
      = (1 - best (KernelHost.rows (F := Ideal) x) (fun k l => (p (ix2 k l) : EReal)) i : EReal) := by
  rw [minDist_apply, ← unitRows_eq]
  rfl

/-- One column of a two-column array, as a vector. -/
theorem column_apply (s : FVec Ideal S32768x2 .f32) (o : Fin 2) (h) (i : Fin 32768) :
    shapeCast S32768 (extractStridedSlice S32768x1 ![0, o.val] s h) shapeCasts_S32768x1_S32768 (ix1 i) = s (ix2 i o) := by
  refine (shapeCast_apply _ shapeCasts_S32768x1_S32768 (ix1 i) (ix2 i 0) ?_).trans ?_
  · rw [Shape.rowMajor_val_two, Shape.rowMajor_val_one]
    simp
  unfold extractStridedSlice
  congr 1
  funext d
  match d with
  | ⟨0, _⟩ => exact Fin.ext (by simp)
  | ⟨1, _⟩ => exact Fin.ext (by simp)

theorem times_at (d e : FVec Ideal S32768 .f32) (i : Fin 32768) : mulf d e (ix1 i) = (d (ix1 i) * e (ix1 i) : EReal) := rfl

theorem rest_at (d : FVec Ideal S32768 .f32) (i : Fin 32768) :
    subf (broadcastInDim S32768 ![] ReferenceIdeal.Facts₀.bcast_S_S32768 (constant S_ .f32 0x3F800000#32)) d (ix1 i)
      = (1 - d (ix1 i) : EReal) := by
  pointwise

theorem scoreFg_def {F : FTy → Type} [FloatOps F] (f : FVec F S32768x256 .f32) (p : FVec F S512x256 .f32) (w : FVec F S8x64x64 .f32) :
    RefLine.scoreFg f p w = mulf (RefLine.minDist f p) (RefLine.maskOf w) := by
  unfold RefLine.scoreFg
  rfl

theorem scoreBg_def {F : FTy → Type} [FloatOps F] (f : FVec F S32768x256 .f32) (p : FVec F S512x256 .f32) (w : FVec F S8x64x64 .f32) :
    RefLine.scoreBg f p w = mulf (RefLine.minDist f p) (subf (broadcastInDim S32768 ![] ReferenceIdeal.Facts₀.bcast_S_S32768
      (constant S_ .f32 0x3F800000#32)) (RefLine.maskOf w)) := by
  unfold RefLine.scoreBg
  rfl

theorem scoreFg_apply (f : FVec Ideal S32768x256 .f32) (p : FVec Ideal S512x256 .f32) (w : FVec Ideal S8x64x64 .f32) (i : Fin 32768) :
    RefLine.scoreFg (F := Ideal) f p w (ix1 i)
      = (RefLine.minDist (F := Ideal) f p (ix1 i) * RefLine.maskOf (F := Ideal) w (ix1 i) : EReal) :=
  (congrFun (scoreFg_def f p w) (ix1 i)).trans (times_at _ _ i)

theorem scoreBg_apply (f : FVec Ideal S32768x256 .f32) (p : FVec Ideal S512x256 .f32) (w : FVec Ideal S8x64x64 .f32) (i : Fin 32768) :
    RefLine.scoreBg (F := Ideal) f p w (ix1 i)
      = (RefLine.minDist (F := Ideal) f p (ix1 i) * (1 - RefLine.maskOf (F := Ideal) w (ix1 i)) : EReal) :=
  (congrFun (scoreBg_def f p w) (ix1 i)).trans ((times_at _ _ i).trans
    (congrArg (fun x : EReal => (RefLine.minDist (F := Ideal) f p (ix1 i) * x : EReal)) (rest_at _ i)))

/-- The first column of scores is the reference's foreground scores. -/
theorem column_fg (x : FVec Ideal S8x256x64x64 .f32) (p q : FVec Ideal S512x256 .f32) (w : FVec Ideal S8x64x64 .f32) :
    shapeCast S32768 (extractStridedSlice S32768x1 ![0, 0]
        (scores (KernelHost.rows (F := Ideal) x) (KernelHost.protos (F := Ideal) p q) (KernelHost.mask (F := Ideal) w))
        slices_S32768x2_S32768x1_0_0) shapeCasts_S32768x1_S32768
      = RefLine.scoreFg (F := Ideal) (RefLine.feats (F := Ideal) x) p w := by
  funext j
  obtain ⟨i, rfl⟩ : ∃ i : Fin 32768, j = ix1 i := ⟨j 0, eq_ix1 j⟩
  refine (column_apply _ 0 slices_S32768x2_S32768x1_0_0 i).trans ?_
  refine Eq.trans ?_ (scoreFg_apply _ p w i).symm
  unfold RefLine.feats
  rw [minDist_eq, ← mask_eq]
  refine (if_pos rfl : scoreAt _ _ _ i 0 = _).trans ?_
  simp only [protos_fg]

/-- The second column of scores is the reference's background scores. -/
theorem column_bg (x : FVec Ideal S8x256x64x64 .f32) (p q : FVec Ideal S512x256 .f32) (w : FVec Ideal S8x64x64 .f32) :
    shapeCast S32768 (extractStridedSlice S32768x1 ![0, 1]
        (scores (KernelHost.rows (F := Ideal) x) (KernelHost.protos (F := Ideal) p q) (KernelHost.mask (F := Ideal) w))
        slices_S32768x2_S32768x1_0_1) shapeCasts_S32768x1_S32768
      = RefLine.scoreBg (F := Ideal) (RefLine.feats (F := Ideal) x) q w := by
  funext j
  obtain ⟨i, rfl⟩ : ∃ i : Fin 32768, j = ix1 i := ⟨j 0, eq_ix1 j⟩
  refine (column_apply _ 1 slices_S32768x2_S32768x1_0_1 i).trans ?_
  refine Eq.trans ?_ (scoreBg_apply _ q w i).symm
  unfold RefLine.feats
  rw [minDist_eq, ← mask_eq]
  refine (if_neg one_ne_zero : scoreAt _ _ _ i 1 = _).trans ?_
  simp only [protos_bg]

end Cert.Spec

end
-- ==== Proof.Chosen.lean ====
/-
  The rows that the kernel chooses are the rows that the reference chooses.
-/
module

public import proofs.«01_k».proof.Proof.Columns

@[expose] public section

set_option maxRecDepth 16384

noncomputable section

namespace Cert.Spec

open Idealize.ShloMosaic Idealize.ShloMosaic.TcCoe Idealize.SL.Sem Cert.KernelIdeal Cert.KernelIdeal.Gen

variable [Cert.ReferenceIdeal.Facts₀] [Cert.ReferenceIdeal.Facts]

variable (m : (ℓ : Loc nD τ sig) → Buf (Elt Ideal) ℓ) (ρ : Dev nD → PrngReg) (c : Dev nD)

/-- The normalised rows that the kernel keeps. -/
theorem kept_rows : W4 m ρ c (Proc.devRef .tc main_v5_0)
    = RefLine.unit32768 (F := Ideal) (RefLine.rawOf (m ((c : Thread nD τ).loc main_arg2))) := by
  rw [← unitRows_eq]
  refine (W4_arr m ρ c 3).trans ((region_rows _ c).trans ?_)
  exact congrArg unitRows (KernelHost.entry_rows m ρ c)

/-- The scores that the kernel keeps. -/
theorem kept_scores : W4 m ρ c (Proc.devRef .tc main_v5_1)
    = scores (KernelHost.rows (F := Ideal) (m ((c : Thread nD τ).loc main_arg2)))
      (KernelHost.protos (F := Ideal) (m ((c : Thread nD τ).loc main_arg0)) (m ((c : Thread nD τ).loc main_arg1)))
      (KernelHost.mask (F := Ideal) (m ((c : Thread nD τ).loc main_arg3))) := by
  refine (W4_arr m ρ c 4).trans ((region_scores _ c).trans ?_)
  have h1 := KernelHost.entry_rows m ρ c
  have h2 := KernelHost.entry_protos m ρ c
  have h3 := KernelHost.entry_mask m ρ c
  show scores (W3 m ρ c (Proc.devRef .tc main_v1)) (W3 m ρ c (Proc.devRef .tc main_v4)) (W3 m ρ c (Proc.devRef .tc main_v3)) = _
  rw [h1, h2, h3]

/-- The chosen foreground rows. -/
theorem rows_fg : W5 m ρ c (Proc.devRef .tc main_v16)
    = RefLine.rowsFg (F := Ideal) (m ((c : Thread nD τ).loc main_arg0)) (m ((c : Thread nD τ).loc main_arg2))
      (m ((c : Thread nD τ).loc main_arg3)) := by
  rw [KernelHost.chosen_fg, kept_rows, kept_scores]
  unfold KernelHost.top
  rw [column_fg]
  rfl

/-- The chosen background rows. -/
theorem rows_bg : W5 m ρ c (Proc.devRef .tc main_v23)
    = RefLine.rowsBg (F := Ideal) (m ((c : Thread nD τ).loc main_arg1)) (m ((c : Thread nD τ).loc main_arg2))
      (m ((c : Thread nD τ).loc main_arg3)) := by
  rw [KernelHost.chosen_bg, kept_rows, kept_scores]
  unfold KernelHost.top
  rw [column_bg]
  rfl

end Cert.Spec

end
-- ==== Proof.KernelSteps.lean ====
/-
  The second kernel body's twenty unrolled refinements as iterates of one step.
-/
module

public import proofs.«01_k».proof.Proof.Gen.KernelIdeal.Frame

@[expose] public section

set_option maxRecDepth 16384

noncomputable section

namespace Cert.KernelSteps

open Idealize.ShloMosaic Cert.KernelIdeal Cert.KernelIdeal.Gen

variable {F : FTy → Type} [FloatOps F]

/-! ## The step, piece by piece -/

/-- The number 1. -/
def one : F .f32 := Scalar.ofBits .f32 0x3F800000#32

/-- A column of 1024 ones. -/
def ones : FVec F S1024x1 .f32 := broadcast S1024x1 one

/-- Each entry's column number. -/
def cols : IVec S1024x512 32 := iota .tc S1024x512 32 [1] iota_S1024x512_d1_w32

/-- The similarities of the rows `f` with the prototypes `p`. -/
def sim (p : FVec F S512x256 .f32) (f : FVec F S1024x256 .f32) : FVec F S1024x512 .f32 :=
  matmul dot_S1024x256_S512x256_S1024x512_1_1_0_0_n_n none f p (constant S1024x512 .f32 0x00000000#32)

/-- Each row's largest entry. -/
def big (s : FVec F S1024x512 .f32) : FVec F S1024 .f32 :=
  multiReduction .maximumf [1] S1024 s 0xFF800000#32 reduces_S1024x512_S1024 (.inl rfl) rfl

/-- The column number where an entry reaches its row's largest `x`, and 512 elsewhere. -/
def candidates (s : FVec F S1024x512 .f32) (x : FVec F S1024 .f32) : IVec S1024x512 32 :=
  select (cmpf .oge s (broadcastTo S1024x512 (shapeCast S1024x1 x shapeCasts_S1024_S1024x1) broadcasts_S1024x1_S1024x512))
    cols (broadcast S1024x512 512#32)

/-- The least entry of each row, as a column. -/
def least (x : IVec S1024x512 32) : IVec S1024x1 32 :=
  shapeCast S1024x1 (multiReductionI .minsi [1] S1024 x 2147483647#32 reduces_S1024x512_S1024 rfl) shapeCasts_S1024_S1024x1

/-- 1 where the column is the row's chosen one, 0 elsewhere. -/
def hot (a : IVec S1024x1 32) : FVec F S1024x512 .f32 :=
  sitofp .f32 (extui 32 (cmpi .eq cols (broadcastTo S1024x512 a broadcasts_S1024x1_S1024x512)) natLt_1_32)

/-- The number of rows that chose each prototype. -/
def count (h : FVec F S1024x512 .f32) : FVec F S512x1 .f32 :=
  matmul dot_S1024x512_S1024x1_S512x1_0_0_1_1_n_n none h ones (constant S512x1 .f32 0x00000000#32)

/-- The sum of the rows that chose each prototype. -/
def total (h : FVec F S1024x512 .f32) (f : FVec F S1024x256 .f32) : FVec F S512x256 .f32 :=
  matmul dot_S1024x512_S1024x256_S512x256_0_0_1_1_n_n none h f (constant S512x256 .f32 0x00000000#32)

/-- The mean of the rows that chose each prototype. -/
def meanBy (s : FVec F S512x256 .f32) (n : FVec F S512x1 .f32) : FVec F S512x256 .f32 :=
  divf s (broadcastTo S512x256 (maximumf n (broadcast S512x1 one)) broadcasts_S512x1_S512x256)

/-- A prototype moved towards a mean by the step `w`. -/
def towards (w : BitVec 32) (p q : FVec F S512x256 .f32) : FVec F S512x256 .f32 :=
  addf (mulf (broadcast S512x256 (Scalar.subf one (Scalar.ofBits .f32 w))) p)
    (mulf (broadcast S512x256 (Scalar.ofBits .f32 w)) q)

/-- The rows divided by the larger of their norm, from its square `x2` entry by entry, and 1e-8. -/
def unitBy (x x2 : FVec F S512x256 .f32) : FVec F S512x256 .f32 :=
  divf x (broadcastTo S512x256 (maximumf (sqrt (shapeCast S512x1
    (multiReduction .add [1] S512 x2 0x00000000#32 reduces_S512x256_S512 (.inl rfl) rfl) shapeCasts_S512_S512x1))
    (broadcast S512x1 (Scalar.ofBits .f32 0x322BCC77#32))) broadcasts_S512x1_S512x256)

/-- The first array in the rows whose count is positive, the second elsewhere. -/
def ifUsed (n : FVec F S512x1 .f32) (x p : FVec F S512x256 .f32) : FVec F S512x256 .f32 :=
  select (broadcastTo S512x256 (shapeCast S512x1 (cmpf .ogt n (broadcast S512x1 (Scalar.ofBits .f32 0x00000000#32)))
    shapeCasts_S512x1_S512x1) broadcasts_S512x1_S512x256) x p

/-- The candidates of a step. -/
def selOf (p : FVec F S512x256 .f32) (f : FVec F S1024x256 .f32) : IVec S1024x512 32 :=
  candidates (sim p f) (big (sim p f))

/-- The assignment of a step, as a one-hot matrix. -/
def hotOf (p : FVec F S512x256 .f32) (f : FVec F S1024x256 .f32) : FVec F S1024x512 .f32 := hot (least (selOf p f))

/-- The counts of a step. -/
def countOf (p : FVec F S512x256 .f32) (f : FVec F S1024x256 .f32) : FVec F S512x1 .f32 := count (hotOf p f)

/-- The means of a step. -/
def meanOf (p : FVec F S512x256 .f32) (f : FVec F S1024x256 .f32) : FVec F S512x256 .f32 :=
  meanBy (total (hotOf p f) f) (countOf p f)

/-- The moved prototypes of a step, not yet normalised. -/
def movedOf (w : BitVec 32) (p : FVec F S512x256 .f32) (f : FVec F S1024x256 .f32) : FVec F S512x256 .f32 :=
  towards w p (meanOf p f)

/-- The square of the moved prototypes, entry by entry. -/
def squareOf (w : BitVec 32) (p : FVec F S512x256 .f32) (f : FVec F S1024x256 .f32) : FVec F S512x256 .f32 :=
  mulf (movedOf w p f) (movedOf w p f)

/-- The moved prototypes of a step, normalised. -/
def unitOf (w : BitVec 32) (p : FVec F S512x256 .f32) (f : FVec F S1024x256 .f32) : FVec F S512x256 .f32 :=
  unitBy (movedOf w p f) (squareOf w p f)

/-- One refinement of the prototypes. -/
def step (p : FVec F S512x256 .f32) (f : FVec F S1024x256 .f32) (w : BitVec 32) : FVec F S512x256 .f32 :=
  ifUsed (countOf p f) (unitOf w p f) p

/-- Refinements with the step sizes of a list, in order. -/
def steps (l : List (BitVec 32)) (p : FVec F S512x256 .f32) (f : FVec F S1024x256 .f32) : FVec F S512x256 .f32 :=
  l.foldl (fun p w => step p f w) p

/-! ## The body's values, from prototypes `p` and rows `f` -/

variable (p : FVec F S512x256 .f32) (f : FVec F S1024x256 .f32)

theorem pay8 (x : Vec F S1024x256 .f32) : k1_pay8 p (k1_pay1 x) ones cols (k1_pay5 p x) (k1_pay6 p x) (k1_pay7 p x)
    = step (step p (k1_pay1 x) 0x3DCCCCCD#32) (k1_pay1 x) 0x3D888889#32 := rfl
theorem pay9 : k1_pay9 f ones cols p (constant S1024x512 .f32 0x00000000#32) = step p f 0x3D4CCCCD#32 := rfl
theorem pay10 : k1_pay10 f ones cols p (constant S1024x512 .f32 0x00000000#32) = selOf (step p f 0x3D4CCCCD#32) f := rfl
theorem pay11 : k1_pay11 f ones cols p (selOf p f) = step p f 0x3D23D70A#32 := rfl
theorem pay12 : k1_pay12 f ones cols p (selOf p f) = hotOf (step p f 0x3D23D70A#32) f := rfl
theorem pay13 : k1_pay13 f ones cols p (selOf p f)
    = total (hotOf (step p f 0x3D23D70A#32) f) f := rfl
theorem pay14 : k1_pay14 ones p (hotOf p f) (total (hotOf p f) f) = step p f 0x3D088889#32 := rfl
theorem pay16 : k1_pay16 f ones cols p (hotOf p f) (total (hotOf p f) f) = countOf (step p f 0x3D088889#32) f := rfl
theorem pay17 : k1_pay17 f ones cols p (hotOf p f) (total (hotOf p f) f) = meanOf (step p f 0x3D088889#32) f := rfl
theorem pay18 : k1_pay18 p (countOf p f) (meanOf p f) one (Scalar.ofBits .f32 0x3CEA0EA1#32) = step p f 0x3CEA0EA1#32 := rfl
theorem pay20 : k1_pay20 f ones cols p (countOf p f) (meanOf p f) one (Scalar.ofBits .f32 0x3CEA0EA1#32)
    = countOf (step p f 0x3CEA0EA1#32) f := rfl
theorem pay21 : k1_pay21 f ones cols p (countOf p f) (meanOf p f) one (Scalar.ofBits .f32 0x3CEA0EA1#32)
    = movedOf 0x3CCCCCCD#32 (step p f 0x3CEA0EA1#32) f := rfl
theorem pay22 : k1_pay22 f ones cols p (countOf p f) (meanOf p f) one (Scalar.ofBits .f32 0x3CEA0EA1#32)
    = squareOf 0x3CCCCCCD#32 (step p f 0x3CEA0EA1#32) f := rfl
theorem pay23 : k1_pay23 p (countOf p f) (movedOf 0x3CCCCCCD#32 p f) (squareOf 0x3CCCCCCD#32 p f) = step p f 0x3CCCCCCD#32 := rfl
theorem pay25 : k1_pay25 f ones cols p (countOf p f) (movedOf 0x3CCCCCCD#32 p f) (squareOf 0x3CCCCCCD#32 p f)
    = countOf (step p f 0x3CCCCCCD#32) f := rfl
theorem pay26 : k1_pay26 f ones cols p (countOf p f) (movedOf 0x3CCCCCCD#32 p f) (squareOf 0x3CCCCCCD#32 p f)
    = unitOf 0x3CB60B61#32 (step p f 0x3CCCCCCD#32) f := rfl
theorem pay27 : k1_pay27 f ones cols p (countOf p f) (unitOf 0x3CB60B61#32 p f) (Scalar.ofBits .f32 0x00000000#32)
    = step (step p f 0x3CB60B61#32) f 0x3CA3D70A#32 := rfl
theorem pay28 : k1_pay28 f ones cols p (countOf p f) (unitOf 0x3CB60B61#32 p f) (Scalar.ofBits .f32 0x00000000#32)
    = sim (step (step p f 0x3CB60B61#32) f 0x3CA3D70A#32) f := rfl
theorem pay29 : k1_pay29 f ones cols p (countOf p f) (unitOf 0x3CB60B61#32 p f) (Scalar.ofBits .f32 0x00000000#32)
    = big (sim (step (step p f 0x3CB60B61#32) f 0x3CA3D70A#32) f) := rfl
theorem pay30 : k1_pay30 f ones cols p (sim p f) (big (sim p f)) = step p f 0x3C94F209#32 := rfl
theorem pay32 : k1_pay32 p f = selOf p f := rfl
theorem pay33 : k1_pay33 p f ones cols (selOf p f) = step p f 0x3DCCCCCD#32 := rfl
theorem pay34 : k1_pay34 p f ones cols (selOf p f) = hotOf (step p f 0x3DCCCCCD#32) f := rfl
theorem pay35 : k1_pay35 p f ones cols (selOf p f)
    = total (hotOf (step p f 0x3DCCCCCD#32) f) f := rfl
theorem pay36 : k1_pay36 ones p (hotOf p f) (total (hotOf p f) f) = step p f 0x3D888889#32 := rfl
theorem pay38 : k1_pay38 f ones cols p (hotOf p f) (total (hotOf p f) f) = countOf (step p f 0x3D888889#32) f := rfl
theorem pay39 : k1_pay39 f ones cols p (hotOf p f) (total (hotOf p f) f) = meanOf (step p f 0x3D888889#32) f := rfl
theorem pay40 : k1_pay40 p (countOf p f) (meanOf p f) one (Scalar.ofBits .f32 0x3D4CCCCD#32) = step p f 0x3D4CCCCD#32 := rfl
theorem pay42 : k1_pay42 f ones cols p (countOf p f) (meanOf p f) one (Scalar.ofBits .f32 0x3D4CCCCD#32)
    = countOf (step p f 0x3D4CCCCD#32) f := rfl
theorem pay43 : k1_pay43 f ones cols p (countOf p f) (meanOf p f) one (Scalar.ofBits .f32 0x3D4CCCCD#32)
    = movedOf 0x3D23D70A#32 (step p f 0x3D4CCCCD#32) f := rfl
theorem pay44 : k1_pay44 f ones cols p (countOf p f) (meanOf p f) one (Scalar.ofBits .f32 0x3D4CCCCD#32)
    = squareOf 0x3D23D70A#32 (step p f 0x3D4CCCCD#32) f := rfl
theorem pay45 : k1_pay45 p (countOf p f) (movedOf 0x3D23D70A#32 p f) (squareOf 0x3D23D70A#32 p f) = step p f 0x3D23D70A#32 := rfl
theorem pay47 : k1_pay47 f ones cols p (countOf p f) (movedOf 0x3D23D70A#32 p f) (squareOf 0x3D23D70A#32 p f)
    = countOf (step p f 0x3D23D70A#32) f := rfl
theorem pay48 : k1_pay48 f ones cols p (countOf p f) (movedOf 0x3D23D70A#32 p f) (squareOf 0x3D23D70A#32 p f)
    = unitOf 0x3D088889#32 (step p f 0x3D23D70A#32) f := rfl
theorem pay49 : k1_pay49 f ones cols p (countOf p f) (unitOf 0x3D088889#32 p f) (Scalar.ofBits .f32 0x00000000#32)
    = step (step p f 0x3D088889#32) f 0x3CEA0EA1#32 := rfl
theorem pay50 : k1_pay50 f ones cols p (countOf p f) (unitOf 0x3D088889#32 p f) (Scalar.ofBits .f32 0x00000000#32)
    = sim (step (step p f 0x3D088889#32) f 0x3CEA0EA1#32) f := rfl
theorem pay51 : k1_pay51 f ones cols p (countOf p f) (unitOf 0x3D088889#32 p f) (Scalar.ofBits .f32 0x00000000#32)
    = big (sim (step (step p f 0x3D088889#32) f 0x3CEA0EA1#32) f) := rfl
theorem pay52 : k1_pay52 f ones cols p (sim p f) (big (sim p f)) = step p f 0x3CCCCCCD#32 := rfl
theorem pay53 : k1_pay53 f ones cols p (sim p f) (big (sim p f)) = least (selOf (step p f 0x3CCCCCCD#32) f) := rfl
theorem pay54 : k1_pay54 f ones cols p (least (selOf p f)) = step p f 0x3CB60B61#32 := rfl
theorem pay56 : k1_pay56 f ones cols p (least (selOf p f)) = total (hotOf (step p f 0x3CB60B61#32) f) f := rfl
theorem pay57 : k1_pay57 f ones cols p (least (selOf p f)) = countOf (step p f 0x3CB60B61#32) f := rfl
theorem pay58 : k1_pay58 p (total (hotOf p f) f) (countOf p f) one = step p f 0x3CA3D70A#32 := rfl
theorem pay60 : k1_pay60 f ones cols p (total (hotOf p f) f) (countOf p f) one = countOf (step p f 0x3CA3D70A#32) f := rfl
theorem pay61 : k1_pay61 f ones cols p (total (hotOf p f) f) (countOf p f) one = meanOf (step p f 0x3CA3D70A#32) f := rfl
theorem pay62 : k1_pay62 p (total (hotOf p f) f) (countOf p f) one
    = mulf (broadcast S512x256 (Scalar.subf one (Scalar.ofBits .f32 0x3C94F209#32))) (step p f 0x3CA3D70A#32) := rfl
theorem pay63 : k1_pay63 p (countOf p f) (meanOf p f)
    (mulf (broadcast S512x256 (Scalar.subf one (Scalar.ofBits .f32 0x3C94F209#32))) p) = step p f 0x3C94F209#32 := rfl

/-! ## The chains -/

/-- The ten step sizes, as float words. -/
def words : List (BitVec 32) := [0x3DCCCCCD#32, 0x3D888889#32, 0x3D4CCCCD#32, 0x3D23D70A#32, 0x3D088889#32, 0x3CEA0EA1#32,
  0x3CCCCCCD#32, 0x3CB60B61#32, 0x3CA3D70A#32, 0x3C94F209#32]

/-- The prototypes after the first `k` steps. -/
def first (k : ℕ) (p : FVec F S512x256 .f32) (f : FVec F S1024x256 .f32) : FVec F S512x256 .f32 := steps (words.take k) p f

variable (x0 x1 : Vec F S512x256 .f32) (x2 x3 : Vec F S1024x256 .f32)

/-- The refined foreground prototypes are ten steps from the given ones with the first rows. -/
theorem refined_fg : k1_pay93 x0 x1 x2 x3 = steps words (View.ld x0 r1_0) (k1_pay1 (View.ld x2 r1_1)) := by
  have h0 : k1_pay74 x0 x1 x2 x3 = ones := rfl
  have h1 : k1_pay71 x0 x1 x2 x3 = cols := rfl
  have h2 : k1_pay75 x0 x1 x2 x3 = constant S1024x512 .f32 0x00000000#32 := rfl
  obtain ⟨f, h3⟩ : ∃ f, f = k1_pay1 (View.ld x2 r1_1) := ⟨_, rfl⟩
  obtain ⟨p, hp⟩ : ∃ p, p = View.ld x0 r1_0 := ⟨_, rfl⟩
  have h4 : k1_pay72 x0 x1 x2 x3 = f := h3.symm
  rw [← h3, ← hp]
  have hone : (Scalar.ofBits .f32 0x3F800000#32 : F .f32) = one := rfl
  have e76 : k1_pay76 x0 x1 x2 x3 = first 2 p f := by
    unfold k1_pay76; rw [h0, h1, h4, h3, pay8, ← h3, ← hp]; rfl
  have e77 : k1_pay77 x0 x1 x2 x3 = first 3 p f := by
    unfold k1_pay77; rw [h0, h1, h2, h4, e76, pay9]; rfl
  have e78 : k1_pay78 x0 x1 x2 x3 = selOf (first 3 p f) f := by
    unfold k1_pay78; rw [h0, h1, h2, h4, e76, pay10]; rfl
  have e79 : k1_pay79 x0 x1 x2 x3 = first 4 p f := by
    unfold k1_pay79; rw [h0, h1, h4, e77, e78, pay11]; rfl
  have e80 : k1_pay80 x0 x1 x2 x3 = hotOf (first 4 p f) f := by
    unfold k1_pay80; rw [h0, h1, h4, e77, e78, pay12]; rfl
  have e81 : k1_pay81 x0 x1 x2 x3 = total (hotOf (first 4 p f) f) f := by
    unfold k1_pay81; rw [h0, h1, h4, e77, e78, pay13]; rfl
  have e82 : k1_pay82 x0 x1 x2 x3 = first 5 p f := by
    unfold k1_pay82; rw [h0, e79, e80, e81, pay14]; rfl
  have e83 : k1_pay83 x0 x1 x2 x3 = countOf (first 5 p f) f := by
    unfold k1_pay83; rw [h0, h1, h4, e79, e80, e81, pay16]; rfl
  have e84 : k1_pay84 x0 x1 x2 x3 = meanOf (first 5 p f) f := by
    unfold k1_pay84; rw [h0, h1, h4, e79, e80, e81, pay17]; rfl
  have e85 : k1_pay85 x0 x1 x2 x3 = first 6 p f := by
    unfold k1_pay85; rw [e82, e83, e84, hone, pay18]; rfl
  have e86 : k1_pay86 x0 x1 x2 x3 = countOf (first 6 p f) f := by
    unfold k1_pay86; rw [h0, h1, h4, e82, e83, e84, hone, pay20]; rfl
  have e87 : k1_pay87 x0 x1 x2 x3 = movedOf 0x3CCCCCCD#32 (first 6 p f) f := by
    unfold k1_pay87; rw [h0, h1, h4, e82, e83, e84, hone, pay21]; rfl
  have e88 : k1_pay88 x0 x1 x2 x3 = squareOf 0x3CCCCCCD#32 (first 6 p f) f := by
    unfold k1_pay88; rw [h0, h1, h4, e82, e83, e84, hone, pay22]; rfl
  have e89 : k1_pay89 x0 x1 x2 x3 = first 7 p f := by
    unfold k1_pay89; rw [e85, e86, e87, e88, pay23]; rfl
  have e90 : k1_pay90 x0 x1 x2 x3 = countOf (first 7 p f) f := by
    unfold k1_pay90; rw [h0, h1, h4, e85, e86, e87, e88, pay25]; rfl
  have e91 : k1_pay91 x0 x1 x2 x3 = unitOf 0x3CB60B61#32 (first 7 p f) f := by
    unfold k1_pay91; rw [h0, h1, h4, e85, e86, e87, e88, pay26]; rfl
  unfold k1_pay93
  rw [h0, h1, h4, e89, e90, e91, pay27, pay28, pay29, pay30]
  rfl

/-- The refined background prototypes are ten steps from the given ones with the second rows. -/
theorem refined_bg : k1_pay117 x0 x1 x2 x3 = steps words (View.ld x1 r1_0) (k1_pay2 (View.ld x3 r1_1)) := by
  have h0 : k1_pay94 x0 x1 x2 x3 = ones := rfl
  have h1 : k1_pay92 x0 x1 x2 x3 = cols := rfl
  obtain ⟨f, h3⟩ : ∃ f, f = k1_pay2 (View.ld x3 r1_1) := ⟨_, rfl⟩
  obtain ⟨p, hp⟩ : ∃ p, p = View.ld x1 r1_0 := ⟨_, rfl⟩
  have h4 : k1_pay73 x0 x1 x2 x3 = f := h3.symm
  rw [← h3, ← hp]
  have hone : (Scalar.ofBits .f32 0x3F800000#32 : F .f32) = one := rfl
  have e95 : k1_pay95 x0 x1 x2 x3 = selOf (first 0 p f) f := by
    unfold k1_pay95; rw [h4, ← hp, pay32]; rfl
  have e96 : k1_pay96 x0 x1 x2 x3 = first 1 p f := by
    unfold k1_pay96; rw [h0, h1, h4, ← hp, e95]; rfl
  have e97 : k1_pay97 x0 x1 x2 x3 = hotOf (first 1 p f) f := by
    unfold k1_pay97; rw [h0, h1, h4, ← hp, e95]; rfl
  have e98 : k1_pay98 x0 x1 x2 x3 = total (hotOf (first 1 p f) f) f := by
    unfold k1_pay98; rw [h0, h1, h4, ← hp, e95]; rfl
  have e99 : k1_pay99 x0 x1 x2 x3 = first 2 p f := by
    unfold k1_pay99; rw [h0, e96, e97, e98, pay36]; rfl
  have e100 : k1_pay100 x0 x1 x2 x3 = countOf (first 2 p f) f := by
    unfold k1_pay100; rw [h0, h1, h4, e96, e97, e98, pay38]; rfl
  have e101 : k1_pay101 x0 x1 x2 x3 = meanOf (first 2 p f) f := by
    unfold k1_pay101; rw [h0, h1, h4, e96, e97, e98, pay39]; rfl
  have e102 : k1_pay102 x0 x1 x2 x3 = first 3 p f := by
    unfold k1_pay102; rw [e99, e100, e101, hone, pay40]; rfl
  have e103 : k1_pay103 x0 x1 x2 x3 = countOf (first 3 p f) f := by
    unfold k1_pay103; rw [h0, h1, h4, e99, e100, e101, hone, pay42]; rfl
  have e104 : k1_pay104 x0 x1 x2 x3 = movedOf 0x3D23D70A#32 (first 3 p f) f := by
    unfold k1_pay104; rw [h0, h1, h4, e99, e100, e101, hone, pay43]; rfl
  have e105 : k1_pay105 x0 x1 x2 x3 = squareOf 0x3D23D70A#32 (first 3 p f) f := by
    unfold k1_pay105; rw [h0, h1, h4, e99, e100, e101, hone, pay44]; rfl
  have e106 : k1_pay106 x0 x1 x2 x3 = first 4 p f := by
    unfold k1_pay106; rw [e102, e103, e104, e105, pay45]; rfl
  have e107 : k1_pay107 x0 x1 x2 x3 = countOf (first 4 p f) f := by
    unfold k1_pay107; rw [h0, h1, h4, e102, e103, e104, e105, pay47]; rfl
  have e108 : k1_pay108 x0 x1 x2 x3 = unitOf 0x3D088889#32 (first 4 p f) f := by
    unfold k1_pay108; rw [h0, h1, h4, e102, e103, e104, e105, pay48]; rfl
  have e109 : k1_pay109 x0 x1 x2 x3 = first 6 p f := by
    unfold k1_pay109; rw [h0, h1, h4, e106, e107, e108, pay49]; rfl
  have e110 : k1_pay110 x0 x1 x2 x3 = sim (first 6 p f) f := by
    unfold k1_pay110; rw [h0, h1, h4, e106, e107, e108, pay50]; rfl
  have e111 : k1_pay111 x0 x1 x2 x3 = big (sim (first 6 p f) f) := by
    unfold k1_pay111; rw [h0, h1, h4, e106, e107, e108, pay51]; rfl
  have e112 : k1_pay112 x0 x1 x2 x3 = first 7 p f := by
    unfold k1_pay112; rw [h0, h1, h4, e109, e110, e111, pay52]; rfl
  have e113 : k1_pay113 x0 x1 x2 x3 = least (selOf (first 7 p f) f) := by
    unfold k1_pay113; rw [h0, h1, h4, e109, e110, e111, pay53]; rfl
  have e114 : k1_pay114 x0 x1 x2 x3 = first 8 p f := by
    unfold k1_pay114; rw [h0, h1, h4, e112, e113, pay54]; rfl
  have e115 : k1_pay115 x0 x1 x2 x3 = total (hotOf (first 8 p f) f) f := by
    unfold k1_pay115; rw [h0, h1, h4, e112, e113, pay56]; rfl
  have e116 : k1_pay116 x0 x1 x2 x3 = countOf (first 8 p f) f := by
    unfold k1_pay116; rw [h0, h1, h4, e112, e113, pay57]; rfl
  unfold k1_pay117
  rw [h0, h1, h4, e114, e115, e116, hone, pay58, pay60, pay61, pay62, pay63]
  rfl

end Cert.KernelSteps

end
-- ==== Proof.FirstMax.lean ====
/-
  The first position of a row's largest entry: what the reference's fold over pairs and the kernel's least column
  number both are.
-/
module

public import proofs.«01_k».proof.Proof.FeatSpec
public import proofs.«01_k».proof.Proof.KernelSteps

@[expose] public section

set_option maxRecDepth 16384

noncomputable section

namespace Cert.Spec

open Idealize.ShloMosaic

/-- The word `b` is the first position of the largest of 512 numbers. -/
def IsFirst (x : Fin 512 → EReal) (b : BitVec 32) : Prop :=
  ∃ a : Fin 512, b.toInt = (a.val : ℤ) ∧ (∀ k, x k ≤ x a) ∧ ∀ k, x a ≤ x k → a ≤ k

/-- There is only one first position. -/
theorem IsFirst.unique {x : Fin 512 → EReal} {b c : BitVec 32} (hb : IsFirst x b) (hc : IsFirst x c) : b = c := by
  obtain ⟨a, ha, ha1, ha2⟩ := hb
  obtain ⟨d, hd, hd1, hd2⟩ := hc
  have : a = d := le_antisymm (ha2 _ (hd1 _)) (hd2 _ (ha1 _))
  subst this
  exact BitVec.eq_of_toInt_eq (ha.trans hd.symm)

/-- The order of pairs in the reference's fold: a larger value, or the same value no later. -/
def Better (a b : EReal × BitVec 32) : Prop := b.1 < a.1 ∨ (b.1 = a.1 ∧ a.2.toInt ≤ b.2.toInt)

theorem Better.refl (a : EReal × BitVec 32) : Better a a := .inr ⟨rfl, le_rfl⟩

theorem Better.trans {a b c : EReal × BitVec 32} (h : Better a b) (h' : Better b c) : Better a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- The reference's fold takes one of its two pairs, and that one is no worse than either. -/
theorem pick_two (a b : EReal × BitVec 32) :
    (ReferenceIdeal.reducer_argmax_f32_i32 (F := Ideal) a b = a ∨ ReferenceIdeal.reducer_argmax_f32_i32 (F := Ideal) a b = b)
    ∧ Better (ReferenceIdeal.reducer_argmax_f32_i32 (F := Ideal) a b) a
    ∧ Better (ReferenceIdeal.reducer_argmax_f32_i32 (F := Ideal) a b) b := by
  obtain ⟨a1, a2⟩ := a
  obtain ⟨b1, b2⟩ := b
  have key : ReferenceIdeal.reducer_argmax_f32_i32 (F := Ideal) (a1, a2) (b1, b2)
      = if b1 < a1 ∨ (b1 = a1 ∧ a2.toInt < b2.toInt) then (a1, a2) else (b1, b2) := by
    unfold ReferenceIdeal.reducer_argmax_f32_i32
    simp only [Ideal.cmpf_def, Ideal.cmp, IntOp.ori, IntOp.andi, IntOp.cmpi, Scalar.select, BitVec.slt]
    rcases lt_trichotomy a1 b1 with h | h | h
    · simp [h, h.not_gt, h.ne, h.ne']
    · subst h; by_cases k : a2.toInt < b2.toInt <;> simp [k]
    · simp [h, h.not_gt, h.ne, h.ne']
  rw [key]
  split_ifs with h
  · refine ⟨.inl rfl, .refl _, ?_⟩
    rcases h with h | ⟨h, k⟩
    · exact .inl h
    · exact .inr ⟨h, k.le⟩
  · refine ⟨.inr rfl, ?_, .refl _⟩
    rw [not_or, not_lt, not_and, not_lt] at h
    rcases h.1.lt_or_eq with k | k
    · exact .inl k
    · exact .inr ⟨k, h.2 k.symm⟩

/-- So over a list it takes one of the pairs or the initial one, and that one is no worse than any. -/
theorem pick_list (l : List (EReal × BitVec 32)) (p : EReal × BitVec 32) :
    l.foldl (ReferenceIdeal.reducer_argmax_f32_i32 (F := Ideal)) p ∈ p :: l
    ∧ ∀ q ∈ p :: l, Better (l.foldl (ReferenceIdeal.reducer_argmax_f32_i32 (F := Ideal)) p) q := by
  induction l generalizing p with
  | nil => exact ⟨List.mem_singleton.2 rfl, fun q hq => by rw [List.mem_singleton.1 hq]; exact .refl _⟩
  | cons r l ih =>
    obtain ⟨h1, h2⟩ := ih (ReferenceIdeal.reducer_argmax_f32_i32 (F := Ideal) p r)
    obtain ⟨k1, k2, k3⟩ := pick_two p r
    rw [List.foldl_cons]
    refine ⟨?_, fun q hq => ?_⟩
    · rcases List.mem_cons.1 h1 with h | h
      · rw [h]
        rcases k1 with k | k <;> rw [k] <;> simp
      · simp [h]
    · have h0 := h2 _ (List.mem_cons_self ..)
      rcases List.mem_cons.1 hq with rfl | hq
      · exact h0.trans k2
      rcases List.mem_cons.1 hq with rfl | hq
      · exact h0.trans k3
      · exact h2 q (List.mem_cons_of_mem _ hq)

/-- A column number's word, read signed, is the number. -/
theorem toInt_col (k : Fin 512) : (BitVec.ofNat 32 k.val).toInt = (k.val : ℤ) := by
  have h : (BitVec.ofNat 32 k.val).toNat = k.val := by rw [BitVec.toNat_ofNat]; omega
  rw [BitVec.toInt_eq_toNat_of_lt (by rw [h]; omega), h]

/-- The pair that the reference's fold takes, where the pairs are the numbers with their positions. -/
theorem first_of_pick (x : Fin 512 → EReal) (l : List (EReal × BitVec 32)) (hl : ∀ q, q ∈ l ↔ ∃ k : Fin 512, q = (x k, BitVec.ofNat 32 k.val)) :
    IsFirst x (l.foldl (ReferenceIdeal.reducer_argmax_f32_i32 (F := Ideal)) (⊥, 0#32)).2 := by
  obtain ⟨h1, h2⟩ := pick_list l (⊥, 0#32)
  generalize l.foldl (ReferenceIdeal.reducer_argmax_f32_i32 (F := Ideal)) (⊥, 0#32) = r at h1 h2
  have ht := toInt_col
  have hz : (0#32 : BitVec 32).toInt = 0 := by decide
  have hm : ∀ k, Better r (x k, BitVec.ofNat 32 k.val) := fun k => h2 _ (List.mem_cons_of_mem _ ((hl _).2 ⟨k, rfl⟩))
  have key : ∃ a : Fin 512, r.1 = x a ∧ r.2.toInt = (a.val : ℤ) := by
    rcases List.mem_cons.1 h1 with h | h
    · subst h
      refine ⟨0, ?_, by simp⟩
      rcases hm 0 with h | ⟨h, -⟩
      · exact absurd h not_lt_bot
      · exact h.symm
    · obtain ⟨k, rfl⟩ := (hl _).1 h
      exact ⟨k, rfl, ht k⟩
  obtain ⟨a, ha, hb⟩ := key
  refine ⟨a, hb, fun k => ?_, fun k hk => ?_⟩
  · rcases hm k with h | ⟨h, -⟩
    · exact ha ▸ h.le
    · exact ha ▸ h.le
  · rcases hm k with h | ⟨h, h'⟩
    · exact absurd (ha ▸ h) (not_lt.2 hk)
    · rw [hb] at h'
      simp only [ht] at h'
      exact_mod_cast h'

/-- The signed minimum over a finite set takes the initial word or one of the set's, and is no greater than any. -/
theorem least_of {ι : Type} [DecidableEq ι] (s : Finset ι) (f : ι → BitVec 32) (b : BitVec 32) :
    (s.fold IKind.minsi.op b f = b ∨ ∃ i ∈ s, s.fold IKind.minsi.op b f = f i)
    ∧ ∀ i ∈ s, (s.fold IKind.minsi.op b f).toInt ≤ (f i).toInt := by
  induction s using Finset.induction_on with
  | empty => simp
  | insert a s ha ih =>
    rw [Finset.fold_insert ha]
    obtain ⟨h1, h2⟩ := ih
    generalize s.fold IKind.minsi.op b f = r at h1 h2
    have hop : IKind.minsi.op (f a) r = if (f a).toInt < r.toInt then f a else r := by
      simp [IKind.op, IntOp.minsi, BitVec.slt]
    rw [hop]
    split_ifs with h
    · refine ⟨.inr ⟨a, by simp, rfl⟩, fun i hi => ?_⟩
      rcases Finset.mem_insert.1 hi with rfl | hi
      · exact le_rfl
      · exact h.le.trans (h2 i hi)
    · refine ⟨?_, fun i hi => ?_⟩
      · rcases h1 with h1 | ⟨i, hi, h1⟩
        · exact .inl h1
        · exact .inr ⟨i, by simp [hi], h1⟩
      · rcases Finset.mem_insert.1 hi with rfl | hi
        · exact not_lt.1 h
        · exact h2 i hi

/-- No number is above the largest. -/
theorem le_top' {n : ℕ} (x : Fin n → EReal) (k : Fin n) : x k ≤ top x :=
  Finset.le_fold_max (b := (⊥ : EReal)) (f := x) (s := Finset.univ) (x k) |>.2 (.inr ⟨k, Finset.mem_univ _, le_rfl⟩)

/-- The largest of 512 numbers is one of them. -/
theorem top_mem (x : Fin 512 → EReal) : ∃ k, x k = top x := by
  by_contra hne
  have hlt : ∀ k, x k < top x := fun k => lt_of_le_of_ne (le_top' x k) fun h => hne ⟨k, h⟩
  have h0 : (⊥ : EReal) < top x := lt_of_le_of_lt bot_le (hlt 0)
  exact absurd ((Finset.fold_max_lt (top x)).2 ⟨h0, fun k _ => hlt k⟩) (lt_irrefl _)

end Cert.Spec

end
-- ==== Proof.StepSpec.lean ====
/-
  One refinement step: the second kernel body's step is the reference's.
-/
module

public import proofs.«01_k».proof.Proof.FirstMax
public import Idealize.ShloMosaic.Lib.Routing.OpsPair

@[expose] public section

set_option maxRecDepth 16384

noncomputable section

namespace Cert.Spec

open Idealize.ShloMosaic Cert.KernelIdeal Cert.KernelIdeal.Gen

variable [Cert.ReferenceIdeal.Facts₀] [Cert.ReferenceIdeal.Facts]

/-! ## Similarities and the assignment -/

/-- The body's product is the reference's similarities. -/
theorem sim_eq (p : FVec Ideal S512x256 .f32) (f : FVec Ideal S1024x256 .f32) :
    KernelSteps.sim (F := Ideal) p f = RefLine.sims (F := Ideal) f p := by
  funext j
  obtain ⟨r, k, rfl⟩ : ∃ (r : Fin 1024) (k : Fin 512), j = ix2 r k := ⟨j 0, j 1, eq_ix2 j⟩
  have e1 : KernelSteps.sim (F := Ideal) p f (ix2 r k) = (∑ l : Fin 256, (f (ix2 r l) : EReal) * p (ix2 k l) : EReal) := by
    unfold KernelSteps.sim
    pointwise
  have e2 : RefLine.sims (F := Ideal) f p (ix2 r k) = (∑ l : Fin 256, (f (ix2 r l) : EReal) * p (ix2 k l) : EReal) := by
    unfold RefLine.sims
    pointwise
  exact e1.trans e2.symm

theorem big_apply (s : FVec Ideal S1024x512 .f32) (r : Fin 1024) :
    KernelSteps.big (F := Ideal) s (ix1 r) = top fun k : Fin 512 => (s (ix2 r k) : EReal) := by
  unfold KernelSteps.big
  pointwise
  rw [word_bot]
  rfl

theorem candidates_apply (s : FVec Ideal S1024x512 .f32) (x : FVec Ideal S1024 .f32) (r : Fin 1024) (k : Fin 512) :
    KernelSteps.candidates (F := Ideal) s x (ix2 r k)
      = if (x (ix1 r) : EReal) ≤ s (ix2 r k) then BitVec.ofNat 32 k.val else 512#32 := by
  unfold KernelSteps.candidates KernelSteps.cols
  pointwise

/-- The column that the body chooses in a row is the first position of the row's largest entry. -/
theorem least_first (s : FVec Ideal S1024x512 .f32) (r : Fin 1024) :
    IsFirst (fun k : Fin 512 => (s (ix2 r k) : EReal))
      (KernelSteps.least (KernelSteps.candidates (F := Ideal) s (KernelSteps.big s)) (ix2 r 0)) := by
  have hd : ∀ k : Fin 512, reduces_S1024x512_S1024.drop (ix2 r k) = ix1 r := fun k => by
    funext b
    match b with
    | ⟨0, _⟩ => exact Fin.ext (Shape.Reduces.drop_apply_val_of_eq reduces_S1024x512_S1024 (ix2 r k) 0 0)
  have hd' : ∀ i, reduces_S1024x512_S1024.drop i = ix1 r → ∃ k : Fin 512, i = ix2 r k := fun i h => by
    refine ⟨i 1, (eq_ix2 i).trans ?_⟩
    have h0 := congrArg Fin.val (congrFun h 0)
    rw [Shape.Reduces.drop_apply_val_of_eq _ _ 0 0] at h0
    have h1 : i 0 = r := Fin.ext h0
    rw [h1]
  have e : KernelSteps.least (KernelSteps.candidates (F := Ideal) s (KernelSteps.big s)) (ix2 r 0)
      = (Finset.univ.filter fun i => reduces_S1024x512_S1024.drop i = ix1 r).fold IKind.minsi.op 2147483647#32
          (KernelSteps.candidates (F := Ideal) s (KernelSteps.big s)) := by
    rw [← multiReductionI_eq_fold .minsi (KernelSteps.candidates (F := Ideal) s (KernelSteps.big s)) 2147483647#32
      reduces_S1024x512_S1024 rfl (ix1 r)]
    unfold KernelSteps.least
    refine shapeCast_apply _ shapeCasts_S1024_S1024x1 (ix2 r 0) (ix1 r) ?_
    rw [Shape.rowMajor_val_one, Shape.rowMajor_val_two]
    simp
  rw [e]
  obtain ⟨h1, h2⟩ := least_of (Finset.univ.filter fun i => reduces_S1024x512_S1024.drop i = ix1 r)
    (KernelSteps.candidates (F := Ideal) s (KernelSteps.big s)) 2147483647#32
  generalize (Finset.univ.filter fun i => reduces_S1024x512_S1024.drop i = ix1 r).fold IKind.minsi.op 2147483647#32
    (KernelSteps.candidates (F := Ideal) s (KernelSteps.big s)) = b at h1 h2
  have hc : ∀ k : Fin 512, b.toInt ≤ (if (top fun k : Fin 512 => (s (ix2 r k) : EReal)) ≤ s (ix2 r k)
      then BitVec.ofNat 32 k.val else 512#32).toInt := fun k => by
    rw [← big_apply, ← candidates_apply]
    exact h2 _ (Finset.mem_filter.2 ⟨Finset.mem_univ _, hd k⟩)
  obtain ⟨k0, hk0⟩ := top_mem fun k : Fin 512 => (s (ix2 r k) : EReal)
  have hb : b.toInt ≤ (k0.val : ℤ) := by
    have := hc k0
    rwa [if_pos hk0.ge, toInt_col] at this
  have hk0' := k0.isLt
  have key : ∃ a : Fin 512, b.toInt = (a.val : ℤ) ∧ (top fun k : Fin 512 => (s (ix2 r k) : EReal)) ≤ s (ix2 r a) := by
    rcases h1 with h1 | ⟨i, hi, h1⟩
    · rw [h1] at hb
      have : (2147483647#32 : BitVec 32).toInt = 2147483647 := by decide
      omega
    · obtain ⟨a, rfl⟩ := hd' i (Finset.mem_filter.1 hi).2
      rw [candidates_apply, big_apply] at h1
      split_ifs at h1 with h
      · exact ⟨a, by rw [h1, toInt_col], h⟩
      · rw [h1] at hb
        have : (512#32 : BitVec 32).toInt = 512 := by decide
        omega
  obtain ⟨a, ha, hm⟩ := key
  refine ⟨a, ha, fun k => (le_top' (fun k : Fin 512 => (s (ix2 r k) : EReal)) k).trans hm, fun k hk => ?_⟩
  have := hc k
  rw [if_pos (hm.trans hk), toInt_col, ha] at this
  exact_mod_cast this

/-- The column that the reference assigns to a row is the first position of the row's largest entry. -/
theorem assign_first (s : FVec Ideal S1024x512 .f32) (r : Fin 1024) :
    IsFirst (fun k : Fin 512 => (s (ix2 r k) : EReal)) (RefLine.assign (F := Ideal) s (ix2 r 0)) := by
  have e : RefLine.assign (F := Ideal) s (ix2 r 0)
      = (Host.reduce2 ReferenceIdeal.reducer_argmax_f32_i32 s (iotaInDim ReferenceIdeal.S1024x512 32 1)
        (constant (F := Ideal) ReferenceIdeal.S_ .f32 0xFF800000#32) (constantI ReferenceIdeal.S_ 32 0#32)
        ReferenceIdeal.Facts₀.reducesTo_S1024x512_S1024_d1 ReferenceIdeal.Facts₀.h_S_ (ix1 r)).2 := by
    rw [← Ideal.argReduce_eq_reduce2]
    unfold RefLine.assign
    pointwise
  rw [e, Host.reduce2_eq_foldl_fiber]
  have hw : constant (F := Ideal) ReferenceIdeal.S_ .f32 0xFF800000#32 (Shape.Idx.first ReferenceIdeal.Facts₀.h_S_) = (⊥ : EReal) := word_bot
  rw [hw]
  refine first_of_pick _ _ fun q => ?_
  unfold Host.argReduceFiber
  rw [List.mem_map]
  constructor
  · rintro ⟨n, hn, rfl⟩
    have h := of_decide_eq_true (List.mem_filter.1 hn).2
    generalize ReferenceIdeal.S1024x512.rowMajor.symm n = i at h ⊢
    have h0 := congrArg Fin.val (congrFun h 0)
    rw [Shape.ReducesTo.drop_apply_val_of_eq _ _ 0 0] at h0
    have h1 : i 0 = r := Fin.ext h0
    have h2 : i = ix2 r (i 1) := (eq_ix2 i).trans (by rw [h1]; rfl)
    exact ⟨i 1, Prod.ext (congrArg s h2) rfl⟩
  · rintro ⟨k, rfl⟩
    refine ⟨ReferenceIdeal.S1024x512.rowMajor (ix2 r k), List.mem_filter.2 ⟨List.mem_finRange _, decide_eq_true ?_⟩, ?_⟩
    · rw [Equiv.symm_apply_apply]
      funext b
      match b with
      | ⟨0, _⟩ => exact Fin.ext (Shape.ReducesTo.drop_apply_val_of_eq ReferenceIdeal.Facts₀.reducesTo_S1024x512_S1024_d1 (ix2 r k) 0 0)
    · rw [Equiv.symm_apply_apply]
      rfl

/-- The body and the reference choose the same column. -/
theorem assign_eq (s : FVec Ideal S1024x512 .f32) (r : Fin 1024) :
    KernelSteps.least (KernelSteps.candidates (F := Ideal) s (KernelSteps.big s)) (ix2 r 0)
      = RefLine.assign (F := Ideal) s (ix2 r 0) := (least_first s r).unique (assign_first s r)

end Cert.Spec

end
-- ==== Proof.StepEq.lean ====
/-
  One refinement step: counts, sums and the new prototypes of the second kernel body are the reference's.
-/
module

public import proofs.«01_k».proof.Proof.StepSpec

@[expose] public section

set_option maxRecDepth 16384

noncomputable section

namespace Cert.Spec

open Idealize.ShloMosaic Cert.KernelIdeal Cert.KernelIdeal.Gen

variable [Cert.ReferenceIdeal.Facts₀] [Cert.ReferenceIdeal.Facts]

/-- The one-hot matrix holds 1 in each row's chosen column and 0 elsewhere. -/
theorem hot_apply (a : IVec S1024x1 32) (r : Fin 1024) (k : Fin 512) :
    KernelSteps.hot (F := Ideal) a (ix2 r k) = (if (a (ix2 r 0)).toInt = (k.val : ℤ) then 1 else 0 : EReal) := by
  have e : KernelSteps.hot (F := Ideal) a (ix2 r k)
      = (if BitVec.ofNat 32 k.val = a (ix2 r 0) then 1 else 0 : EReal) := by
    unfold KernelSteps.hot KernelSteps.cols
    pointwise
    have h1 : ((1#32 : BitVec 32).toInt : ℝ) = 1 := by norm_num
    have h0 : ((0#32 : BitVec 32).toInt : ℝ) = 0 := by norm_num
    by_cases h : BitVec.ofNat 32 k.val = a (ix2 r 0)
    · rw [if_pos h, h]
      have hc : IntOp.cmpi .eq (a (ix2 r 0)) (a (ix2 r 0)) = 1#1 := by simp [IntOp.cmpi]
      rw [hc]
      exact congrArg (fun x : ℝ => (x : EReal)) h1
    · rw [if_neg h]
      have hc : IntOp.cmpi .eq (BitVec.ofNat 32 k.val) (a (ix2 r 0)) = 0#1 := by
        have : (BitVec.ofNat 32 k.val == a (ix2 r 0)) = false := beq_eq_false_iff_ne.2 h
        simp only [IntOp.cmpi, this]
        rfl
      rw [hc]
      exact congrArg (fun x : ℝ => (x : EReal)) h0
  rw [e]
  refine if_congr ⟨fun h => ?_, fun h => ?_⟩ rfl rfl
  · rw [← h, toInt_col]
  · exact BitVec.eq_of_toInt_eq ((toInt_col k).trans h.symm)

theorem count_apply (h : FVec Ideal S1024x512 .f32) (k : Fin 512) :
    KernelSteps.count (F := Ideal) h (ix2 k 0) = (∑ r : Fin 1024, (h (ix2 r k) : EReal) : EReal) := by
  unfold KernelSteps.count KernelSteps.ones KernelSteps.one
  pointwise

theorem total_apply (h : FVec Ideal S1024x512 .f32) (f : FVec Ideal S1024x256 .f32) (k : Fin 512) (l : Fin 256) :
    KernelSteps.total (F := Ideal) h f (ix2 k l) = (∑ r : Fin 1024, (h (ix2 r k) : EReal) * f (ix2 r l) : EReal) := by
  unfold KernelSteps.total
  pointwise

theorem lands_row (a : IVec S1024x1 32) (r : Fin 1024) (k : Fin 512) :
    ReferenceIdeal.scatter_S512_S1024x1_S1024_n_0_0_1.resultIdx? (ix1 r) a = some (ix1 k)
      ↔ (a (ix2 r 0)).toInt = (k.val : ℤ) := by
  rw [Routing.resultIdx?_eq_some]
  have hw : ReferenceIdeal.scatter_S512_S1024x1_S1024_n_0_0_1.window (ix1 r) 0 = 0 := rfl
  have hs : ReferenceIdeal.scatter_S512_S1024x1_S1024_n_0_0_1.start (ix1 r) a 0 = (a (ix2 r 0)).toInt := by
    have hi : ReferenceIdeal.scatter_S512_S1024x1_S1024_n_0_0_1.siIdx (ix1 r) ⟨0, Nat.zero_lt_one⟩ = ix2 r 0 := by
      funext b
      match b with
      | ⟨0, _⟩ => rfl
      | ⟨1, _⟩ => rfl
    exact congrArg (fun i => (a i).toInt) hi
  constructor
  · intro h
    have h0 := h 0
    rw [hw, hs] at h0
    simpa using h0
  · intro h b
    match b with
    | ⟨0, _⟩ =>
      show ReferenceIdeal.scatter_S512_S1024x1_S1024_n_0_0_1.start (ix1 r) a 0
        + (ReferenceIdeal.scatter_S512_S1024x1_S1024_n_0_0_1.window (ix1 r) 0 : ℤ) = _
      rw [hw, hs, h]
      simp

theorem lands_entry (a : IVec S1024x1 32) (r : Fin 1024) (l' l : Fin 256) (k : Fin 512) :
    ReferenceIdeal.scatter_S512x256_S1024x1_S1024x256_1_0_0_1.resultIdx? (ix2 r l') a = some (ix2 k l)
      ↔ (a (ix2 r 0)).toInt = (k.val : ℤ) ∧ l' = l := by
  rw [Routing.resultIdx?_eq_some]
  have hw0 : ReferenceIdeal.scatter_S512x256_S1024x1_S1024x256_1_0_0_1.window (ix2 r l') 0 = 0 := rfl
  have hw1 : ReferenceIdeal.scatter_S512x256_S1024x1_S1024x256_1_0_0_1.window (ix2 r l') 1 = l'.val := rfl
  have hs0 : ReferenceIdeal.scatter_S512x256_S1024x1_S1024x256_1_0_0_1.start (ix2 r l') a 0
      = (a (ix2 r 0)).toInt := by
    have hi : ReferenceIdeal.scatter_S512x256_S1024x1_S1024x256_1_0_0_1.siIdx (ix2 r l') ⟨0, Nat.zero_lt_one⟩ = ix2 r 0 := by
      funext b
      match b with
      | ⟨0, _⟩ => rfl
      | ⟨1, _⟩ => rfl
    exact congrArg (fun i => (a i).toInt) hi
  have hs1 : ReferenceIdeal.scatter_S512x256_S1024x1_S1024x256_1_0_0_1.start (ix2 r l') a 1 = 0 := rfl
  constructor
  · intro h
    have h0 := h 0
    have h1 := h 1
    rw [hw0, hs0] at h0
    rw [hw1, hs1] at h1
    have h1' : (0 : ℤ) + (l'.val : ℤ) = (l.val : ℤ) := h1
    refine ⟨by simpa using h0, Fin.ext (by omega)⟩
  · rintro ⟨h, rfl⟩ b
    match b with
    | ⟨0, _⟩ =>
      show ReferenceIdeal.scatter_S512x256_S1024x1_S1024x256_1_0_0_1.start (ix2 r l') a 0
        + (ReferenceIdeal.scatter_S512x256_S1024x1_S1024x256_1_0_0_1.window (ix2 r l') 0 : ℤ) = _
      rw [hw0, hs0, h]
      simp
    | ⟨1, _⟩ =>
      show ReferenceIdeal.scatter_S512x256_S1024x1_S1024x256_1_0_0_1.start (ix2 r l') a 1
        + (ReferenceIdeal.scatter_S512x256_S1024x1_S1024x256_1_0_0_1.window (ix2 r l') 1 : ℤ) = _
      rw [hw1, hs1]
      simp

theorem counts_apply (a : IVec S1024x1 32) (k : Fin 512) :
    RefLine.counts (F := Ideal) a (ix1 k)
      = (∑ r : Fin 1024, if (a (ix2 r 0)).toInt = (k.val : ℤ) then (1 : EReal) else 0 : EReal) := by
  have e : RefLine.counts (F := Ideal) a (ix1 k) = (Ideal.ofBits .f32 0x00000000#32 + ∑ j ∈ Finset.univ.filter
      (fun j => ReferenceIdeal.scatter_S512_S1024x1_S1024_n_0_0_1.resultIdx? j a = some (ix1 k)),
      Ideal.ofBits .f32 0x3F800000#32 : EReal) := rfl
  rw [e, Ideal.ofBits_zero_f32, Ideal.ofBits_one_f32, zero_add, Finset.sum_filter, sum_idx1]
  exact Finset.sum_congr rfl fun r _ => if_congr (lands_row a r k) rfl rfl

theorem sums_apply (f : FVec Ideal S1024x256 .f32) (a : IVec S1024x1 32) (k : Fin 512) (l : Fin 256) :
    RefLine.sums (F := Ideal) f a (ix2 k l)
      = (∑ r : Fin 1024, if (a (ix2 r 0)).toInt = (k.val : ℤ) then (f (ix2 r l) : EReal) else 0 : EReal) := by
  have e : RefLine.sums (F := Ideal) f a (ix2 k l) = (Ideal.ofBits .f32 0x00000000#32 + ∑ j ∈ Finset.univ.filter
      (fun j => ReferenceIdeal.scatter_S512x256_S1024x1_S1024x256_1_0_0_1.resultIdx? j a = some (ix2 k l)),
      f j : EReal) := rfl
  rw [e, Ideal.ofBits_zero_f32, zero_add, Finset.sum_filter, sum_idx2]
  refine Finset.sum_congr rfl fun r _ => ?_
  rw [Finset.sum_congr rfl fun l' _ => if_congr (lands_entry a r l' l k) rfl rfl]
  by_cases h : (a (ix2 r 0)).toInt = (k.val : ℤ)
  · simp [h]
  · simp [h]

/-! ## The step -/

/-- The counts agree. -/
theorem count_eq (p : FVec Ideal S512x256 .f32) (f : FVec Ideal S1024x256 .f32) (k : Fin 512) :
    KernelSteps.countOf (F := Ideal) p f (ix2 k 0)
      = RefLine.counts (F := Ideal) (RefLine.assign (RefLine.sims f p)) (ix1 k) := by
  unfold KernelSteps.countOf KernelSteps.hotOf KernelSteps.selOf
  rw [count_apply, counts_apply, sim_eq]
  refine Finset.sum_congr rfl fun r _ => ?_
  rw [hot_apply, assign_eq]

/-- The sums agree. -/
theorem total_eq (p : FVec Ideal S512x256 .f32) (f : FVec Ideal S1024x256 .f32) :
    KernelSteps.total (F := Ideal) (KernelSteps.hotOf p f) f
      = RefLine.sums (F := Ideal) f (RefLine.assign (RefLine.sims f p)) := by
  funext j
  obtain ⟨k, l, rfl⟩ : ∃ (k : Fin 512) (l : Fin 256), j = ix2 k l := ⟨j 0, j 1, eq_ix2 j⟩
  unfold KernelSteps.hotOf KernelSteps.selOf
  rw [total_apply, sums_apply, sim_eq]
  refine Finset.sum_congr rfl fun r _ => ?_
  rw [hot_apply, assign_eq]
  split_ifs
  · exact one_mul _
  · exact zero_mul _

/-- Equal sums and counts have equal means. -/
theorem mean_eq (s : FVec Ideal S512x256 .f32) (n : FVec Ideal S512x1 .f32) (n' : FVec Ideal S512 .f32)
    (h : ∀ k : Fin 512, n (ix2 k 0) = n' (ix1 k)) : KernelSteps.meanBy (F := Ideal) s n = RefLine.mean (F := Ideal) s n' := by
  funext j
  obtain ⟨k, l, rfl⟩ : ∃ (k : Fin 512) (l : Fin 256), j = ix2 k l := ⟨j 0, j 1, eq_ix2 j⟩
  have e1 : KernelSteps.meanBy (F := Ideal) s n (ix2 k l)
      = (Ideal.div (s (ix2 k l)) (max 1 (n (ix2 k 0))) : EReal) := by
    unfold KernelSteps.meanBy KernelSteps.one
    pointwise
    rw [max_comm]
  have e2 : RefLine.mean (F := Ideal) s n' (ix2 k l) = (Ideal.div (s (ix2 k l)) (max 1 (n' (ix1 k))) : EReal) := by
    unfold RefLine.mean
    pointwise
  rw [e1, e2, h]

/-- The moved prototypes agree. -/
theorem moved_eq (w : BitVec 32) (p q : FVec Ideal S512x256 .f32) :
    KernelSteps.towards (F := Ideal) w p q = RefLine.moved (F := Ideal) p q (constant ReferenceIdeal.S_ .f32 w) := by
  funext j
  obtain ⟨k, l, rfl⟩ : ∃ (k : Fin 512) (l : Fin 256), j = ix2 k l := ⟨j 0, j 1, eq_ix2 j⟩
  rfl

/-- The body's normalised rows are the reference's. -/
theorem unit_eq (x : FVec Ideal S512x256 .f32) :
    KernelSteps.unitBy (F := Ideal) x (mulf x x) = RefLine.unit512 (F := Ideal) x := by
  funext j
  obtain ⟨k, l, rfl⟩ : ∃ (k : Fin 512) (l : Fin 256), j = ix2 k l := ⟨j 0, j 1, eq_ix2 j⟩
  rw [unit512_apply]
  unfold KernelSteps.unitBy
  pointwise
  rw [max_comm]
  rfl

/-- The choice between the new and the old prototypes agrees. -/
theorem used_eq (n : FVec Ideal S512x1 .f32) (n' : FVec Ideal S512 .f32) (h : ∀ k : Fin 512, n (ix2 k 0) = n' (ix1 k))
    (x y : FVec Ideal S512x256 .f32) : KernelSteps.ifUsed (F := Ideal) n x y = RefLine.whereUsed (F := Ideal) n' x y := by
  funext j
  obtain ⟨k, l, rfl⟩ : ∃ (k : Fin 512) (l : Fin 256), j = ix2 k l := ⟨j 0, j 1, eq_ix2 j⟩
  have e1 : KernelSteps.ifUsed (F := Ideal) n x y (ix2 k l)
      = (if (0 : EReal) < n (ix2 k 0) then x (ix2 k l) else y (ix2 k l) : EReal) := by
    unfold KernelSteps.ifUsed
    pointwise
  have e2 : RefLine.whereUsed (F := Ideal) n' x y (ix2 k l)
      = (if (0 : EReal) < n' (ix1 k) then x (ix2 k l) else y (ix2 k l) : EReal) := by
    unfold RefLine.whereUsed
    pointwise
  rw [e1, e2, h]

/-- One step of the body is one refinement of the reference. -/
theorem step_eq (p : FVec Ideal S512x256 .f32) (f : FVec Ideal S1024x256 .f32) (w : BitVec 32) :
    KernelSteps.step (F := Ideal) p f w = RefLine.refine (F := Ideal) p f (constant ReferenceIdeal.S_ .f32 w) := by
  unfold KernelSteps.step KernelSteps.unitOf KernelSteps.squareOf KernelSteps.movedOf KernelSteps.meanOf RefLine.refine
  rw [used_eq _ _ (count_eq p f), unit_eq, moved_eq, mean_eq _ _ _ (count_eq p f), total_eq]

/-- So are any number of steps. -/
theorem steps_eq (l : List (BitVec 32)) (p : FVec Ideal S512x256 .f32) (f : FVec Ideal S1024x256 .f32) :
    KernelSteps.steps (F := Ideal) l p f = RefLine.refines (F := Ideal) l p f := by
  have h : (fun p w => KernelSteps.step (F := Ideal) p f w)
      = fun p w => RefLine.refine (F := Ideal) p f (constant ReferenceIdeal.S_ .f32 w) :=
    funext fun p => funext fun w => step_eq p f w
  unfold KernelSteps.steps RefLine.refines
  rw [h]

end Cert.Spec

end
-- ==== Proof.KernelRegion1.lean ====
/-
  The second kernel region: what its three output arrays hold.
-/
module

public import proofs.«01_k».proof.Proof.StepEq
public import Idealize.ShloMosaic.Lib.Pipeline.ValueKit

@[expose] public section

set_option maxRecDepth 16384

noncomputable section

namespace Cert.Spec

open Idealize.ShloMosaic Idealize.ShloMosaic.TcCoe Idealize.SL.Sem Cert.KernelIdeal Cert.KernelIdeal.Gen
open Idealize.ShloMosaic.Pipeline (Dat)

/-! ## The windows -/

theorem at0 : ∀ t : Fin cfg1.N, win1_0.index t = ![0, 0] := (by decide +kernel : ∀ t : Fin grid1.N, _)
theorem at1 : ∀ t : Fin cfg1.N, win1_1.index t = ![0, 0] := (by decide +kernel : ∀ t : Fin grid1.N, _)
theorem at2 : ∀ t : Fin cfg1.N, win1_2.index t = ![0, 0] := (by decide +kernel : ∀ t : Fin grid1.N, _)
theorem at3 : ∀ t : Fin cfg1.N, win1_3.index t = ![0, 0] := (by decide +kernel : ∀ t : Fin grid1.N, _)

variable (V : (c : Dev nD) → (b : Ref sig .tc) → Buf (Elt Ideal) ((c : Thread nD τ).loc b)) (c : Dev nD)

theorem whole0 : iblk1 V c 0 t1_0 = V c main_arg0 := by
  blk_ext! [iblk1, at0 t1_0]

theorem whole1 : iblk1 V c 1 t1_0 = V c main_arg1 := by
  blk_ext! [iblk1, at1 t1_0]

theorem whole2 : iblk1 V c 2 t1_0 = V c main_v16 := by
  blk_ext! [iblk1, at2 t1_0]

theorem whole3 : iblk1 V c 3 t1_0 = V c main_v23 := by
  blk_ext! [iblk1, at3 t1_0]

theorem load_protos (x : Vec Ideal S512x256 .f32) : View.ld (Val := Elt Ideal) (e' := .f32) x r1_0 = x :=
  View.ld_unit_zero (by decide) _ x

theorem load_rows (x : Vec Ideal S1024x256 .f32) : View.ld (Val := Elt Ideal) (e' := .f32) x r1_1 = x :=
  View.ld_unit_zero (by decide) _ x

theorem same_fg (x : FVec Ideal S1024x256 .f32) : k1_pay1 (F := Ideal) x = x := shapeCast_self x _

theorem same_bg (x : FVec Ideal S1024x256 .f32) : k1_pay2 (F := Ideal) x = x := shapeCast_self x _

/-! ## The body's values -/

variable [Cert.ReferenceIdeal.Facts₀] [Cert.ReferenceIdeal.Facts]

theorem refined_fg_eq (p q : FVec Ideal S512x256 .f32) (f g : FVec Ideal S1024x256 .f32) :
    k1_pay93 (F := Ideal) p q f g = RefLine.refines (F := Ideal) RefLine.stepWords p f := by
  rw [KernelSteps.refined_fg, load_protos, load_rows, same_fg, steps_eq]
  rfl

theorem refined_bg_eq (p q : FVec Ideal S512x256 .f32) (f g : FVec Ideal S1024x256 .f32) :
    k1_pay117 (F := Ideal) p q f g = RefLine.refines (F := Ideal) RefLine.stepWords q g := by
  rw [KernelSteps.refined_bg, load_protos, load_rows, same_bg, steps_eq]
  rfl

/-- A mixture of two rows. -/
def mix (x y : EReal) : EReal := Ideal.ofBits .f32 0x3F333333#32 * x + Ideal.ofBits .f32 0x3E99999A#32 * y

theorem blend_apply (p q : FVec Ideal S512x256 .f32) (k : Fin 512) (l : Fin 256) :
    RefLine.blend (F := Ideal) p q (ix2 k l) = unit (fun l => mix (p (ix2 k l)) (q (ix2 k l))) l := by
  unfold RefLine.blend
  rw [unit512_apply]
  rfl

/-- The body's new foreground prototypes are the reference's. -/
theorem pay69_eq (p q : FVec Ideal S512x256 .f32) : k1_pay69 (F := Ideal) p q = RefLine.blend (F := Ideal) p q := by
  funext j
  obtain ⟨k, l, rfl⟩ : ∃ (k : Fin 512) (l : Fin 256), j = ix2 k l := ⟨j 0, j 1, eq_ix2 j⟩
  rw [blend_apply]
  unfold k1_pay69
  pointwise
  rw [max_comm]
  rfl

/-- The body's new background prototypes are the reference's. -/
theorem pay70_eq (p q : FVec Ideal S512x256 .f32) : k1_pay70 (F := Ideal) p q = RefLine.blend (F := Ideal) p q :=
  pay69_eq p q

/-! ## The arrays -/

/-- The loss array holds the body's loss. -/
theorem region_loss (j : S1x1.Idx) : (dat1 V c).arrAt 4 cfg1.N j
    = k1_pay68 (F := Ideal) (RefLine.refines (F := Ideal) RefLine.stepWords (V c main_arg1) (V c main_v23)) (k1_pay64 (F := Ideal) (V c main_v16))
      (k1_pay65 (F := Ideal) (V c main_v16) (RefLine.refines (F := Ideal) RefLine.stepWords (V c main_arg0) (V c main_v16)))
      (k1_pay66 (F := Ideal) (V c main_v16) (RefLine.refines (F := Ideal) RefLine.stepWords (V c main_arg0) (V c main_v16)))
      (k1_pay67 (F := Ideal) (V c main_v23) (RefLine.refines (F := Ideal) RefLine.stepWords (V c main_arg0) (V c main_v16))) j := by
  refine congrFun ((dat1 V c).arrAt_eq_of_after_last 4 t1_0 (by decide +kernel) _ fun j => ?_) j
  blk_simp
  rw [after1_4]
  unfold out1_4
  frame_out
  rw [whole0, whole1, whole2, whole3, refined_fg_eq, refined_bg_eq]
  have h1 : k1_pay72 (V c main_arg0) (V c main_arg1) (V c main_v16) (V c main_v23) = V c main_v16 := by
    refine Eq.trans (rfl : _ = k1_pay1 (View.ld (V c main_v16) r1_1)) ?_
    rw [load_rows, same_fg]
  have h2 : k1_pay73 (V c main_arg0) (V c main_arg1) (V c main_v16) (V c main_v23) = V c main_v23 := by
    refine Eq.trans (rfl : _ = k1_pay2 (View.ld (V c main_v23) r1_1)) ?_
    rw [load_rows, same_bg]
  rw [h1, h2]

/-- The second array holds the new foreground prototypes. -/
theorem region_fg : (dat1 V c).arrAt 5 cfg1.N
    = RefLine.blend (F := Ideal) (V c main_arg0) (RefLine.refines (F := Ideal) RefLine.stepWords (V c main_arg0) (V c main_v16)) := by
  refine (dat1 V c).arrAt_eq_of_after_last 5 t1_0 (by decide +kernel) _ fun j => ?_
  blk_simp
  rw [after1_5]
  unfold out1_5
  frame_out
  rw [whole0, whole1, whole2, whole3, refined_fg_eq, pay69_eq]

/-- The third array holds the new background prototypes. -/
theorem region_bg : (dat1 V c).arrAt 6 cfg1.N
    = RefLine.blend (F := Ideal) (V c main_arg1) (RefLine.refines (F := Ideal) RefLine.stepWords (V c main_arg1) (V c main_v23)) := by
  refine (dat1 V c).arrAt_eq_of_after_last 6 t1_0 (by decide +kernel) _ fun j => ?_
  blk_simp
  rw [after1_6]
  unfold out1_6
  frame_out
  rw [whole0, whole1, whole2, whole3, refined_bg_eq, pay70_eq]

end Cert.Spec

end
-- ==== Proof.RowLoss.lean ====
/-
  Finite extended reals, and the log-sum-exp of a row in the two forms that the kernel and the reference use.
-/
module

public import proofs.«01_k».proof.Proof.FirstMax

@[expose] public section

set_option maxRecDepth 16384

noncomputable section

namespace Cert.Spec

open Idealize.ShloMosaic

/-! ## Finite numbers -/

/-- The extended real is a real number. -/
def IsReal (x : EReal) : Prop := ∃ r : ℝ, x = r

theorem IsReal.of_ne {x : EReal} (h1 : x ≠ ⊥) (h2 : x ≠ ⊤) : IsReal x := ⟨x.toReal, (EReal.coe_toReal h2 h1).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

/-- The inverse of an extended real is finite. -/
theorem IsReal.inv (x : EReal) : IsReal x⁻¹ := by
  induction x using EReal.rec with
  | bot => exact ⟨0, EReal.inv_bot⟩
  | top => exact ⟨0, EReal.inv_top⟩
  | coe r => exact ⟨r⁻¹, (EReal.coe_inv r).symm⟩

/-- A finite number over one that is not 0 is finite. -/
theorem IsReal.div {x y : EReal} (hx : IsReal x) (hy : y ≠ 0) : IsReal (Ideal.div x y) := by
  unfold Ideal.div
  rw [if_neg hy]
  exact hx.mul (.inv y)

/-- The inner product of finite rows is finite. -/
theorem IsReal.dot {n : ℕ} {r p : Fin n → EReal} (hr : ∀ k, IsReal (r k)) (hp : ∀ k, IsReal (p k)) : IsReal (dot r p) :=
  .sum _ _ fun k => (hr k).mul (hp k)

theorem eps_pos : (0 : EReal) < eps := by
  have h : ∃ r : ℝ, 0 < r ∧ eps = (r : EReal) := by
    refine ⟨_, ?_, by unfold eps Ideal.ofBits Ideal.ieee; simp; rfl⟩
    norm_num
  obtain ⟨r, hr, e⟩ := h
  rw [e]
  exact_mod_cast hr

theorem mul_self_nonneg' (x : EReal) : 0 ≤ x * x := by
  rcases le_total 0 x with h | h
  · exact mul_nonneg h h
  · rw [← neg_mul_neg]
    have : 0 ≤ -x := EReal.neg_nonneg.2 h
    exact mul_nonneg this this

/-- A row over the larger of its norm and 1e-8 is finite, whatever the row holds. -/
theorem unit_real {n : ℕ} (r : Fin n → EReal) (k : Fin n) : IsReal (unit r k) := by
  have hd : ∀ x : EReal, max eps x ≠ 0 := fun x => (lt_of_lt_of_le eps_pos (le_max_left _ _)).ne'
  by_cases h : IsReal (r k)
  · exact h.div (hd _)
  have hk : r k * r k = ⊤ := by
    by_cases hb : r k = ⊥
    · rw [hb]; rfl
    by_cases ht : r k = ⊤
    · rw [ht]; rfl
    · exact absurd (IsReal.of_ne hb ht) h
  have hs : ∑ l, r l * r l = ⊤ :=
    top_le_iff.1 (hk ▸ Finset.single_le_sum (f := fun l => r l * r l) (fun l _ => mul_self_nonneg' (r l)) (Finset.mem_univ k))
  refine ⟨0, ?_⟩
  unfold unit Ideal.div
  rw [if_neg (hd _), hs, show Ideal.sqrt ⊤ = ⊤ from rfl, max_eq_right le_top, EReal.inv_top, mul_zero]
  rfl

/-! ## The log-sum-exp of a row -/

/-- The log-sum-exp with the row's largest entry subtracted. -/
def lse {n : ℕ} (x : Fin n → EReal) : EReal := top x + Ideal.log (∑ k, Ideal.exp (x k - top x))

/-- The number, or 0 if it is infinite. -/
def shift (m : EReal) : EReal := if max m (-m) < ⊤ then m else 0

/-- The log-sum-exp with the row's largest entry subtracted if that is finite. -/
def lseSafe {n : ℕ} (x : Fin n → EReal) : EReal :=
  Ideal.log (∑ k, Ideal.exp (x k - shift (top x))) + shift (top x)

/-- The log-sum-exp of two numbers. -/
def join (a b : EReal) : EReal := max a b + Ideal.log (Ideal.exp (a - max a b) + Ideal.exp (b - max a b))

/-- The sum of a row's exponentials. -/
def mass {n : ℕ} (x : Fin n → EReal) : ℝ := ∑ k, (Ideal.exp (x k)).toReal

/-- The sum of real numbers is the sum of them as extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem exp_nonneg (x : EReal) : 0 ≤ Ideal.exp x := by
  induction x using EReal.rec with
  | bot => exact le_rfl
  | top => exact le_top
  | coe r => exact EReal.coe_nonneg.2 (Real.exp_pos r).le

theorem exp_toReal_nonneg (x : EReal) : 0 ≤ (Ideal.exp x).toReal := EReal.toReal_nonneg (exp_nonneg x)

theorem mass_pos {n : ℕ} (x : Fin n → EReal) (k : Fin n) (h : IsReal (x k)) : 0 < mass x := by
  obtain ⟨r, hr⟩ := h
  refine Finset.sum_pos' (fun k _ => exp_toReal_nonneg _) ⟨k, Finset.mem_univ _, ?_⟩
  rw [hr, Ideal.exp_coe, EReal.toReal_coe]
  exact Real.exp_pos r

theorem exp_sub (x : EReal) (hx : x ≠ ⊤) (t : ℝ) :
    Ideal.exp (x - t) = (((Ideal.exp x).toReal * Real.exp (-t) : ℝ) : EReal) := by
  induction x using EReal.rec with
  | bot => simp
  | top => exact absurd rfl hx
  | coe r =>
    rw [← EReal.coe_sub, Ideal.exp_coe, Ideal.exp_coe, EReal.toReal_coe, ← Real.exp_add, sub_eq_add_neg]

theorem log_scaled (s : ℝ) (hs : 0 < s) (t : ℝ) :
    Ideal.log ((s * Real.exp (-t) : ℝ) : EReal) = ((Real.log s - t : ℝ) : EReal) := by
  have h : 0 < s * Real.exp (-t) := mul_pos hs (Real.exp_pos _)
  rw [Ideal.log_coe, if_neg (not_le.2 h), Real.log_mul hs.ne' (Real.exp_pos _).ne', Real.log_exp, sub_eq_add_neg]

/-- The log of a row's exponentials shifted by a real number. -/
theorem log_sum {n : ℕ} (x : Fin n → EReal) (hx : ∀ k, x k ≠ ⊤) (hs : 0 < mass x) (t : ℝ) :
    Ideal.log (∑ k, Ideal.exp (x k - t)) = ((Real.log (mass x) - t : ℝ) : EReal) := by
  have e : ∑ k, Ideal.exp (x k - t) = ((mass x * Real.exp (-t) : ℝ) : EReal) := by
    rw [mass, Finset.sum_mul, coe_sum]
    exact Finset.sum_congr rfl fun k _ => exp_sub (x k) (hx k) t
  rw [e, log_scaled _ hs]

theorem shift_coe (r : ℝ) : shift (r : EReal) = r := by
  unfold shift
  refine if_pos (max_lt (EReal.coe_lt_top r) ?_)
  rw [← EReal.coe_neg]
  exact EReal.coe_lt_top _

theorem shift_top : shift ⊤ = 0 := if_neg (by simp)

theorem shift_bot : shift ⊥ = 0 := if_neg (by simp)

/-- Where the largest entry is finite, both forms are the log of the sum of exponentials. -/
theorem lse_real {n : ℕ} (x : Fin n → EReal) (t : ℝ) (ht : top x = t) (hs : 0 < mass x) :
    lse x = (Real.log (mass x) : EReal) ∧ lseSafe x = (Real.log (mass x) : EReal) := by
  have hx : ∀ k, x k ≠ ⊤ := fun k h => by
    have := le_top' x k
    rw [h, ht] at this
    exact absurd this (not_le.2 (EReal.coe_lt_top t))
  constructor
  · rw [lse, ht, log_sum x hx hs, ← EReal.coe_add]
    norm_num
  · rw [lseSafe, ht, shift_coe, log_sum x hx hs, ← EReal.coe_add]
    norm_num

theorem join_real (s t : ℝ) (hs : 0 < s) (ht : 0 < t) :
    join (Real.log s : EReal) (Real.log t : EReal) = (Real.log (s + t) : EReal) := by
  have e : max (Real.log s : EReal) (Real.log t : EReal) = ((max (Real.log s) (Real.log t) : ℝ) : EReal) :=
    (EReal.coe_strictMono.monotone.map_max).symm
  rw [join, e]
  generalize max (Real.log s) (Real.log t) = u
  rw [exp_sub _ (EReal.coe_ne_top _), exp_sub _ (EReal.coe_ne_top _), Ideal.exp_coe, Ideal.exp_coe, EReal.toReal_coe,
    EReal.toReal_coe, Real.exp_log hs, Real.exp_log ht, ← EReal.coe_add, ← add_mul, log_scaled _ (add_pos hs ht), ← EReal.coe_add]
  norm_num

theorem top_join (a b : Fin 512 → EReal) (c : Fin 1024 → EReal) (h1 : ∀ k : Fin 512, c (k.castAdd 512) = a k)
    (h2 : ∀ k : Fin 512, c (k.natAdd 512) = b k) : top c = max (top a) (top b) := by
  refine le_antisymm ?_ (max_le ?_ ?_)
  · refine (Finset.fold_max_le _).2 ⟨bot_le, fun k _ => ?_⟩
    refine Fin.addCases (m := 512) (n := 512) (motive := fun k => c k ≤ _) (fun k => ?_) (fun k => ?_) k
    · rw [h1]; exact (le_top' a k).trans (le_max_left _ _)
    · rw [h2]; exact (le_top' b k).trans (le_max_right _ _)
  · obtain ⟨k, hk⟩ := top_mem a
    rw [← hk, ← h1]; exact le_top' c _
  · obtain ⟨k, hk⟩ := top_mem b
    rw [← hk, ← h2]; exact le_top' c _

theorem log_top_sum {n : ℕ} (x : Fin n → EReal) (k : Fin n) (h : x k = ⊤) : Ideal.log (∑ k, Ideal.exp (x k - 0)) = ⊤ := by
  have e : ∑ k, Ideal.exp (x k - 0) = ⊤ := by
    refine top_le_iff.1 (le_trans ?_ (Finset.single_le_sum (f := fun k => Ideal.exp (x k - 0)) (fun k _ => exp_nonneg _)
      (Finset.mem_univ k)))
    rw [h]
    exact le_rfl
  rw [e]
  rfl

/-- A row's difference of the two log-sum-exps, where the second half of the entries is finite. -/
theorem row_eq (a b : Fin 512 → EReal) (c : Fin 1024 → EReal) (h1 : ∀ k : Fin 512, c (k.castAdd 512) = a k)
    (h2 : ∀ k : Fin 512, c (k.natAdd 512) = b k) (hb : ∀ k, IsReal (b k)) :
    lse a - join (lse a) (lse b) = lseSafe a - lseSafe c := by
  have hc := top_join a b c h1 h2
  obtain ⟨kb, hkb⟩ := top_mem b
  obtain ⟨B, hB⟩ := hkb ▸ hb kb
  obtain ⟨ka, hka⟩ := top_mem a
  have hmb : 0 < mass b := mass_pos b kb (hb kb)
  generalize ht : top a = t at *
  induction t using EReal.rec with
  | bot =>
    have ha : ∀ k, a k = ⊥ := fun k => le_bot_iff.1 (ht ▸ le_top' a k)
    have e1 : lse a = ⊥ := by rw [lse, ht, EReal.bot_add]
    have e2 : lseSafe a = ⊥ := by
      have : ∑ k, Ideal.exp (a k - 0) = 0 := Finset.sum_eq_zero fun k _ => by rw [ha k]; simp
      rw [lseSafe, ht, shift_bot, this, show Ideal.log 0 = ⊥ from if_pos le_rfl, EReal.bot_add]
    rw [e1, e2, EReal.bot_sub, EReal.bot_sub]
  | top =>
    have e1 : lse a = ⊥ := by
      have : ∑ k, Ideal.exp (a k - ⊤) = 0 := Finset.sum_eq_zero fun k _ => by simp
      rw [lse, ht, this, show Ideal.log 0 = ⊥ from if_pos le_rfl, EReal.add_bot]
    have e2 : lseSafe c = ⊤ := by
      rw [lseSafe, hc, max_eq_left le_top, shift_top, log_top_sum c (ka.castAdd 512) ((h1 ka).trans hka)]
      rfl
    rw [e1, e2, EReal.bot_sub, EReal.sub_top]
  | coe A =>
    have hma : 0 < mass a := mass_pos a ka ⟨A, hka⟩
    have hmc : mass c = mass a + mass b := by
      unfold mass
      rw [Fin.sum_univ_add (a := 512) (b := 512) fun k : Fin (512 + 512) => (Ideal.exp (c k)).toReal]
      simp only [h1, h2]
    have hc' : top c = ((max A B : ℝ) : EReal) := by
      rw [hc, hB]; exact (EReal.coe_strictMono.monotone.map_max).symm
    rw [(lse_real a A ht hma).1, (lse_real a A ht hma).2, (lse_real b B hB hmb).1,
      (lse_real c _ hc' (hmc ▸ add_pos hma hmb)).2, join_real _ _ hma hmb, hmc]

end Cert.Spec

end
-- ==== Proof.Loss.lean ====
/-
  The loss of the second kernel body is the reference's, where the background prototypes are finite.
-/
module

public import proofs.«01_k».proof.Proof.RowLoss
public import proofs.«01_k».proof.Proof.StepEq

@[expose] public section

set_option maxRecDepth 16384

noncomputable section

namespace Cert.Spec

open Idealize.ShloMosaic Cert.KernelIdeal Cert.KernelIdeal.Gen

/-- The float word 1024. -/
def count1024 : EReal := Ideal.ofBits .f32 0x44800000#32

/-- The float word of the temperature. -/
def temp : EReal := Ideal.ofBits .f32 0x3D8F5C29#32

/-- The float word of the margin. -/
def margin : EReal := Ideal.ofBits .f32 0x3E4CCCCD#32

/-- The float word 0.25. -/
def weight : EReal := Ideal.ofBits .f32 0x3E800000#32

variable [Cert.ReferenceIdeal.Facts₀] [Cert.ReferenceIdeal.Facts]

/-! ## The body's values -/

/-- The body's normalised rows are the reference's. -/
theorem pay64_eq (x : FVec Ideal S1024x256 .f32) : k1_pay64 (F := Ideal) x = RefLine.unit1024 (F := Ideal) x := by
  funext j
  obtain ⟨k, l, rfl⟩ : ∃ (k : Fin 1024) (l : Fin 256), j = ix2 k l := ⟨j 0, j 1, eq_ix2 j⟩
  rw [unit1024_apply]
  unfold k1_pay64
  pointwise
  rw [max_comm]
  rfl

theorem sims_apply (f : FVec Ideal S1024x256 .f32) (p : FVec Ideal S512x256 .f32) (i : Fin 1024) (k : Fin 512) :
    RefLine.sims (F := Ideal) f p (ix2 i k) = dot (fun l => (f (ix2 i l) : EReal)) fun l => (p (ix2 k l) : EReal) := by
  unfold RefLine.sims
  pointwise
  rfl

theorem pay65_apply (x : FVec Ideal S1024x256 .f32) (p : FVec Ideal S512x256 .f32) (i : Fin 1024) (k : Fin 512) :
    k1_pay65 (F := Ideal) x p (ix2 i k) = RefLine.sims (F := Ideal) (RefLine.unit1024 (F := Ideal) x) p (ix2 i k) := by
  rw [sims_apply, ← pay64_eq]
  unfold k1_pay65
  generalize k1_pay64 (F := Ideal) x = y
  pointwise
  rfl

/-- The mean of the rows' largest entries. -/
def meanTop (s : FVec Ideal S1024x512 .f32) : EReal :=
  Ideal.div (∑ i : Fin 1024, top fun k : Fin 512 => (s (ix2 i k) : EReal)) count1024

theorem pay66_eq (x : FVec Ideal S1024x256 .f32) (p : FVec Ideal S512x256 .f32) :
    k1_pay66 (F := Ideal) x p = meanTop (k1_pay65 (F := Ideal) x p) := by
  unfold k1_pay66
  generalize k1_pay65 (F := Ideal) x p = s
  pointwise
  rw [word_bot]
  rfl

theorem pay67_eq (x : FVec Ideal S1024x256 .f32) (p : FVec Ideal S512x256 .f32) :
    Ideal.div (k1_pay67 (F := Ideal) x p) count1024 = meanTop (k1_pay65 (F := Ideal) x p) := pay66_eq x p

theorem meanMax_apply (f : FVec Ideal S1024x256 .f32) (p : FVec Ideal S512x256 .f32) (j : ReferenceIdeal.S_.Idx) :
    RefLine.meanMax (F := Ideal) f p j = meanTop (RefLine.sims (F := Ideal) f p) := by
  unfold RefLine.meanMax
  generalize RefLine.sims (F := Ideal) f p = s
  pointwise
  rw [word_bot]
  rfl

section

variable {F : FTy → Type} [FloatOps F]

/-- The body's log-sum-exp of each row, as a column. -/
def lseCol (x : FVec F S1024x512 .f32) : FVec F S1024x1 .f32 :=
  have m : FVec F S1024x1 .f32 := shapeCast S1024x1
    (multiReduction .maximumf [1] S1024 x 0xFF800000#32 reduces_S1024x512_S1024 (.inl rfl) rfl) shapeCasts_S1024_S1024x1
  addf m (log (shapeCast S1024x1 (multiReduction .add [1] S1024
    (exp (subf x (broadcastTo S1024x512 m broadcasts_S1024x1_S1024x512))) 0x00000000#32 reduces_S1024x512_S1024 (.inl rfl) rfl)
    shapeCasts_S1024_S1024x1))

/-- The body's log-sum-exp of two columns. -/
def joinCol (a b : FVec F S1024x1 .f32) : FVec F S1024x1 .f32 :=
  addf (maximumf a b) (log (addf (exp (subf a (maximumf a b))) (exp (subf b (maximumf a b)))))

/-- The body's mean of a column. -/
def meanCol (x : FVec F S1024x1 .f32) : F .f32 :=
  Scalar.divf (extractAt ![0, 0, 0] (shapeCast S1x1x1 (multiReduction .add [1, 2] S1
    (shapeCast S1x1024x1 x shapeCasts_S1024x1_S1x1024x1) 0x00000000#32 reduces_S1x1024x1_S1 (.inl rfl) rfl)
    shapeCasts_S1_S1x1x1) inpos_S1x1x1_p0_0_0) (Scalar.ofBits .f32 0x44800000#32)

/-- The body's similarities over the temperature. -/
def scaledBy (s : FVec F S1024x512 .f32) : FVec F S1024x512 .f32 :=
  divf s (broadcast S1024x512 (Scalar.ofBits .f32 0x3D8F5C29#32))

/-- The body's similarities with the background prototypes. -/
def simsBg (q : FVec F S512x256 .f32) (v : FVec F S1024x256 .f32) : FVec F S1024x512 .f32 :=
  matmul dot_S1024x256_S512x256_S1024x512_1_1_0_0_n_n none v q (constant S1024x512 .f32 0x00000000#32)

/-- The body's loss in these terms. -/
theorem pay68_def (q : FVec F S512x256 .f32) (v : FVec F S1024x256 .f32) (s : FVec F S1024x512 .f32) (x y : F .f32) :
    k1_pay68 q v s x y = broadcast S1x1 (Scalar.addf
      (Scalar.maximumf (Scalar.subf (Scalar.addf (Scalar.ofBits .f32 0x3E4CCCCD#32)
        (Scalar.divf y (Scalar.ofBits .f32 0x44800000#32))) x) (Scalar.ofBits .f32 0x00000000#32))
      (Scalar.mulf (Scalar.ofBits .f32 0x3E800000#32) (Scalar.subf (Scalar.ofBits .f32 0x00000000#32)
        (meanCol (subf (lseCol (scaledBy s)) (joinCol (lseCol (scaledBy s)) (lseCol (scaledBy (simsBg q v))))))))) := by
  unfold k1_pay68
  rfl

end

theorem lseCol_apply (x : FVec Ideal S1024x512 .f32) (i : Fin 1024) :
    lseCol (F := Ideal) x (ix2 i 0) = lse fun k : Fin 512 => (x (ix2 i k) : EReal) := by
  unfold lseCol
  pointwise
  rw [word_bot]
  rfl

theorem joinCol_apply (a b : FVec Ideal S1024x1 .f32) (i : Fin 1024) :
    joinCol (F := Ideal) a b (ix2 i 0) = join (a (ix2 i 0)) (b (ix2 i 0)) := by
  unfold joinCol
  rfl

theorem meanCol_eq (x : FVec Ideal S1024x1 .f32) :
    meanCol (F := Ideal) x = Ideal.div (∑ i : Fin 1024, (x (ix2 i 0) : EReal)) count1024 := by
  unfold meanCol
  pointwise
  exact congrArg (fun t : EReal => Ideal.div t count1024) (Finset.sum_congr rfl fun i _ => Fin.sum_univ_one _)

theorem simsBg_apply (q : FVec Ideal S512x256 .f32) (v : FVec Ideal S1024x256 .f32) (i : Fin 1024) (k : Fin 512) :
    simsBg (F := Ideal) q v (ix2 i k) = dot (fun l => (v (ix2 i l) : EReal)) fun l => (q (ix2 k l) : EReal) := by
  unfold simsBg
  pointwise
  rfl

theorem pay68_apply (q : FVec Ideal S512x256 .f32) (v : FVec Ideal S1024x256 .f32) (s : FVec Ideal S1024x512 .f32) (x y : EReal)
    (j : S1x1.Idx) : k1_pay68 (F := Ideal) q v s x y j = max (margin + Ideal.div y count1024 - x) 0
      + weight * (0 - meanCol (F := Ideal) (subf (lseCol (scaledBy s)) (joinCol (lseCol (scaledBy s)) (lseCol (scaledBy (simsBg q v)))))) := by
  rw [pay68_def]
  generalize meanCol (F := Ideal) _ = z
  rw [← Ideal.ofBits_zero_f32]
  rfl

theorem contrast_apply (x y : FVec Ideal ReferenceIdeal.S1024 .f32) (j : ReferenceIdeal.S_.Idx) :
    RefLine.contrast (F := Ideal) x y j
      = weight * (-Ideal.div (∑ i : Fin 1024, ((x (ix1 i) : EReal) - y (ix1 i))) count1024) := by
  unfold RefLine.contrast
  pointwise
  rfl

theorem scaled_apply (f : FVec Ideal S1024x256 .f32) (p : FVec Ideal S512x256 .f32) (i : Fin 1024) (k : Fin 512) :
    RefLine.scaled (F := Ideal) f p (ix2 i k) = Ideal.div (RefLine.sims (F := Ideal) f p (ix2 i k)) temp := by
  unfold RefLine.scaled
  pointwise
  rfl

theorem lse512_apply (x : FVec Ideal S1024x512 .f32) (i : Fin 1024) :
    RefLine.lse512 (F := Ideal) x (ix1 i) = lseSafe fun k : Fin 512 => (x (ix2 i k) : EReal) := by
  unfold RefLine.lse512 RefLine.shiftOf
  pointwise
  rw [word_bot, word_top]
  rfl

theorem lse1024_apply (x : FVec Ideal ReferenceIdeal.S1024x1024 .f32) (i : Fin 1024) :
    RefLine.lse1024 (F := Ideal) x (ix1 i) = lseSafe fun k : Fin 1024 => (x (ix2 i k) : EReal) := by
  unfold RefLine.lse1024 RefLine.shiftOf
  pointwise
  rw [word_bot, word_top]
  rfl

theorem beside_left (x y : FVec Ideal S1024x512 .f32) (i : Fin 1024) (k : Fin 512) :
    RefLine.beside (F := Ideal) x y (ix2 i (k.castAdd 512 : Fin (512 + 512))) = x (ix2 i k) := by
  unfold RefLine.beside
  pointwise
  exact dif_pos k.isLt

theorem beside_right (x y : FVec Ideal S1024x512 .f32) (i : Fin 1024) (k : Fin 512) :
    RefLine.beside (F := Ideal) x y (ix2 i (k.natAdd 512 : Fin (512 + 512))) = y (ix2 i k) := by
  unfold RefLine.beside
  pointwise
  refine (dif_neg (by simp)).trans ?_
  congr 2
  exact Fin.ext (by simp)

end Cert.Spec

end
-- ==== Proof.LossEq.lean ====
/-
  The loss of the second kernel body is the reference's, where the refined background prototypes are finite; and refining
  keeps prototypes finite.
-/
module

public import proofs.«01_k».proof.Proof.Loss

@[expose] public section

set_option maxRecDepth 16384

noncomputable section

namespace Cert.Spec

open Idealize.ShloMosaic Cert.KernelIdeal Cert.KernelIdeal.Gen

variable [Cert.ReferenceIdeal.Facts₀] [Cert.ReferenceIdeal.Facts]

/-! ## Refining keeps prototypes finite -/

theorem whereUsed_real (n : FVec Ideal ReferenceIdeal.S512 .f32) (x y : FVec Ideal S512x256 .f32)
    (hx : ∀ k l, IsReal (x (ix2 k l))) (hy : ∀ k l, IsReal (y (ix2 k l))) (k : Fin 512) (l : Fin 256) :
    IsReal (RefLine.whereUsed (F := Ideal) n x y (ix2 k l)) := by
  have e : RefLine.whereUsed (F := Ideal) n x y (ix2 k l)
      = (if (0 : EReal) < n (ix1 k) then x (ix2 k l) else y (ix2 k l) : EReal) := by
    unfold RefLine.whereUsed
    pointwise
  rw [e]
  split_ifs
  · exact hx k l
  · exact hy k l

theorem refine_real (p : FVec Ideal S512x256 .f32) (f : FVec Ideal S1024x256 .f32) (t : FVec Ideal ReferenceIdeal.S_ .f32)
    (hp : ∀ k l, IsReal (p (ix2 k l))) (k : Fin 512) (l : Fin 256) :
    IsReal (RefLine.refine (F := Ideal) p f t (ix2 k l)) := by
  unfold RefLine.refine
  refine whereUsed_real _ _ _ (fun k l => ?_) hp k l
  rw [unit512_apply]
  exact unit_real _ _

theorem refines_real (ws : List (BitVec 32)) (p : FVec Ideal S512x256 .f32) (f : FVec Ideal S1024x256 .f32)
    (hp : ∀ k l, IsReal (p (ix2 k l))) : ∀ k l, IsReal (RefLine.refines (F := Ideal) ws p f (ix2 k l)) := by
  unfold RefLine.refines
  induction ws generalizing p with
  | nil => exact hp
  | cons w ws ih =>
    rw [List.foldl_cons]
    exact ih _ (refine_real p f _ hp)

/-! ## The loss -/

theorem pay65_eq (f : FVec Ideal S1024x256 .f32) (p : FVec Ideal S512x256 .f32) :
    k1_pay65 (F := Ideal) f p = RefLine.sims (F := Ideal) (RefLine.unit1024 (F := Ideal) f) p := by
  funext j
  obtain ⟨i, k, rfl⟩ : ∃ (i : Fin 1024) (k : Fin 512), j = ix2 i k := ⟨j 0, j 1, eq_ix2 j⟩
  exact pay65_apply f p i k

theorem simsBg_eq (q : FVec Ideal S512x256 .f32) (v : FVec Ideal S1024x256 .f32) :
    simsBg (F := Ideal) q v = RefLine.sims (F := Ideal) v q := by
  funext j
  obtain ⟨i, k, rfl⟩ : ∃ (i : Fin 1024) (k : Fin 512), j = ix2 i k := ⟨j 0, j 1, eq_ix2 j⟩
  rw [simsBg_apply, sims_apply]

theorem scaledBy_eq (v : FVec Ideal S1024x256 .f32) (p : FVec Ideal S512x256 .f32) :
    scaledBy (F := Ideal) (RefLine.sims (F := Ideal) v p) = RefLine.scaled (F := Ideal) v p := by
  funext j
  obtain ⟨i, k, rfl⟩ : ∃ (i : Fin 1024) (k : Fin 512), j = ix2 i k := ⟨j 0, j 1, eq_ix2 j⟩
  rw [scaled_apply]
  rfl

theorem temp_ne_zero : temp ≠ 0 := by
  have h : ∃ r : ℝ, 0 < r ∧ temp = (r : EReal) := by
    refine ⟨_, ?_, by unfold temp Ideal.ofBits Ideal.ieee; simp; rfl⟩
    norm_num
  obtain ⟨r, hr, e⟩ := h
  rw [e]
  exact_mod_cast hr.ne'

/-- Similarities of normalised rows with finite prototypes are finite. -/
theorem scaled_real (f : FVec Ideal S1024x256 .f32) (q : FVec Ideal S512x256 .f32) (hq : ∀ k l, IsReal (q (ix2 k l)))
    (i : Fin 1024) (k : Fin 512) : IsReal (RefLine.scaled (F := Ideal) (RefLine.unit1024 (F := Ideal) f) q (ix2 i k)) := by
  rw [scaled_apply, sims_apply]
  refine IsReal.div (IsReal.dot (fun l => ?_) fun l => hq k l) temp_ne_zero
  rw [unit1024_apply]
  exact unit_real _ _

theorem hinge_apply (fp fn : FVec Ideal S1024x256 .f32) (p : FVec Ideal S512x256 .f32) (j : ReferenceIdeal.S_.Idx) :
    RefLine.hinge (F := Ideal) fp fn p j
      = (max (margin + RefLine.meanMax (F := Ideal) fn p j - RefLine.meanMax (F := Ideal) fp p j) 0 : EReal) := by
  unfold RefLine.hinge
  generalize RefLine.meanMax (F := Ideal) fn p = a
  generalize RefLine.meanMax (F := Ideal) fp p = b
  rw [← Ideal.ofBits_zero_f32]
  rfl

theorem lossOf_apply (fp fn : FVec Ideal S1024x256 .f32) (p q : FVec Ideal S512x256 .f32) (j : ReferenceIdeal.S_.Idx) :
    RefLine.lossOf (F := Ideal) fp fn p q j = (RefLine.hinge (F := Ideal) fp fn p j
      + RefLine.contrast (F := Ideal) (RefLine.lse512 (RefLine.scaled fp p))
        (RefLine.lse1024 (RefLine.beside (RefLine.scaled fp p) (RefLine.scaled fp q))) j : EReal) := by
  unfold RefLine.lossOf
  generalize RefLine.hinge (F := Ideal) fp fn p = a
  generalize RefLine.contrast (F := Ideal) _ _ = b
  rfl

theorem minus_at (x y : FVec Ideal S1024x1 .f32) (i : Fin 1024) :
    subf x y (ix2 i 0) = (x (ix2 i 0) - y (ix2 i 0) : EReal) := rfl

/-- One row's term of the contrastive part. -/
theorem term_eq (x y : FVec Ideal S1024x512 .f32) (hy : ∀ i k, IsReal (y (ix2 i k))) (i : Fin 1024) :
    (subf (lseCol (F := Ideal) x) (joinCol (F := Ideal) (lseCol (F := Ideal) x) (lseCol (F := Ideal) y)) (ix2 i 0) : EReal)
      = (RefLine.lse512 (F := Ideal) x (ix1 i) : EReal) - RefLine.lse1024 (F := Ideal) (RefLine.beside (F := Ideal) x y) (ix1 i) := by
  rw [minus_at, joinCol_apply, lseCol_apply, lseCol_apply, lse512_apply, lse1024_apply]
  exact row_eq _ _ _ (fun k => beside_left x y i k) (fun k => beside_right x y i k) (hy i)

/-- The body's loss is the reference's, where the refined background prototypes are finite. -/
theorem loss_eq (p q : FVec Ideal S512x256 .f32) (f g : FVec Ideal S1024x256 .f32) (hq : ∀ k l, IsReal (q (ix2 k l)))
    (j : S1x1.Idx) (j' : ReferenceIdeal.S_.Idx) :
    k1_pay68 (F := Ideal) q (k1_pay64 (F := Ideal) f) (k1_pay65 (F := Ideal) f p) (k1_pay66 (F := Ideal) f p) (k1_pay67 (F := Ideal) g p) j
      = RefLine.lossOf (F := Ideal) (RefLine.unit1024 (F := Ideal) f) (RefLine.unit1024 (F := Ideal) g) p q j' := by
  rw [pay68_apply, pay67_eq, pay66_eq, meanCol_eq, pay65_eq, pay65_eq, pay64_eq, simsBg_eq, scaledBy_eq, scaledBy_eq,
    lossOf_apply, hinge_apply, meanMax_apply, meanMax_apply, contrast_apply, zero_sub]
  simp only [term_eq _ _ (scaled_real f q hq)]

end Cert.Spec

end
-- ==== Proof.KernelValue.lean ====
/-
  What the kernel's three result buffers hold at the end, as the reference's results.
-/
module

public import proofs.«01_k».proof.Proof.Chosen
public import proofs.«01_k».proof.Proof.KernelRegion1
public import proofs.«01_k».proof.Proof.LossEq

@[expose] public section

set_option maxRecDepth 16384

noncomputable section

namespace Cert.Spec

open Idealize.ShloMosaic Idealize.ShloMosaic.TcCoe Idealize.SL.Sem Cert.KernelIdeal Cert.KernelIdeal.Gen

variable [Cert.ReferenceIdeal.Facts₀] [Cert.ReferenceIdeal.Facts]
variable (m : (ℓ : Loc nD τ sig) → Buf (Elt Ideal) ℓ) (ρ : Dev nD → PrngReg) (c : Dev nD)

theorem entry_fg : V5 m ρ c main_arg0 = m ((c : Thread nD τ).loc main_arg0) := W5_args m ρ c main_arg0 (by decide)

theorem entry_bg : V5 m ρ c main_arg1 = m ((c : Thread nD τ).loc main_arg1) := W5_args m ρ c main_arg1 (by decide)

theorem entry_rows_fg : V5 m ρ c main_v16
    = RefLine.rowsFg (F := Ideal) (m ((c : Thread nD τ).loc main_arg0)) (m ((c : Thread nD τ).loc main_arg2))
      (m ((c : Thread nD τ).loc main_arg3)) := rows_fg m ρ c

theorem entry_rows_bg : V5 m ρ c main_v23
    = RefLine.rowsBg (F := Ideal) (m ((c : Thread nD τ).loc main_arg1)) (m ((c : Thread nD τ).loc main_arg2))
      (m ((c : Thread nD τ).loc main_arg3)) := rows_bg m ρ c

/-- The second result is the reference's. -/
theorem value_fg : W7 m ρ c (Proc.devRef .tc main_v24_1)
    = RefLine.result1 (F := Ideal) (m ((c : Thread nD τ).loc main_arg0)) (m ((c : Thread nD τ).loc main_arg2))
      (m ((c : Thread nD τ).loc main_arg3)) := by
  refine (W7_of m ρ c main_v24_1 (by decide)).trans ((W6_arr m ρ c 5).trans ((region_fg _ c).trans ?_))
  rw [entry_fg, entry_rows_fg]
  unfold RefLine.result1
  rfl

/-- The third result is the reference's. -/
theorem value_bg : W7 m ρ c (Proc.devRef .tc main_v24_2)
    = RefLine.result2 (F := Ideal) (m ((c : Thread nD τ).loc main_arg1)) (m ((c : Thread nD τ).loc main_arg2))
      (m ((c : Thread nD τ).loc main_arg3)) := by
  refine (W7_of m ρ c main_v24_2 (by decide)).trans ((W6_arr m ρ c 6).trans ((region_bg _ c).trans ?_))
  rw [entry_bg, entry_rows_bg]
  unfold RefLine.result2
  rfl

/-- The first result is the reference's, where the background prototypes are finite. -/
theorem value_loss (h : ∀ (k : Fin 512) (l : Fin 256), IsReal (m ((c : Thread nD τ).loc main_arg1) (ix2 k l))) :
    W7 m ρ c (Proc.devRef .tc main_v25)
      = RefLine.result0 (F := Ideal) (m ((c : Thread nD τ).loc main_arg0)) (m ((c : Thread nD τ).loc main_arg1))
        (m ((c : Thread nD τ).loc main_arg2)) (m ((c : Thread nD τ).loc main_arg3)) := by
  rw [KernelHost.result_loss]
  funext j'
  refine (shapeCast_apply _ shapeCasts_S1x1_S_ j' (ix2 0 0) ?_).trans ?_
  · exact Subsingleton.elim (α := Fin 1) _ _ |> congrArg Fin.val
  have e := (congrFun (W6_arr m ρ c 4) (ix2 0 0)).trans (region_loss (V5 m ρ) c (ix2 0 0))
  refine e.trans ?_
  rw [entry_fg, entry_bg, entry_rows_fg, entry_rows_bg]
  unfold RefLine.result0
  exact loss_eq _ _ _ _ (refines_real _ _ _ h) _ _

end Cert.Spec

end
-- ==== Proof.Finite.lean ====
/-
  The precondition read back: every background prototype is a real number.
-/
module

public import proofs.«01_k».proof.Defs
public import proofs.«01_k».proof.Proof.RowLoss
public import proofs.«01_k».proof.Proof.FeatSpec
public import Idealize.ShloMosaic.Lib.ReduceAll

@[expose] public section

set_option maxRecDepth 16384

noncomputable section

namespace Cert.Spec

open Idealize.ShloMosaic

/-- The side conditions of the predicate's operations. -/
theorem finite_bg_facts : Cert.Pre_finite_bg.Facts where
  bcast_S_S512x256 := by decide
  reducesTo_S512x256_S_d0_1 := by decide
  h_S_ := by decide

/-- A number whose absolute value is below infinity is real. -/
theorem real_of_abs_lt {x : EReal} (h : max x (-x) < ⊤) : IsReal x := by
  refine .of_ne (fun e => ?_) fun e => ?_
  · rw [e] at h; simp at h
  · rw [e] at h; simp at h

/-- Where the predicate is 1, every background prototype is a real number. -/
theorem finite_of_pre [Cert.Pre_finite_bg.Facts] (p q : FVec Ideal Cert.Pre_finite_bg.S512x256 .f32)
    (x : FVec Ideal Cert.Pre_finite_bg.S8x256x64x64 .f32) (w : FVec Ideal Cert.Pre_finite_bg.S8x64x64 .f32)
    (h : Cert.Pre_finite_bg.fn (F := Ideal) p q x w = fun _ => 1#1) (k : Fin 512) (l : Fin 256) : IsReal (q (ix2 k l)) := by
  have : Subsingleton Cert.Pre_finite_bg.S_.Idx := ⟨fun a b => funext fun d => d.elim0⟩
  unfold Cert.Pre_finite_bg.fn at h
  have h1 := Host.reduce_andi_all _ _ _ _ (fun d => d.elim0) (congrFun h fun d => d.elim0) (ix2 k l)
  have h2 : FloatOps.cmpf (F := Ideal) .olt (max (q (ix2 k l)) (-q (ix2 k l)) : EReal) (Ideal.ofBits .f32 0x7F800000#32) = 1#1 := h1
  rw [word_top] at h2
  refine real_of_abs_lt ?_
  by_contra hn
  rw [Ideal.cmpf_def] at h2
  simp [Ideal.cmp, hn] at h2

end Cert.Spec

end
-- ==== Proof.lean ====
/-
  The proof of this certificate's claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefMain
public import proofs.«01_k».proof.Proof.KernelRun
public import proofs.«01_k».proof.Proof.KernelValue
public import proofs.«01_k».proof.Proof.Finite
public import Idealize.ShloMosaic.Adequacy
public import Idealize.ShloMosaic.Init

@[expose] public section

noncomputable section

namespace Cert.Proof

open Idealize.ShloMosaic Idealize.SL.Sem

/-- The reference's frame: it runs, its arguments end unchanged, and every semaphore counter ends at zero. -/
theorem frame_reference : Cert.quiescent_ReferenceIdeal := fun m g _ =>
  θ_run_mono (Cert.RefLine.run m g) fun _ hr => ⟨fun c => (hr.1 c).2.2.2, hr.2⟩

/-- The kernel and the reference, both over the extended reals, end with equal results where the background prototypes are
    finite: the loss and the new prototypes of both classes. -/
theorem values (hpre : Cert.Pre_finite_bg.Facts) :
    Cert.algebraic_KernelIdeal_ReferenceIdeal_pre_finite_bg (hPre_finite_bg := hpre) := by
  intro m g m' g' hm hagree
  have hfin := fun c => Cert.Spec.finite_of_pre _ _ _ _ (hm c)
  refine ⟨fun c => Cert.KernelIdeal.Gen.W7 m g c (Proc.devRef .tc Cert.KernelIdeal.main_v25),
    fun c => Cert.KernelIdeal.Gen.W7 m g c (Proc.devRef .tc Cert.KernelIdeal.main_v24_1),
    fun c => Cert.KernelIdeal.Gen.W7 m g c (Proc.devRef .tc Cert.KernelIdeal.main_v24_2),
    Cert.KernelRun.run m g, θ_run_mono (Cert.RefLine.run m' g') fun r hr c => ?_⟩
  obtain ⟨h0, h1, h2, ha⟩ := hr.1 c
  obtain ⟨a0, a1, a2, a3⟩ := hagree c
  refine ⟨h0.trans ?_, h1.trans ?_, h2.trans ?_, ha⟩
  · exact (congr (congr (congr (congrArg Cert.RefLine.result0 a0) a1) a2) a3).trans (Cert.Spec.value_loss m g c (hfin c)).symm
  · exact (congr (congr (congrArg Cert.RefLine.result1 a0) a2) a3).trans (Cert.Spec.value_fg m g c).symm
  · exact (congr (congr (congrArg Cert.RefLine.result2 a1) a2) a3).trans (Cert.Spec.value_bg m g c).symm

/-- Every claim of this certificate. -/
theorem claim : Cert.Claim := ⟨Cert.Kernel.Gen.facts, Cert.KernelIdeal.Gen.facts, Cert.ReferenceIdeal.Gen.facts,
  Cert.Spec.finite_bg_facts, fun m g _ => Cert.Kernel.Gen.frame m g, fun m g _ => Cert.KernelIdeal.Gen.frame m g,
  fun m g _ => Cert.KernelIdeal.Gen.frame m g, frame_reference, fun m g _ => frame_reference m g trivial, trivial,
  values Cert.Spec.finite_bg_facts⟩

end Cert.Proof

end
